-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4)
      ∧ r.2.mem ((c.tc : Thread Cert.KernelMid.nD Cert.KernelMid.τ).loc Cert.KernelMid.main_arg5) = m ((c.tc : Thread Cert.KernelMid.nD Cert.KernelMid.τ).loc Cert.KernelMid.main_arg5)
      ∧ r.2.mem ((c.tc : Thread Cert.KernelMid.nD Cert.KernelMid.τ).loc Cert.KernelMid.main_arg6) = m ((c.tc : Thread Cert.KernelMid.nD Cert.KernelMid.τ).loc Cert.KernelMid.main_arg6)
      ∧ r.2.mem ((c.tc : Thread Cert.KernelMid.nD Cert.KernelMid.τ).loc Cert.KernelMid.main_arg7) = m ((c.tc : Thread Cert.KernelMid.nD Cert.KernelMid.τ).loc Cert.KernelMid.main_arg7)
      ∧ r.2.mem ((c.tc : Thread Cert.KernelMid.nD Cert.KernelMid.τ).loc Cert.KernelMid.main_arg8) = m ((c.tc : Thread Cert.KernelMid.nD Cert.KernelMid.τ).loc Cert.KernelMid.main_arg8))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
      ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7)
      ∧ r.2.mem ((c.tc : Thread Cert.KernelMidIdeal.nD Cert.KernelMidIdeal.τ).loc Cert.KernelMidIdeal.main_arg8) = m ((c.tc : Thread Cert.KernelMidIdeal.nD Cert.KernelMidIdeal.τ).loc Cert.KernelMidIdeal.main_arg8))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5)
      ∧ r.2.mem ((c.tc : Thread Cert.ReferenceMidIdeal.nD Cert.ReferenceMidIdeal.τ).loc Cert.ReferenceMidIdeal.main_arg6) = m ((c.tc : Thread Cert.ReferenceMidIdeal.nD Cert.ReferenceMidIdeal.τ).loc Cert.ReferenceMidIdeal.main_arg6)
      ∧ r.2.mem ((c.tc : Thread Cert.ReferenceMidIdeal.nD Cert.ReferenceMidIdeal.τ).loc Cert.ReferenceMidIdeal.main_arg7) = m ((c.tc : Thread Cert.ReferenceMidIdeal.nD Cert.ReferenceMidIdeal.τ).loc Cert.ReferenceMidIdeal.main_arg7)
      ∧ r.2.mem ((c.tc : Thread Cert.ReferenceMidIdeal.nD Cert.ReferenceMidIdeal.τ).loc Cert.ReferenceMidIdeal.main_arg8) = m ((c.tc : Thread Cert.ReferenceMidIdeal.nD Cert.ReferenceMidIdeal.τ).loc Cert.ReferenceMidIdeal.main_arg8))
      ∧ r.2.sem = fun _ => 0)

def preserves_Kernel_KernelIdeal : Prop :=
  IdealRules.named_const.Statement Cert.KernelIdeal.κ "slope5" .f32 0x3E38AA3B#32 (((1 / 8) * (Real.log 2)⁻¹ : ℝ) : EReal)
  ∧ IdealRules.named_const.Statement Cert.KernelIdeal.κ "far" .f32 0x7149F2CA#32 ⊤
  ∧ IdealRules.named_const.Statement Cert.KernelIdeal.κ "slope0" .f32 0x3F8293EE#32 (((11863283 / 16777216) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "slope1" .f32 0x3F38AA3B#32 (((1 / 2) * (Real.log 2)⁻¹ : ℝ) : EReal)
  ∧ IdealRules.named_const.Statement Cert.KernelIdeal.κ "slope2" .f32 0x3F0293EE#32 (((11863283 / 33554432) * (Real.log 2)⁻¹ : ℝ) : EReal)
  ∧ IdealRules.named_const.Statement Cert.KernelIdeal.κ "slope3" .f32 0x3EB8AA3B#32 (((1 / 4) * (Real.log 2)⁻¹ : ℝ) : EReal)
  ∧ IdealRules.named_const.Statement Cert.KernelIdeal.κ "slope4" .f32 0x3E8293EE#32 (((11863283 / 67108864) * (Real.log 2)⁻¹ : ℝ) : EReal)
  ∧ IdealRules.named_const.Statement Cert.KernelIdeal.κ "slope6" .f32 0x3E0293EE#32 (((11863283 / 134217728) * (Real.log 2)⁻¹ : ℝ) : EReal)
  ∧ IdealRules.named_const.Statement Cert.KernelIdeal.κ "slope7" .f32 0x3DB8AA3B#32 (((1 / 16) * (Real.log 2)⁻¹ : ℝ) : EReal)
  ∧ IdealRules.named_const.Statement Cert.KernelIdeal.κ "slope8" .f32 0x3D8293EE#32 (((11863283 / 268435456) * (Real.log 2)⁻¹ : ℝ) : EReal)
  ∧ IdealRules.named_const.Statement Cert.KernelIdeal.κ "slope9" .f32 0x3D38AA3B#32 (((1 / 32) * (Real.log 2)⁻¹ : ℝ) : EReal)
  ∧ IdealRules.named_const.Statement Cert.KernelIdeal.κ "slope10" .f32 0x3D0293EE#32 (((11863283 / 536870912) * (Real.log 2)⁻¹ : ℝ) : EReal)
  ∧ IdealRules.named_const.Statement Cert.KernelIdeal.κ "slope11" .f32 0x3CB8AA3B#32 (((1 / 64) * (Real.log 2)⁻¹ : ℝ) : EReal)
  ∧ IdealRules.named_const.Statement Cert.KernelIdeal.κ "slope12" .f32 0x3C8293EE#32 (((11863283 / 1073741824) * (Real.log 2)⁻¹ : ℝ) : EReal)
  ∧ IdealRules.named_const.Statement Cert.KernelIdeal.κ "slope13" .f32 0x3C38AA3B#32 (((1 / 128) * (Real.log 2)⁻¹ : ℝ) : EReal)
  ∧ IdealRules.named_const.Statement Cert.KernelIdeal.κ "slope14" .f32 0x3C0293EE#32 (((11863283 / 2147483648) * (Real.log 2)⁻¹ : ℝ) : EReal)
  ∧ IdealRules.named_const.Statement Cert.KernelIdeal.κ "slope15" .f32 0x3BB8AA3B#32 (((1 / 256) * (Real.log 2)⁻¹ : ℝ) : EReal)

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v8_0)) (v1 : (c : Dev Cert.KernelInIdeal.nD) → Buf (Elt Ideal) ((c.tc : Thread Cert.KernelInIdeal.nD Cert.KernelInIdeal.τ).loc Cert.KernelInIdeal.main_v8_1)) (v2 : (c : Dev Cert.KernelInIdeal.nD) → Buf (Elt Ideal) ((c.tc : Thread Cert.KernelInIdeal.nD Cert.KernelInIdeal.τ).loc Cert.KernelInIdeal.main_v8_2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v8_0) = v0 c
          ∧ r.2.mem ((c.tc : Thread Cert.KernelInIdeal.nD Cert.KernelInIdeal.τ).loc Cert.KernelInIdeal.main_v8_1) = v1 c
          ∧ r.2.mem ((c.tc : Thread Cert.KernelInIdeal.nD Cert.KernelInIdeal.τ).loc Cert.KernelInIdeal.main_v8_2) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v21) = v0 c
          ∧ r.2.mem ((c.tc : Thread Cert.ReferenceInIdeal.nD Cert.ReferenceInIdeal.τ).loc Cert.ReferenceInIdeal.main_v22) = v1 c
          ∧ r.2.mem ((c.tc : Thread Cert.ReferenceInIdeal.nD Cert.ReferenceInIdeal.τ).loc Cert.ReferenceInIdeal.main_v23) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v5)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v5) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v27) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)
      ∧ m' ((c.tc : Thread Cert.ReferenceMidIdeal.nD Cert.ReferenceMidIdeal.τ).loc Cert.ReferenceMidIdeal.main_arg5) = m ((c.tc : Thread Cert.KernelMidIdeal.nD Cert.KernelMidIdeal.τ).loc Cert.KernelMidIdeal.main_arg5)
      ∧ m' ((c.tc : Thread Cert.ReferenceMidIdeal.nD Cert.ReferenceMidIdeal.τ).loc Cert.ReferenceMidIdeal.main_arg6) = m ((c.tc : Thread Cert.KernelMidIdeal.nD Cert.KernelMidIdeal.τ).loc Cert.KernelMidIdeal.main_arg6)
      ∧ m' ((c.tc : Thread Cert.ReferenceMidIdeal.nD Cert.ReferenceMidIdeal.τ).loc Cert.ReferenceMidIdeal.main_arg7) = m ((c.tc : Thread Cert.KernelMidIdeal.nD Cert.KernelMidIdeal.τ).loc Cert.KernelMidIdeal.main_arg7)
      ∧ m' ((c.tc : Thread Cert.ReferenceMidIdeal.nD Cert.ReferenceMidIdeal.τ).loc Cert.ReferenceMidIdeal.main_arg8) = m ((c.tc : Thread Cert.KernelMidIdeal.nD Cert.KernelMidIdeal.τ).loc Cert.KernelMidIdeal.main_arg8)) →
    ∃ (v0 : (c : Dev Cert.KernelMidIdeal.nD) → Buf (Elt Ideal) ((c.tc : Thread Cert.KernelMidIdeal.nD Cert.KernelMidIdeal.τ).loc Cert.KernelMidIdeal.main_v26_0)) (v1 : (c : Dev Cert.KernelMidIdeal.nD) → Buf (Elt Ideal) ((c.tc : Thread Cert.KernelMidIdeal.nD Cert.KernelMidIdeal.τ).loc Cert.KernelMidIdeal.main_v26_6)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v26_0) = v0 c
          ∧ r.2.mem ((c.tc : Thread Cert.KernelMidIdeal.nD Cert.KernelMidIdeal.τ).loc Cert.KernelMidIdeal.main_v26_6) = v1 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
          ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
          ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6)
          ∧ r.2.mem ((c.tc : Thread Cert.KernelMidIdeal.nD Cert.KernelMidIdeal.τ).loc Cert.KernelMidIdeal.main_arg7) = m ((c.tc : Thread Cert.KernelMidIdeal.nD Cert.KernelMidIdeal.τ).loc Cert.KernelMidIdeal.main_arg7)
          ∧ r.2.mem ((c.tc : Thread Cert.KernelMidIdeal.nD Cert.KernelMidIdeal.τ).loc Cert.KernelMidIdeal.main_arg8) = m ((c.tc : Thread Cert.KernelMidIdeal.nD Cert.KernelMidIdeal.τ).loc Cert.KernelMidIdeal.main_arg8))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v7) = v0 c
          ∧ r.2.mem ((c.tc : Thread Cert.ReferenceMidIdeal.nD Cert.ReferenceMidIdeal.τ).loc Cert.ReferenceMidIdeal.main_v25) = v1 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4)
          ∧ r.2.mem ((c.tc : Thread Cert.ReferenceMidIdeal.nD Cert.ReferenceMidIdeal.τ).loc Cert.ReferenceMidIdeal.main_arg5) = m' ((c.tc : Thread Cert.ReferenceMidIdeal.nD Cert.ReferenceMidIdeal.τ).loc Cert.ReferenceMidIdeal.main_arg5)
          ∧ r.2.mem ((c.tc : Thread Cert.ReferenceMidIdeal.nD Cert.ReferenceMidIdeal.τ).loc Cert.ReferenceMidIdeal.main_arg6) = m' ((c.tc : Thread Cert.ReferenceMidIdeal.nD Cert.ReferenceMidIdeal.τ).loc Cert.ReferenceMidIdeal.main_arg6)
          ∧ r.2.mem ((c.tc : Thread Cert.ReferenceMidIdeal.nD Cert.ReferenceMidIdeal.τ).loc Cert.ReferenceMidIdeal.main_arg7) = m' ((c.tc : Thread Cert.ReferenceMidIdeal.nD Cert.ReferenceMidIdeal.τ).loc Cert.ReferenceMidIdeal.main_arg7)
          ∧ r.2.mem ((c.tc : Thread Cert.ReferenceMidIdeal.nD Cert.ReferenceMidIdeal.τ).loc Cert.ReferenceMidIdeal.main_arg8) = m' ((c.tc : Thread Cert.ReferenceMidIdeal.nD Cert.ReferenceMidIdeal.τ).loc Cert.ReferenceMidIdeal.main_arg8))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelMid : Cert.KernelMid.Facts) (hKernelMidIdeal : Cert.KernelMidIdeal.Facts) (hReferenceMidIdeal : Cert.ReferenceMidIdeal.Facts) (hPre_weights_finite : Cert.Pre_weights_finite.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ preserves_Kernel_KernelIdeal
    ∧ algebraic_KernelIdeal_ReferenceIdeal_pre_weights_finite (hKernelIdeal := hKernelIdeal) (hReferenceIdeal := hReferenceIdeal) (hPre_weights_finite := hPre_weights_finite)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelMid_KernelMidIdeal
    ∧ algebraic_KernelMidIdeal_ReferenceMidIdeal (hKernelMidIdeal := hKernelMidIdeal) (hReferenceMidIdeal := hReferenceMidIdeal)
-- ==== Pre_weights_finite.lean ====
abbrev S2x16640x1024 : Shape := ⟨3, ![2, 16640, 1024]⟩
abbrev S2x16640x256 : Shape := ⟨3, ![2, 16640, 256]⟩
abbrev S16 : Shape := ⟨1, ![16]⟩
abbrev S1x64 : Shape := ⟨2, ![1, 64]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S2x16640x1024 .bf16) (main_arg1 : FVec F S2x16640x256 .bf16) (main_arg2 : FVec F S2x16640x1024 .bf16) (main_arg3 : FVec F S16 .f32) (main_arg4 : FVec F S1x64 .f32) (main_arg5 : FVec F S1x64 .f32) : IVec S_ 1 :=
  let main_v0 : FVec F S1x64 .f32 := Host.absf main_arg4
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S1x64 .f32 := Host.absf main_arg5
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_cst_2 : FVec F S_ .f32 := constant S_ .f32 0x7F800000#32
  let main_v9 : FVec F S16 .f32 := broadcastInDim S16 ![] bcast_S_S16 main_cst_2
  let main_v10 : IVec S16 1 := cmpf .olt main_arg3 main_v9
  let main_c_3 : IVec S_ 1 := constantI S_ 1 1#1
  let main_v11 : IVec S_ 1 := (fun x v => Host.reduce IntOp.andi x v reducesTo_S16_S_d0 h_S_) main_v10 main_c_3
  let main_v12 : IVec S_ 1 := andi main_v8 main_v11
  main_v12
-- ==== Kernel.lean ====
abbrev S2x16640x1024 : Shape := ⟨3, ![2, 16640, 1024]⟩
abbrev S2x16640x256 : Shape := ⟨3, ![2, 16640, 256]⟩
abbrev S16 : Shape := ⟨1, ![16]⟩
abbrev S1x64 : Shape := ⟨2, ![1, 64]⟩
abbrev S64x1 : Shape := ⟨2, ![64, 1]⟩
abbrev S64x128 : Shape := ⟨2, ![64, 128]⟩
abbrev S1x640x1024 : Shape := ⟨3, ![1, 640, 1024]⟩
abbrev S1x16x256 : Shape := ⟨3, ![1, 16, 256]⟩
abbrev S1x128x256 : Shape := ⟨3, ![1, 128, 256]⟩
abbrev S1x640x256 : Shape := ⟨3, ![1, 640, 256]⟩
abbrev S16x128 : Shape := ⟨2, ![16, 128]⟩
abbrev S128x128 : Shape := ⟨2, ![128, 128]⟩
abbrev S272x128 : Shape := ⟨2, ![272, 128]⟩
abbrev S1x128x64 : Shape := ⟨3, ![1, 128, 64]⟩
abbrev S128x64 : Shape := ⟨2, ![128, 64]⟩
abbrev S1x16x64 : Shape := ⟨3, ![1, 16, 64]⟩
abbrev S16x64 : Shape := ⟨2, ![16, 64]⟩
abbrev S272x64 : Shape := ⟨2, ![272, 64]⟩
abbrev S272 : Shape := ⟨1, ![272]⟩
abbrev S272x1 : Shape := ⟨2, ![272, 1]⟩
abbrev S1x128x512 : Shape := ⟨3, ![1, 128, 512]⟩
abbrev S128x512 : Shape := ⟨2, ![128, 512]⟩
abbrev S512x128 : Shape := ⟨2, ![512, 128]⟩
abbrev S128 : Shape := ⟨1, ![128]⟩
abbrev S1x128 : Shape := ⟨2, ![1, 128]⟩
abbrev S64x1024 : Shape := ⟨2, ![64, 1024]⟩
abbrev S272x1024 : Shape := ⟨2, ![272, 1024]⟩
abbrev S1 : Shape := ⟨1, ![1]⟩

abbrev nBuf : Space → Nat
  | .hbm => 9
  | .vmem => 14
  | .smem => 1
  | _ => 0

abbrev bufTy : (tb : Table) → Fin (tcTables nBuf tb) → BufTy
  | .hbm, ⟨0, _⟩ => ⟨S2x16640x1024, .bf16⟩
  | .hbm, ⟨1, _⟩ => ⟨S2x16640x256, .bf16⟩
  | .hbm, ⟨2, _⟩ => ⟨S2x16640x1024, .bf16⟩
  | .hbm, ⟨3, _⟩ => ⟨S16, .f32⟩
  | .hbm, ⟨4, _⟩ => ⟨S1x64, .f32⟩
  | .hbm, ⟨5, _⟩ => ⟨S1x64, .f32⟩
  | .hbm, ⟨6, _⟩ => ⟨S64x1, .f32⟩
  | .hbm, ⟨7, _⟩ => ⟨S64x128, .f32⟩
  | .hbm, ⟨8, _⟩ => ⟨S2x16640x1024, .bf16⟩
  | .local _ .vmem, ⟨0, _⟩ => ⟨S1x640x1024, .bf16⟩
  | .local _ .vmem, ⟨1, _⟩ => ⟨S1x640x1024, .bf16⟩
  | .local _ .vmem, ⟨2, _⟩ => ⟨S1x16x256, .bf16⟩
  | .local _ .vmem, ⟨3, _⟩ => ⟨S1x16x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x640x256, .bf16⟩
  | .local _ .vmem, ⟨7, _⟩ => ⟨S1x640x256, .bf16⟩
  | .local _ .vmem, ⟨8, _⟩ => ⟨S1x640x1024, .bf16⟩
  | .local _ .vmem, ⟨9, _⟩ => ⟨S1x640x1024, .bf16⟩
  | .local _ .vmem, ⟨10, _⟩ => ⟨S64x128, .f32⟩
  | .local _ .vmem, ⟨11, _⟩ => ⟨S1x64, .f32⟩
  | .local _ .vmem, ⟨12, _⟩ => ⟨S1x640x1024, .bf16⟩
  | .local _ .vmem, ⟨13, _⟩ => ⟨S1x640x1024, .bf16⟩
  | .local _ .smem, ⟨0, _⟩ => ⟨S16, .f32⟩
  | _, _ => ⟨S2x16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 26], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let c0_i32 : BitVec 32 := 0#32
  let c0_i32_0 : BitVec 32 := 0#32
  ![arg0.toNat, c15_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg1 c5_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x640x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x640x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "far" => some ⊤
  | "log2e" => some (((Real.log 2)⁻¹ : ℝ) : EReal)
  | "slope0" => some (((11863283 / 16777216) * (Real.log 2)⁻¹ : ℝ) : EReal)
  | "slope1" => some (((1 / 2) * (Real.log 2)⁻¹ : ℝ) : EReal)
  | "slope10" => some (((11863283 / 536870912) * (Real.log 2)⁻¹ : ℝ) : EReal)
  | "slope11" => some (((1 / 64) * (Real.log 2)⁻¹ : ℝ) : EReal)
  | "slope12" => some (((11863283 / 1073741824) * (Real.log 2)⁻¹ : ℝ) : EReal)
  | "slope13" => some (((1 / 128) * (Real.log 2)⁻¹ : ℝ) : EReal)
  | "slope14" => some (((11863283 / 2147483648) * (Real.log 2)⁻¹ : ℝ) : EReal)
  | "slope15" => some (((1 / 256) * (Real.log 2)⁻¹ : ℝ) : EReal)
  | "slope2" => some (((11863283 / 33554432) * (Real.log 2)⁻¹ : ℝ) : EReal)
  | "slope3" => some (((1 / 4) * (Real.log 2)⁻¹ : ℝ) : EReal)
  | "slope4" => some (((11863283 / 67108864) * (Real.log 2)⁻¹ : ℝ) : EReal)
  | "slope5" => some (((1 / 8) * (Real.log 2)⁻¹ : ℝ) : EReal)
  | "slope6" => some (((11863283 / 134217728) * (Real.log 2)⁻¹ : ℝ) : EReal)
  | "slope7" => some (((1 / 16) * (Real.log 2)⁻¹ : ℝ) : EReal)
  | "slope8" => some (((11863283 / 268435456) * (Real.log 2)⁻¹ : ℝ) : EReal)
  | "slope9" => some (((1 / 32) * (Real.log 2)⁻¹ : ℝ) : EReal)
  | _ => none
-- ==== ReferenceIdeal.lean ====
abbrev S2x16640x1024 : Shape := ⟨3, ![2, 16640, 1024]⟩
abbrev S2x16640x256 : Shape := ⟨3, ![2, 16640, 256]⟩
abbrev S16 : Shape := ⟨1, ![16]⟩
abbrev S1x64 : Shape := ⟨2, ![1, 64]⟩
abbrev S2x16400x1024 : Shape := ⟨3, ![2, 16400, 1024]⟩
abbrev S2x16400x256 : Shape := ⟨3, ![2, 16400, 256]⟩
abbrev S2x16400x16x64 : Shape := ⟨4, ![2, 16400, 16, 64]⟩
abbrev S64 : Shape := ⟨1, ![64]⟩
abbrev S_ : Shape := ⟨0, ![]⟩
abbrev S2x16400x16 : Shape := ⟨3, ![2, 16400, 16]⟩
abbrev S2x16400x16x1 : Shape := ⟨4, ![2, 16400, 16, 1]⟩
abbrev S1x1x1x64 : Shape := ⟨4, ![1, 1, 1, 64]⟩
abbrev S2x16400x128 : Shape := ⟨3, ![2, 16400, 128]⟩
abbrev S2x16400x2x64 : Shape := ⟨4, ![2, 16400, 2, 64]⟩
abbrev S2x16400x2 : Shape := ⟨3, ![2, 16400, 2]⟩
abbrev S2x16400x2x1 : Shape := ⟨4, ![2, 16400, 2, 1]⟩
abbrev S2x16512x16x64 : Shape := ⟨4, ![2, 16512, 16, 64]⟩
abbrev S2x129x128x2x8x64 : Shape := ⟨6, ![2, 129, 128, 2, 8, 64]⟩
abbrev S2x16512x2x64 : Shape := ⟨4, ![2, 16512, 2, 64]⟩
abbrev S2x129x128x2x64 : Shape := ⟨5, ![2, 129, 128, 2, 64]⟩
abbrev S2x130x128x2x64 : Shape := ⟨5, ![2, 130, 128, 2, 64]⟩
abbrev S2x129x256x2x64 : Shape := ⟨5, ![2, 129, 256, 2, 64]⟩
abbrev S2x16x2x64 : Shape := ⟨4, ![2, 16, 2, 64]⟩
abbrev S2x129x2x256x128x8 : Shape := ⟨6, ![2, 129, 2, 256, 128, 8]⟩
abbrev S2x129x2x8x128x256 : Shape := ⟨6, ![2, 129, 2, 8, 128, 256]⟩
abbrev S2x2x16x129x128x8 : Shape := ⟨6, ![2, 2, 16, 129, 128, 8]⟩
abbrev S2x129x2x8x128x16 : Shape := ⟨6, ![2, 129, 2, 8, 128, 16]⟩
abbrev S16512 : Shape := ⟨1, ![16512]⟩
abbrev S129x128 : Shape := ⟨2, ![129, 128]⟩
abbrev S129x256 : Shape := ⟨2, ![129, 256]⟩
abbrev S129x128x1 : Shape := ⟨3, ![129, 128, 1]⟩
abbrev S129x1x256 : Shape := ⟨3, ![129, 1, 256]⟩
abbrev S129x128x256 : Shape := ⟨3, ![129, 128, 256]⟩
abbrev S1x1x16 : Shape := ⟨3, ![1, 1, 16]⟩
abbrev S129x128x16 : Shape := ⟨3, ![129, 128, 16]⟩
abbrev S1x1x2x8x1x1 : Shape := ⟨6, ![1, 1, 2, 8, 1, 1]⟩
abbrev S1x129x1x1x128x256 : Shape := ⟨6, ![1, 129, 1, 1, 128, 256]⟩
abbrev S1x129x2x8x128x256 : Shape := ⟨6, ![1, 129, 2, 8, 128, 256]⟩
abbrev S1x129x1x1x128x16 : Shape := ⟨6, ![1, 129, 1, 1, 128, 16]⟩
abbrev S1x129x2x8x128x16 : Shape := ⟨6, ![1, 129, 2, 8, 128, 16]⟩
abbrev S2x129x2x8x128x1 : Shape := ⟨6, ![2, 129, 2, 8, 128, 1]⟩
abbrev S2x129x2x8x128x273 : Shape := ⟨6, ![2, 129, 2, 8, 128, 273]⟩
abbrev S2x129x2x8x128 : Shape := ⟨5, ![2, 129, 2, 8, 128]⟩
abbrev S2x129x2x64x8x128 : Shape := ⟨6, ![2, 129, 2, 64, 8, 128]⟩
abbrev S2x2x64x129x8x128 : Shape := ⟨6, ![2, 2, 64, 129, 8, 128]⟩
abbrev S2x16512x1024 : Shape := ⟨3, ![2, 16512, 1024]⟩

abbrev nBuf : Space → Nat
  | .hbm => 195
  | .vmem => 0
  | .smem => 0
  | _ => 0

abbrev hbmTy0_0 (i : Nat) : BufTy := match i % 128 with
  | 0 => ⟨S2x16640x1024, .bf16⟩
  | 1 => ⟨S2x16640x256, .bf16⟩
  | 2 => ⟨S2x16640x1024, .bf16⟩
  | 3 => ⟨S16, .f32⟩
  | 4 => ⟨S1x64, .f32⟩
  | 5 => ⟨S1x64, .f32⟩
  | 6 => ⟨S16, .f32⟩
  | 7 => ⟨S2x16640x1024, .f32⟩
  | 8 => ⟨S2x16400x1024, .f32⟩
  | 9 => ⟨S2x16640x256, .f32⟩
  | 10 => ⟨S2x16400x256, .f32⟩
  | 11 => ⟨S2x16640x1024, .f32⟩
  | 12 => ⟨S2x16400x1024, .f32⟩
  | 13 => ⟨S2x16400x16x64, .f32⟩
  | 14 => ⟨S64, .f32⟩
  | 15 => ⟨S2x16400x16x64, .f32⟩
  | 16 => ⟨S_, .f32⟩
  | 17 => ⟨S2x16400x16, .f32⟩
  | 18 => ⟨S2x16400x16x1, .f32⟩
  | 19 => ⟨S_, .f32⟩
  | 20 => ⟨S2x16400x16x1, .f32⟩
  | 21 => ⟨S2x16400x16x1, .f32⟩
  | 22 => ⟨S_, .f32⟩
  | 23 => ⟨S2x16400x16x1, .f32⟩
  | 24 => ⟨S2x16400x16x1, .f32⟩
  | 25 => ⟨S2x16400x16x1, .f32⟩
  | 26 => ⟨S2x16400x16x64, .f32⟩
  | 27 => ⟨S2x16400x16x64, .f32⟩
  | 28 => ⟨S1x1x1x64, .f32⟩
  | 29 => ⟨S2x16400x16x64, .f32⟩
  | 30 => ⟨S2x16400x16x64, .f32⟩
  | 31 => ⟨S2x16400x128, .f32⟩
  | 32 => ⟨S2x16400x2x64, .f32⟩
  | 33 => ⟨S64, .f32⟩
  | 34 => ⟨S2x16400x2x64, .f32⟩
  | 35 => ⟨S_, .f32⟩
  | 36 => ⟨S2x16400x2, .f32⟩
  | 37 => ⟨S2x16400x2x1, .f32⟩
  | 38 => ⟨S_, .f32⟩
  | 39 => ⟨S2x16400x2x1, .f32⟩
  | 40 => ⟨S2x16400x2x1, .f32⟩
  | 41 => ⟨S_, .f32⟩
  | 42 => ⟨S2x16400x2x1, .f32⟩
  | 43 => ⟨S2x16400x2x1, .f32⟩
  | 44 => ⟨S2x16400x2x1, .f32⟩
  | 45 => ⟨S2x16400x2x64, .f32⟩
  | 46 => ⟨S2x16400x2x64, .f32⟩
  | 47 => ⟨S1x1x1x64, .f32⟩
  | 48 => ⟨S2x16400x2x64, .f32⟩
  | 49 => ⟨S2x16400x2x64, .f32⟩
  | 50 => ⟨S2x16400x128, .f32⟩
  | 51 => ⟨S2x16400x2x64, .f32⟩
  | 52 => ⟨S_, .i32⟩
  | 53 => ⟨S_, .f32⟩
  | 54 => ⟨S2x16512x16x64, .f32⟩
  | 55 => ⟨S2x129x128x2x8x64, .f32⟩
  | 56 => ⟨S_, .i32⟩
  | 57 => ⟨S_, .f32⟩
  | 58 => ⟨S2x16512x2x64, .f32⟩
  | 59 => ⟨S2x129x128x2x64, .f32⟩
  | 60 => ⟨S_, .i32⟩
  | 61 => ⟨S_, .f32⟩
  | 62 => ⟨S2x16512x2x64, .f32⟩
  | 63 => ⟨S2x129x128x2x64, .f32⟩
  | 64 => ⟨S_, .i32⟩
  | 65 => ⟨S_, .f32⟩
  | 66 => ⟨S2x130x128x2x64, .f32⟩
  | 67 => ⟨S2x129x128x2x64, .f32⟩
  | 68 => ⟨S2x129x256x2x64, .f32⟩
  | 69 => ⟨S_, .i32⟩
  | 70 => ⟨S_, .f32⟩
  | 71 => ⟨S2x130x128x2x64, .f32⟩
  | 72 => ⟨S2x129x128x2x64, .f32⟩
  | 73 => ⟨S2x129x256x2x64, .f32⟩
  | 74 => ⟨S2x16x2x64, .f32⟩
  | 75 => ⟨S2x16x2x64, .f32⟩
  | 76 => ⟨S2x129x2x256x128x8, .f32⟩
  | 77 => ⟨S2x129x2x8x128x256, .f32⟩
  | 78 => ⟨S_, .f32⟩
  | 79 => ⟨S2x129x2x8x128x256, .f32⟩
  | 80 => ⟨S2x129x2x8x128x256, .f32⟩
  | 81 => ⟨S2x2x16x129x128x8, .f32⟩
  | 82 => ⟨S2x129x2x8x128x16, .f32⟩
  | 83 => ⟨S_, .f32⟩
  | 84 => ⟨S2x129x2x8x128x16, .f32⟩
  | 85 => ⟨S2x129x2x8x128x16, .f32⟩
  | 86 => ⟨S16512, .i32⟩
  | 87 => ⟨S129x128, .i32⟩
  | 88 => ⟨S_, .i32⟩
  | 89 => ⟨S129x128, .i32⟩
  | 90 => ⟨S129x128, .i32⟩
  | 91 => ⟨S_, .i32⟩
  | 92 => ⟨S129x128, .i32⟩
  | 93 => ⟨S129x128, .i32⟩
  | 94 => ⟨S129x256, .i32⟩
  | 95 => ⟨S16, .i32⟩
  | 96 => ⟨S129x128x1, .i32⟩
  | 97 => ⟨S129x1x256, .i32⟩
  | 98 => ⟨S129x128x256, .i32⟩
  | 99 => ⟨S129x128x256, .i32⟩
  | 100 => ⟨S129x128x256, .i32⟩
  | 101 => ⟨S129x1x256, .i32⟩
  | 102 => ⟨S_, .i32⟩
  | 103 => ⟨S129x1x256, .i32⟩
  | 104 => ⟨S129x1x256, .i1⟩
  | 105 => ⟨S_, .i32⟩
  | 106 => ⟨S129x128x256, .i32⟩
  | 107 => ⟨S129x128x256, .i1⟩
  | 108 => ⟨S129x128x256, .i1⟩
  | 109 => ⟨S129x128x256, .i1⟩
  | 110 => ⟨S_, .i32⟩
  | 111 => ⟨S129x128x256, .i32⟩
  | 112 => ⟨S129x128x256, .i1⟩
  | 113 => ⟨S129x128x256, .i1⟩
  | 114 => ⟨S129x128x1, .i32⟩
  | 115 => ⟨S1x1x16, .i32⟩
  | 116 => ⟨S129x128x16, .i32⟩
  | 117 => ⟨S129x128x16, .i32⟩
  | 118 => ⟨S129x128x16, .i32⟩
  | 119 => ⟨S_, .i32⟩
  | 120 => ⟨S129x128x16, .i32⟩
  | 121 => ⟨S129x128x16, .i1⟩
  | 122 => ⟨S1x1x2x8x1x1, .f32⟩
  | 123 => ⟨S1x129x1x1x128x256, .i1⟩
  | 124 => ⟨S_, .i32⟩
  | 125 => ⟨S129x128x256, .i32⟩
  | 126 => ⟨S129x128x256, .i32⟩
  | 127 => ⟨S129x128x256, .f32⟩
  | _ => ⟨S2x16640x1024, .bf16⟩

abbrev hbmTy0_1 (i : Nat) : BufTy := match i % 128 with
  | 0 => ⟨S1x129x1x1x128x256, .f32⟩
  | 1 => ⟨S1x129x2x8x128x256, .f32⟩
  | 2 => ⟨S1x129x2x8x128x256, .f32⟩
  | 3 => ⟨S1x129x2x8x128x256, .f32⟩
  | 4 => ⟨S2x129x2x8x128x256, .f32⟩
  | 5 => ⟨S2x129x2x8x128x256, .f32⟩
  | 6 => ⟨S_, .f32⟩
  | 7 => ⟨S_, .f32⟩
  | 8 => ⟨S2x129x2x8x128x256, .i1⟩
  | 9 => ⟨S2x129x2x8x128x256, .f32⟩
  | 10 => ⟨S2x129x2x8x128x256, .f32⟩
  | 11 => ⟨S1x129x1x1x128x16, .i1⟩
  | 12 => ⟨S_, .i32⟩
  | 13 => ⟨S129x128x16, .i32⟩
  | 14 => ⟨S129x128x16, .i32⟩
  | 15 => ⟨S129x128x16, .f32⟩
  | 16 => ⟨S1x129x1x1x128x16, .f32⟩
  | 17 => ⟨S1x129x2x8x128x16, .f32⟩
  | 18 => ⟨S1x129x2x8x128x16, .f32⟩
  | 19 => ⟨S1x129x2x8x128x16, .f32⟩
  | 20 => ⟨S2x129x2x8x128x16, .f32⟩
  | 21 => ⟨S2x129x2x8x128x16, .f32⟩
  | 22 => ⟨S_, .f32⟩
  | 23 => ⟨S_, .f32⟩
  | 24 => ⟨S2x129x2x8x128x16, .i1⟩
  | 25 => ⟨S2x129x2x8x128x16, .f32⟩
  | 26 => ⟨S2x129x2x8x128x16, .f32⟩
  | 27 => ⟨S1x1x2x8x1x1, .f32⟩
  | 28 => ⟨S2x129x2x8x128x1, .f32⟩
  | 29 => ⟨S2x129x2x8x128x273, .f32⟩
  | 30 => ⟨S_, .f32⟩
  | 31 => ⟨S2x129x2x8x128, .f32⟩
  | 32 => ⟨S_, .f32⟩
  | 33 => ⟨S2x129x2x8x128, .f32⟩
  | 34 => ⟨S2x129x2x8x128, .f32⟩
  | 35 => ⟨S2x129x2x8x128x1, .f32⟩
  | 36 => ⟨S2x129x2x8x128x273, .f32⟩
  | 37 => ⟨S2x129x2x8x128x273, .f32⟩
  | 38 => ⟨S2x129x2x8x128x273, .f32⟩
  | 39 => ⟨S_, .f32⟩
  | 40 => ⟨S2x129x2x8x128, .f32⟩
  | 41 => ⟨S2x129x2x8x128x1, .f32⟩
  | 42 => ⟨S2x129x2x8x128x273, .f32⟩
  | 43 => ⟨S2x129x2x8x128x273, .f32⟩
  | 44 => ⟨S2x129x2x8x128x256, .f32⟩
  | 45 => ⟨S2x129x2x8x128x16, .f32⟩
  | 46 => ⟨S2x129x2x64x8x128, .f32⟩
  | 47 => ⟨S2x129x128x2x8x64, .f32⟩
  | 48 => ⟨S2x2x64x129x8x128, .f32⟩
  | 49 => ⟨S2x129x128x2x8x64, .f32⟩
  | 50 => ⟨S2x129x128x2x8x64, .f32⟩
  | 51 => ⟨S2x16512x1024, .f32⟩
  | 52 => ⟨S2x16400x1024, .f32⟩
  | 53 => ⟨S2x16400x1024, .f32⟩
  | 54 => ⟨S2x16400x1024, .f32⟩
  | 55 => ⟨S_, .f32⟩
  | 56 => ⟨S2x16400x1024, .f32⟩
  | 57 => ⟨S2x16400x1024, .f32⟩
  | 58 => ⟨S_, .f32⟩
  | 59 => ⟨S2x16400x1024, .f32⟩
  | 60 => ⟨S2x16400x1024, .f32⟩
  | 61 => ⟨S2x16400x1024, .f32⟩
  | 62 => ⟨S2x16400x1024, .f32⟩
  | 63 => ⟨S_, .i32⟩
  | 64 => ⟨S_, .f32⟩
  | 65 => ⟨S2x16640x1024, .f32⟩
  | 66 => ⟨S2x16640x1024, .bf16⟩
  | _ => ⟨S2x16640x1024, .bf16⟩

abbrev hbmTy (i : Nat) : BufTy := match i / 128 with
  | 0 => hbmTy0_0 i
  | 1 => hbmTy0_1 i
  | _ => ⟨S2x16640x1024, .bf16⟩

abbrev bufTy : (tb : Table) → Fin (tcTables nBuf tb) → BufTy
  | .hbm, ⟨i, _⟩ => hbmTy i
  | _, _ => ⟨S2x16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_call1_v0 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_call2_v0 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_call3_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_call4_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_c_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_16 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_17 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_18 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_19 : Ref sig .tc := ⟨.hbm, 134, rfl⟩
abbrev main_call5_v0 : Ref sig .tc := ⟨.hbm, 135, rfl⟩
abbrev main_call5_v1 : Ref sig .tc := ⟨.hbm, 136, rfl⟩
abbrev main_call5_v2 : Ref sig .tc := ⟨.hbm, 137, rfl⟩
abbrev main_v102 : Ref sig .tc := ⟨.hbm, 138, rfl⟩
abbrev main_v103 : Ref sig .tc := ⟨.hbm, 139, rfl⟩
abbrev main_c_20 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_21 : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_22 : Ref sig .tc := ⟨.hbm, 158, rfl⟩
abbrev main_v117 : Ref sig .tc := ⟨.hbm, 159, rfl⟩
abbrev main_cst_23 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_24 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_call7_v0 : Ref sig .tc := ⟨.hbm, 181, rfl⟩
abbrev main_call7_v1 : Ref sig .tc := ⟨.hbm, 182, rfl⟩
abbrev main_call7_cst : Ref sig .tc := ⟨.hbm, 183, rfl⟩
abbrev main_call7_v2 : Ref sig .tc := ⟨.hbm, 184, rfl⟩
abbrev main_call7_v3 : Ref sig .tc := ⟨.hbm, 185, rfl⟩
abbrev main_call7_cst_0 : Ref sig .tc := ⟨.hbm, 186, rfl⟩
abbrev main_call7_v4 : Ref sig .tc := ⟨.hbm, 187, rfl⟩
abbrev main_call7_v5 : Ref sig .tc := ⟨.hbm, 188, rfl⟩
abbrev main_v137 : Ref sig .tc := ⟨.hbm, 189, rfl⟩
abbrev main_v138 : Ref sig .tc := ⟨.hbm, 190, rfl⟩
abbrev main_c_25 : Ref sig .tc := ⟨.hbm, 191, rfl⟩
abbrev main_call8_v0 : Ref sig .tc := ⟨.hbm, 192, rfl⟩
abbrev main_v139 : Ref sig .tc := ⟨.hbm, 193, rfl⟩
abbrev main_v140 : Ref sig .tc := ⟨.hbm, 194, rfl⟩

abbrev nD : Nat := 1
abbrev τ : Topo := Topo.v7x

variable {F : FTy → Type} [FloatOps F]
-- ==== KernelIn.lean ====
abbrev S2x16384x1024 : Shape := ⟨3, ![2, 16384, 1024]⟩
abbrev S16x1024 : Shape := ⟨2, ![16, 1024]⟩
abbrev S1x1024 : Shape := ⟨2, ![1, 1024]⟩
abbrev S1x1024x2304 : Shape := ⟨3, ![1, 1024, 2304]⟩
abbrev S1x16x1024 : Shape := ⟨3, ![1, 16, 1024]⟩
abbrev S2x16x1024 : Shape := ⟨3, ![2, 16, 1024]⟩
abbrev S_ : Shape := ⟨0, ![]⟩
abbrev S2x240x1024 : Shape := ⟨3, ![2, 240, 1024]⟩
abbrev S2x256x1024 : Shape := ⟨3, ![2, 256, 1024]⟩
abbrev S1024 : Shape := ⟨1, ![1024]⟩
abbrev S1024x2304 : Shape := ⟨2, ![1024, 2304]⟩
abbrev S2x16640x1024 : Shape := ⟨3, ![2, 16640, 1024]⟩
abbrev S2x16640x256 : Shape := ⟨3, ![2, 16640, 256]⟩
abbrev S1x256x1024 : Shape := ⟨3, ![1, 256, 1024]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S1024x256 : Shape := ⟨2, ![1024, 256]⟩
abbrev S256x256 : Shape := ⟨2, ![256, 256]⟩

abbrev nBuf : Space → Nat
  | .hbm => 16
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S16x1024, .f32⟩
  | .hbm, ⟨2, _⟩ => ⟨S1x1024, .f32⟩
  | .hbm, ⟨3, _⟩ => ⟨S1x1024x2304, .f32⟩
  | .hbm, ⟨4, _⟩ => ⟨S1x16x1024, .f32⟩
  | .hbm, ⟨5, _⟩ => ⟨S2x16x1024, .f32⟩
  | .hbm, ⟨6, _⟩ => ⟨S_, .f32⟩
  | .hbm, ⟨7, _⟩ => ⟨S2x240x1024, .f32⟩
  | .hbm, ⟨8, _⟩ => ⟨S2x256x1024, .f32⟩
  | .hbm, ⟨9, _⟩ => ⟨S1024, .f32⟩
  | .hbm, ⟨10, _⟩ => ⟨S1x1024, .f32⟩
  | .hbm, ⟨11, _⟩ => ⟨S1024x2304, .f32⟩
  | .hbm, ⟨12, _⟩ => ⟨S1024x2304, .bf16⟩
  | .hbm, ⟨13, _⟩ => ⟨S2x16640x1024, .bf16⟩
  | .hbm, ⟨14, _⟩ => ⟨S2x16640x256, .bf16⟩
  | .hbm, ⟨15, _⟩ => ⟨S2x16640x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1024x2304, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x1024, .bf16⟩
  | .local _ .vmem, ⟨11, _⟩ => ⟨S1x256x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceInIdeal.lean ====
abbrev S2x16384x1024 : Shape := ⟨3, ![2, 16384, 1024]⟩
abbrev S16x1024 : Shape := ⟨2, ![16, 1024]⟩
abbrev S1x1024 : Shape := ⟨2, ![1, 1024]⟩
abbrev S1x1024x2304 : Shape := ⟨3, ![1, 1024, 2304]⟩
abbrev S1x16x1024 : Shape := ⟨3, ![1, 16, 1024]⟩
abbrev S2x16x1024 : Shape := ⟨3, ![2, 16, 1024]⟩
abbrev S2x16400x1024 : Shape := ⟨3, ![2, 16400, 1024]⟩
abbrev S_ : Shape := ⟨0, ![]⟩
abbrev S2x16400 : Shape := ⟨2, ![2, 16400]⟩
abbrev S2x16400x1 : Shape := ⟨3, ![2, 16400, 1]⟩
abbrev S1024 : Shape := ⟨1, ![1024]⟩
abbrev S1x1x1024 : Shape := ⟨3, ![1, 1, 1024]⟩
abbrev S1024x2304 : Shape := ⟨2, ![1024, 2304]⟩
abbrev S2x16400x2304 : Shape := ⟨3, ![2, 16400, 2304]⟩
abbrev S2x16640x2304 : Shape := ⟨3, ![2, 16640, 2304]⟩
abbrev S2x16640x1024 : Shape := ⟨3, ![2, 16640, 1024]⟩
abbrev S2x16640x256 : Shape := ⟨3, ![2, 16640, 256]⟩

abbrev nBuf : Space → Nat
  | .hbm => 33
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S16x1024, .f32⟩
  | .hbm, ⟨2, _⟩ => ⟨S1x1024, .f32⟩
  | .hbm, ⟨3, _⟩ => ⟨S1x1024x2304, .f32⟩
  | .hbm, ⟨4, _⟩ => ⟨S1x16x1024, .f32⟩
  | .hbm, ⟨5, _⟩ => ⟨S2x16x1024, .f32⟩
  | .hbm, ⟨6, _⟩ => ⟨S2x16400x1024, .f32⟩
  | .hbm, ⟨7, _⟩ => ⟨S2x16400x1024, .f32⟩
  | .hbm, ⟨8, _⟩ => ⟨S_, .f32⟩
  | .hbm, ⟨9, _⟩ => ⟨S2x16400, .f32⟩
  | .hbm, ⟨10, _⟩ => ⟨S2x16400x1, .f32⟩
  | .hbm, ⟨11, _⟩ => ⟨S_, .f32⟩
  | .hbm, ⟨12, _⟩ => ⟨S2x16400x1, .f32⟩
  | .hbm, ⟨13, _⟩ => ⟨S2x16400x1, .f32⟩
  | .hbm, ⟨14, _⟩ => ⟨S_, .f32⟩
  | .hbm, ⟨15, _⟩ => ⟨S2x16400x1, .f32⟩
  | .hbm, ⟨16, _⟩ => ⟨S2x16400x1, .f32⟩
  | .hbm, ⟨17, _⟩ => ⟨S2x16400x1, .f32⟩
  | .hbm, ⟨18, _⟩ => ⟨S2x16400x1024, .f32⟩
  | .hbm, ⟨19, _⟩ => ⟨S2x16400x1024, .f32⟩
  | .hbm, ⟨20, _⟩ => ⟨S1024, .f32⟩
  | .hbm, ⟨21, _⟩ => ⟨S1x1x1024, .f32⟩
  | .hbm, ⟨22, _⟩ => ⟨S2x16400x1024, .f32⟩
  | .hbm, ⟨23, _⟩ => ⟨S2x16400x1024, .f32⟩
  | .hbm, ⟨24, _⟩ => ⟨S1024x2304, .f32⟩
  | .hbm, ⟨25, _⟩ => ⟨S2x16400x2304, .f32⟩
  | .hbm, ⟨26, _⟩ => ⟨S_, .i32⟩
  | .hbm, ⟨27, _⟩ => ⟨S_, .f32⟩
  | .hbm, ⟨28, _⟩ => ⟨S2x16640x2304, .f32⟩
  | .hbm, ⟨29, _⟩ => ⟨S2x16640x2304, .bf16⟩
  | .hbm, ⟨30, _⟩ => ⟨S2x16640x1024, .bf16⟩
  | .hbm, ⟨31, _⟩ => ⟨S2x16640x256, .bf16⟩
  | .hbm, ⟨32, _⟩ => ⟨S2x16640x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== KernelOut.lean ====
abbrev S2x16640x1024 : Shape := ⟨3, ![2, 16640, 1024]⟩
abbrev S2x16640x2048 : Shape := ⟨3, ![2, 16640, 2048]⟩
abbrev S1x128 : Shape := ⟨2, ![1, 128]⟩
abbrev S1x2048x1024 : Shape := ⟨3, ![1, 2048, 1024]⟩
abbrev S128 : Shape := ⟨1, ![128]⟩
abbrev S2048x1024 : Shape := ⟨2, ![2048, 1024]⟩
abbrev S_ : Shape := ⟨0, ![]⟩
abbrev S2048x1280 : Shape := ⟨2, ![2048, 1280]⟩
abbrev S2x16384x1024 : Shape := ⟨3, ![2, 16384, 1024]⟩
abbrev S1x256x1024 : Shape := ⟨3, ![1, 256, 1024]⟩
abbrev S1x256x2048 : Shape := ⟨3, ![1, 256, 2048]⟩
abbrev S256x1024 : Shape := ⟨2, ![256, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 13
  | .vmem => 10
  | .smem => 0
  | _ => 0

abbrev bufTy : (tb : Table) → Fin (tcTables nBuf tb) → BufTy
  | .hbm, ⟨0, _⟩ => ⟨S2x16640x1024, .f32⟩
  | .hbm, ⟨1, _⟩ => ⟨S2x16640x2048, .bf16⟩
  | .hbm, ⟨2, _⟩ => ⟨S2x16640x2048, .bf16⟩
  | .hbm, ⟨3, _⟩ => ⟨S1x128, .f32⟩
  | .hbm, ⟨4, _⟩ => ⟨S1x2048x1024, .f32⟩
  | .hbm, ⟨5, _⟩ => ⟨S128, .f32⟩
  | .hbm, ⟨6, _⟩ => ⟨S1x128, .f32⟩
  | .hbm, ⟨7, _⟩ => ⟨S2048x1024, .f32⟩
  | .hbm, ⟨8, _⟩ => ⟨S2048x1024, .bf16⟩
  | .hbm, ⟨9, _⟩ => ⟨S_, .i32⟩
  | .hbm, ⟨10, _⟩ => ⟨S_, .bf16⟩
  | .hbm, ⟨11, _⟩ => ⟨S2048x1280, .bf16⟩
  | .hbm, ⟨12, _⟩ => ⟨S2x16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x128, .f32⟩
  | .local _ .vmem, ⟨7, _⟩ => ⟨S2048x1280, .bf16⟩
  | .local _ .vmem, ⟨8, _⟩ => ⟨S1x256x1024, .f32⟩
  | .local _ .vmem, ⟨9, _⟩ => ⟨S1x256x1024, .f32⟩
  | _, _ => ⟨S2x16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceOutIdeal.lean ====
abbrev S2x16640x1024 : Shape := ⟨3, ![2, 16640, 1024]⟩
abbrev S2x16640x2048 : Shape := ⟨3, ![2, 16640, 2048]⟩
abbrev S1x128 : Shape := ⟨2, ![1, 128]⟩
abbrev S1x2048x1024 : Shape := ⟨3, ![1, 2048, 1024]⟩
abbrev S2x16400x1024 : Shape := ⟨3, ![2, 16400, 1024]⟩
abbrev S2x16400x2048 : Shape := ⟨3, ![2, 16400, 2048]⟩
abbrev S2x16400x16x128 : Shape := ⟨4, ![2, 16400, 16, 128]⟩
abbrev S_ : Shape := ⟨0, ![]⟩
abbrev S2x16400x16 : Shape := ⟨3, ![2, 16400, 16]⟩
abbrev S2x16400x16x1 : Shape := ⟨4, ![2, 16400, 16, 1]⟩
abbrev S128 : Shape := ⟨1, ![128]⟩
abbrev S1x1x1x128 : Shape := ⟨4, ![1, 1, 1, 128]⟩
abbrev S2048x1024 : Shape := ⟨2, ![2048, 1024]⟩
abbrev S2x16384x1024 : Shape := ⟨3, ![2, 16384, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x16640x1024, .f32⟩
  | .hbm, ⟨1, _⟩ => ⟨S2x16640x2048, .bf16⟩
  | .hbm, ⟨2, _⟩ => ⟨S2x16640x2048, .bf16⟩
  | .hbm, ⟨3, _⟩ => ⟨S1x128, .f32⟩
  | .hbm, ⟨4, _⟩ => ⟨S1x2048x1024, .f32⟩
  | .hbm, ⟨5, _⟩ => ⟨S2x16400x1024, .f32⟩
  | .hbm, ⟨6, _⟩ => ⟨S2x16640x2048, .f32⟩
  | .hbm, ⟨7, _⟩ => ⟨S2x16400x2048, .f32⟩
  | .hbm, ⟨8, _⟩ => ⟨S2x16640x2048, .f32⟩
  | .hbm, ⟨9, _⟩ => ⟨S2x16400x2048, .f32⟩
  | .hbm, ⟨10, _⟩ => ⟨S2x16400x16x128, .f32⟩
  | .hbm, ⟨11, _⟩ => ⟨S2x16400x16x128, .f32⟩
  | .hbm, ⟨12, _⟩ => ⟨S_, .f32⟩
  | .hbm, ⟨13, _⟩ => ⟨S2x16400x16, .f32⟩
  | .hbm, ⟨14, _⟩ => ⟨S2x16400x16x1, .f32⟩
  | .hbm, ⟨15, _⟩ => ⟨S_, .f32⟩
  | .hbm, ⟨16, _⟩ => ⟨S2x16400x16x1, .f32⟩
  | .hbm, ⟨17, _⟩ => ⟨S2x16400x16x1, .f32⟩
  | .hbm, ⟨18, _⟩ => ⟨S_, .f32⟩
  | .hbm, ⟨19, _⟩ => ⟨S2x16400x16x1, .f32⟩
  | .hbm, ⟨20, _⟩ => ⟨S2x16400x16x1, .f32⟩
  | .hbm, ⟨21, _⟩ => ⟨S2x16400x16x1, .f32⟩
  | .hbm, ⟨22, _⟩ => ⟨S2x16400x16x128, .f32⟩
  | .hbm, ⟨23, _⟩ => ⟨S2x16400x16x128, .f32⟩
  | .hbm, ⟨24, _⟩ => ⟨S128, .f32⟩
  | .hbm, ⟨25, _⟩ => ⟨S1x1x1x128, .f32⟩
  | .hbm, ⟨26, _⟩ => ⟨S2x16400x16x128, .f32⟩
  | .hbm, ⟨27, _⟩ => ⟨S2x16400x16x128, .f32⟩
  | .hbm, ⟨28, _⟩ => ⟨S2x16400x16x128, .f32⟩
  | .hbm, ⟨29, _⟩ => ⟨S2x16400x16x128, .f32⟩
  | .hbm, ⟨30, _⟩ => ⟨S2x16400x16x128, .f32⟩
  | .hbm, ⟨31, _⟩ => ⟨S_, .f32⟩
  | .hbm, ⟨32, _⟩ => ⟨S2x16400x16x128, .f32⟩
  | .hbm, ⟨33, _⟩ => ⟨S2x16400x16x128, .f32⟩
  | .hbm, ⟨34, _⟩ => ⟨S_, .f32⟩
  | .hbm, ⟨35, _⟩ => ⟨S2x16400x16x128, .f32⟩
  | .hbm, ⟨36, _⟩ => ⟨S2x16400x16x128, .f32⟩
  | .hbm, ⟨37, _⟩ => ⟨S2x16400x16x128, .f32⟩
  | .hbm, ⟨38, _⟩ => ⟨S2x16400x16x128, .f32⟩
  | .hbm, ⟨39, _⟩ => ⟨S2x16400x2048, .f32⟩
  | .hbm, ⟨40, _⟩ => ⟨S2048x1024, .f32⟩
  | .hbm, ⟨41, _⟩ => ⟨S2x16400x1024, .f32⟩
  | .hbm, ⟨42, _⟩ => ⟨S2x16400x1024, .f32⟩
  | .hbm, ⟨43, _⟩ => ⟨S2x16384x1024, .f32⟩
  | _, _ => ⟨S2x16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== KernelMid.lean ====
abbrev S2x16384x1024 : Shape := ⟨3, ![2, 16384, 1024]⟩
abbrev S16x1024 : Shape := ⟨2, ![16, 1024]⟩
abbrev S2x16640x1024 : Shape := ⟨3, ![2, 16640, 1024]⟩
abbrev S1x1024x1024 : Shape := ⟨3, ![1, 1024, 1024]⟩
abbrev S1x1024 : Shape := ⟨2, ![1, 1024]⟩
abbrev S1x1024x6176 : Shape := ⟨3, ![1, 1024, 6176]⟩
abbrev S1x4x4096 : Shape := ⟨3, ![1, 4, 4096]⟩
abbrev S1x16 : Shape := ⟨2, ![1, 16]⟩
abbrev S256x256 : Shape := ⟨2, ![256, 256]⟩
abbrev S1x16x1024 : Shape := ⟨3, ![1, 16, 1024]⟩
abbrev S2x16x1024 : Shape := ⟨3, ![2, 16, 1024]⟩
abbrev S_ : Shape := ⟨0, ![]⟩
abbrev S2x240x1024 : Shape := ⟨3, ![2, 240, 1024]⟩
abbrev S2x256x1024 : Shape := ⟨3, ![2, 256, 1024]⟩
abbrev S1024x6176 : Shape := ⟨2, ![1024, 6176]⟩
abbrev S1024x4096 : Shape := ⟨2, ![1024, 4096]⟩
abbrev S1024x4352 : Shape := ⟨2, ![1024, 4352]⟩
abbrev S1024x2048 : Shape := ⟨2, ![1024, 2048]⟩
abbrev S1024x2304 : Shape := ⟨2, ![1024, 2304]⟩
abbrev S1024x32 : Shape := ⟨2, ![1024, 32]⟩
abbrev S1024x128 : Shape := ⟨2, ![1024, 128]⟩
abbrev S1024x1024 : Shape := ⟨2, ![1024, 1024]⟩
abbrev S1024x1280 : Shape := ⟨2, ![1024, 1280]⟩
abbrev S1024 : Shape := ⟨1, ![1024]⟩
abbrev S4x4096 : Shape := ⟨2, ![4, 4096]⟩
abbrev S16 : Shape := ⟨1, ![16]⟩
abbrev S1x128 : Shape := ⟨2, ![1, 128]⟩
abbrev S2x16640x2048 : Shape := ⟨3, ![2, 16640, 2048]⟩
abbrev S2x16640x128 : Shape := ⟨3, ![2, 16640, 128]⟩
abbrev S1x256x1024 : Shape := ⟨3, ![1, 256, 1024]⟩
abbrev S1x256x2048 : Shape := ⟨3, ![1, 256, 2048]⟩
abbrev S1x256x128 : Shape := ⟨3, ![1, 256, 128]⟩
abbrev S4x264x128 : Shape := ⟨3, ![4, 264, 128]⟩
abbrev S4x256x128 : Shape := ⟨3, ![4, 256, 128]⟩
abbrev S32x8x128 : Shape := ⟨3, ![32, 8, 128]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1024x512 : Shape := ⟨2, ![1024, 512]⟩
abbrev S256x512 : Shape := ⟨2, ![256, 512]⟩
abbrev S1x8x128 : Shape := ⟨3, ![1, 8, 128]⟩
abbrev S8x128 : Shape := ⟨2, ![8, 128]⟩
abbrev S4x128 : Shape := ⟨2, ![4, 128]⟩
abbrev S1x64x128 : Shape := ⟨3, ![1, 64, 128]⟩
abbrev S64x128 : Shape := ⟨2, ![64, 128]⟩

abbrev nBuf : Space → Nat
  | .hbm => 57
  | .vmem => 38
  | .smem => 0
  | _ => 0

abbrev bufTy : (tb : Table) → Fin (tcTables nBuf tb) → BufTy
  | .hbm, ⟨0, _⟩ => ⟨S2x16384x1024, .f32⟩
  | .hbm, ⟨1, _⟩ => ⟨S16x1024, .f32⟩
  | .hbm, ⟨2, _⟩ => ⟨S2x16640x1024, .bf16⟩
  | .hbm, ⟨3, _⟩ => ⟨S1x1024x1024, .f32⟩
  | .hbm, ⟨4, _⟩ => ⟨S1x1024, .f32⟩
  | .hbm, ⟨5, _⟩ => ⟨S1x1024x6176, .f32⟩
  | .hbm, ⟨6, _⟩ => ⟨S1x4x4096, .f32⟩
  | .hbm, ⟨7, _⟩ => ⟨S1x16, .f32⟩
  | .hbm, ⟨8, _⟩ => ⟨S1x16, .f32⟩
  | .hbm, ⟨9, _⟩ => ⟨S256x256, .f32⟩
  | .hbm, ⟨10, _⟩ => ⟨S1x16x1024, .f32⟩
  | .hbm, ⟨11, _⟩ => ⟨S2x16x1024, .f32⟩
  | .hbm, ⟨12, _⟩ => ⟨S_, .f32⟩
  | .hbm, ⟨13, _⟩ => ⟨S2x240x1024, .f32⟩
  | .hbm, ⟨14, _⟩ => ⟨S2x256x1024, .f32⟩
  | .hbm, ⟨15, _⟩ => ⟨S1024x6176, .f32⟩
  | .hbm, ⟨16, _⟩ => ⟨S1024x4096, .f32⟩
  | .hbm, ⟨17, _⟩ => ⟨S1024x4096, .bf16⟩
  | .hbm, ⟨18, _⟩ => ⟨S_, .i32⟩
  | .hbm, ⟨19, _⟩ => ⟨S_, .bf16⟩
  | .hbm, ⟨20, _⟩ => ⟨S1024x4352, .bf16⟩
  | .hbm, ⟨21, _⟩ => ⟨S1024x2048, .f32⟩
  | .hbm, ⟨22, _⟩ => ⟨S1024x2048, .bf16⟩
  | .hbm, ⟨23, _⟩ => ⟨S_, .i32⟩
  | .hbm, ⟨24, _⟩ => ⟨S_, .bf16⟩
  | .hbm, ⟨25, _⟩ => ⟨S1024x2304, .bf16⟩
  | .hbm, ⟨26, _⟩ => ⟨S1024x32, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x128, .bf16⟩
  | .hbm, ⟨31, _⟩ => ⟨S1024x1024, .f32⟩
  | .hbm, ⟨32, _⟩ => ⟨S1024x1024, .bf16⟩
  | .hbm, ⟨33, _⟩ => ⟨S_, .i32⟩
  | .hbm, ⟨34, _⟩ => ⟨S_, .bf16⟩
  | .hbm, ⟨35, _⟩ => ⟨S1024x1280, .bf16⟩
  | .hbm, ⟨36, _⟩ => ⟨S1024, .f32⟩
  | .hbm, ⟨37, _⟩ => ⟨S1x1024, .f32⟩
  | .hbm, ⟨38, _⟩ => ⟨S4x4096, .f32⟩
  | .hbm, ⟨39, _⟩ => ⟨S16, .f32⟩
  | .hbm, ⟨40, _⟩ => ⟨S1x16, .f32⟩
  | .hbm, ⟨41, _⟩ => ⟨S_, .i32⟩
  | .hbm, ⟨42, _⟩ => ⟨S_, .f32⟩
  | .hbm, ⟨43, _⟩ => ⟨S1x128, .f32⟩
  | .hbm, ⟨44, _⟩ => ⟨S16, .f32⟩
  | .hbm, ⟨45, _⟩ => ⟨S1x16, .f32⟩
  | .hbm, ⟨46, _⟩ => ⟨S_, .i32⟩
  | .hbm, ⟨47, _⟩ => ⟨S_, .f32⟩
  | .hbm, ⟨48, _⟩ => ⟨S1x128, .f32⟩
  | .hbm, ⟨49, _⟩ => ⟨S2x16640x1024, .f32⟩
  | .hbm, ⟨50, _⟩ => ⟨S2x16640x1024, .bf16⟩
  | .hbm, ⟨51, _⟩ => ⟨S2x16640x1024, .bf16⟩
  | .hbm, ⟨52, _⟩ => ⟨S2x16640x2048, .bf16⟩
  | .hbm, ⟨53, _⟩ => ⟨S2x16640x2048, .bf16⟩
  | .hbm, ⟨54, _⟩ => ⟨S2x16640x2048, .bf16⟩
  | .hbm, ⟨55, _⟩ => ⟨S2x16640x2048, .bf16⟩
  | .hbm, ⟨56, _⟩ => ⟨S2x16640x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1024x1280, .bf16⟩
  | .local _ .vmem, ⟨9, _⟩ => ⟨S1x1024, .f32⟩
  | .local _ .vmem, ⟨10, _⟩ => ⟨S1024x4352, .bf16⟩
  | .local _ .vmem, ⟨11, _⟩ => ⟨S1024x2304, .bf16⟩
  | .local _ .vmem, ⟨12, _⟩ => ⟨S1024x128, .bf16⟩
  | .local _ .vmem, ⟨13, _⟩ => ⟨S4x4096, .f32⟩
  | .local _ .vmem, ⟨14, _⟩ => ⟨S1x128, .f32⟩
  | .local _ .vmem, ⟨15, _⟩ => ⟨S1x128, .f32⟩
  | .local _ .vmem, ⟨16, _⟩ => ⟨S256x256, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x2048, .bf16⟩
  | .local _ .vmem, ⟨24, _⟩ => ⟨S1x256x2048, .bf16⟩
  | .local _ .vmem, ⟨25, _⟩ => ⟨S1x256x2048, .bf16⟩
  | .local _ .vmem, ⟨26, _⟩ => ⟨S1x256x2048, .bf16⟩
  | .local _ .vmem, ⟨27, _⟩ => ⟨S1x256x2048, .bf16⟩
  | .local _ .vmem, ⟨28, _⟩ => ⟨S1x256x2048, .bf16⟩
  | .local _ .vmem, ⟨29, _⟩ => ⟨S1x256x2048, .bf16⟩
  | .local _ .vmem, ⟨30, _⟩ => ⟨S1x256x2048, .bf16⟩
  | .local _ .vmem, ⟨31, _⟩ => ⟨S1x256x128, .f32⟩
  | .local _ .vmem, ⟨32, _⟩ => ⟨S1x256x128, .f32⟩
  | .local _ .vmem, ⟨33, _⟩ => ⟨S4x264x128, .f32⟩
  | .local _ .vmem, ⟨34, _⟩ => ⟨S4x256x128, .f32⟩
  | .local _ .vmem, ⟨35, _⟩ => ⟨S32x8x128, .f32⟩
  | .local _ .vmem, ⟨36, _⟩ => ⟨S256x1024, .f32⟩
  | .local _ .vmem, ⟨37, _⟩ => ⟨S256x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_call2_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_call3_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_call4_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_call5_v0 : Ref sig .tc := ⟨.hbm, 47, rfl⟩
abbrev main_v25 : Ref sig .tc := ⟨.hbm, 48, rfl⟩
abbrev main_v26_0 : Ref sig .tc := ⟨.hbm, 49, rfl⟩
abbrev main_v26_1 : Ref sig .tc := ⟨.hbm, 50, rfl⟩
abbrev main_v26_2 : Ref sig .tc := ⟨.hbm, 51, rfl⟩
abbrev main_v26_3 : Ref sig .tc := ⟨.hbm, 52, rfl⟩
abbrev main_v26_4 : Ref sig .tc := ⟨.hbm, 53, rfl⟩
abbrev main_v26_5 : Ref sig .tc := ⟨.hbm, 54, rfl⟩
abbrev main_v26_6 : Ref sig .tc := ⟨.hbm, 55, rfl⟩
abbrev main_v26_7 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.minsi v0 c64_i32
  let c0_i32 : BitVec 32 := 0#32
  let c0_i32_0 : BitVec 32 := 0#32
  ![arg0.toNat, v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4352 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2304 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== ReferenceMidIdeal.lean ====
abbrev S2x16384x1024 : Shape := ⟨3, ![2, 16384, 1024]⟩
abbrev S16x1024 : Shape := ⟨2, ![16, 1024]⟩
abbrev S2x16640x1024 : Shape := ⟨3, ![2, 16640, 1024]⟩
abbrev S1x1024x1024 : Shape := ⟨3, ![1, 1024, 1024]⟩
abbrev S1x1024 : Shape := ⟨2, ![1, 1024]⟩
abbrev S1x1024x6176 : Shape := ⟨3, ![1, 1024, 6176]⟩
abbrev S1x4x4096 : Shape := ⟨3, ![1, 4, 4096]⟩
abbrev S1x16 : Shape := ⟨2, ![1, 16]⟩
abbrev S1x16x1024 : Shape := ⟨3, ![1, 16, 1024]⟩
abbrev S2x16x1024 : Shape := ⟨3, ![2, 16, 1024]⟩
abbrev S2x16400x1024 : Shape := ⟨3, ![2, 16400, 1024]⟩
abbrev S_ : Shape := ⟨0, ![]⟩
abbrev S1024x1024 : Shape := ⟨2, ![1024, 1024]⟩
abbrev S2x16640 : Shape := ⟨2, ![2, 16640]⟩
abbrev S2x16640x1 : Shape := ⟨3, ![2, 16640, 1]⟩
abbrev S1024 : Shape := ⟨1, ![1024]⟩
abbrev S1x1x1024 : Shape := ⟨3, ![1, 1, 1024]⟩
abbrev S1024x6176 : Shape := ⟨2, ![1024, 6176]⟩
abbrev S1024x2048 : Shape := ⟨2, ![1024, 2048]⟩
abbrev S2x16640x2048 : Shape := ⟨3, ![2, 16640, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S16x1024, .f32⟩
  | .hbm, ⟨2, _⟩ => ⟨S2x16640x1024, .bf16⟩
  | .hbm, ⟨3, _⟩ => ⟨S1x1024x1024, .f32⟩
  | .hbm, ⟨4, _⟩ => ⟨S1x1024, .f32⟩
  | .hbm, ⟨5, _⟩ => ⟨S1x1024x6176, .f32⟩
  | .hbm, ⟨6, _⟩ => ⟨S1x4x4096, .f32⟩
  | .hbm, ⟨7, _⟩ => ⟨S1x16, .f32⟩
  | .hbm, ⟨8, _⟩ => ⟨S1x16, .f32⟩
  | .hbm, ⟨9, _⟩ => ⟨S1x16x1024, .f32⟩
  | .hbm, ⟨10, _⟩ => ⟨S2x16x1024, .f32⟩
  | .hbm, ⟨11, _⟩ => ⟨S2x16400x1024, .f32⟩
  | .hbm, ⟨12, _⟩ => ⟨S_, .i32⟩
  | .hbm, ⟨13, _⟩ => ⟨S_, .f32⟩
  | .hbm, ⟨14, _⟩ => ⟨S2x16640x1024, .f32⟩
  | .hbm, ⟨15, _⟩ => ⟨S2x16640x1024, .f32⟩
  | .hbm, ⟨16, _⟩ => ⟨S1024x1024, .f32⟩
  | .hbm, ⟨17, _⟩ => ⟨S2x16640x1024, .f32⟩
  | .hbm, ⟨18, _⟩ => ⟨S2x16640x1024, .f32⟩
  | .hbm, ⟨19, _⟩ => ⟨S2x16640x1024, .f32⟩
  | .hbm, ⟨20, _⟩ => ⟨S_, .f32⟩
  | .hbm, ⟨21, _⟩ => ⟨S2x16640, .f32⟩
  | .hbm, ⟨22, _⟩ => ⟨S2x16640x1, .f32⟩
  | .hbm, ⟨23, _⟩ => ⟨S_, .f32⟩
  | .hbm, ⟨24, _⟩ => ⟨S2x16640x1, .f32⟩
  | .hbm, ⟨25, _⟩ => ⟨S2x16640x1, .f32⟩
  | .hbm, ⟨26, _⟩ => ⟨S_, .f32⟩
  | .hbm, ⟨27, _⟩ => ⟨S2x16640x1, .f32⟩
  | .hbm, ⟨28, _⟩ => ⟨S2x16640x1, .f32⟩
  | .hbm, ⟨29, _⟩ => ⟨S2x16640x1, .f32⟩
  | .hbm, ⟨30, _⟩ => ⟨S2x16640x1024, .f32⟩
  | .hbm, ⟨31, _⟩ => ⟨S2x16640x1024, .f32⟩
  | .hbm, ⟨32, _⟩ => ⟨S1024, .f32⟩
  | .hbm, ⟨33, _⟩ => ⟨S1x1x1024, .f32⟩
  | .hbm, ⟨34, _⟩ => ⟨S2x16640x1024, .f32⟩
  | .hbm, ⟨35, _⟩ => ⟨S2x16640x1024, .f32⟩
  | .hbm, ⟨36, _⟩ => ⟨S1024x6176, .f32⟩
  | .hbm, ⟨37, _⟩ => ⟨S1024x2048, .f32⟩
  | .hbm, ⟨38, _⟩ => ⟨S2x16640x2048, .f32⟩
  | .hbm, ⟨39, _⟩ => ⟨S2x16640x2048, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Unit.lean ====
/- WHAT ONE STORE OF THE KERNEL COMPUTES, as one function of the blocks that it reads.

   The body works in units: 128 query rows (a fifth of the step's rows) and one key head with the eight query heads that
   share it. A unit has 272 keys: the 16 rows of the meta tokens, the 128 rows before the unit's own, and its own 128 rows.
   Here the unit's operations are stated once (`unitOut`), and the ten stores of the body are this function at the ten
   pairs of a fifth and a key head (`pieces_eq`). -/
module

public import proofs.«01_k».proof.Proof.Gen.KernelIdeal.Value
public import Idealize.ShloMosaic.Lib.Tactic

@[expose] public section

set_option maxRecDepth 16384

noncomputable section

namespace Cert.Proof.Attn

open Cert.KernelIdeal Cert.KernelIdeal.Gen Idealize.ShloMosaic Idealize.ShloMosaic.TcCoe

variable {F : FTy → Type} [FloatOps F] [Named F]

/-- The keys (or values) of a unit: meta rows, the block before, the unit's own block. -/
def keyRows (a : Vec F S1x16x64 .bf16) (b c : Vec F S1x128x64 .bf16) : FVec F S272x64 .bf16 :=
  concatenate S272x64 0 [⟨S16x64, shapeCast S16x64 a shapeCasts_S1x16x64_S16x64⟩,
    ⟨S128x64, shapeCast S128x64 b shapeCasts_S1x128x64_S128x64⟩,
    ⟨S128x64, shapeCast S128x64 c shapeCasts_S1x128x64_S128x64⟩] concatenates_S16x64_S128x64_S128x64_S272x64_d0

/-- The keys scaled to unit root mean square, times the weights. -/
def normKeys (k : FVec F S272x64 .bf16) (w : Vec F S1x64 .f32) : FVec F S272x64 .bf16 :=
  let x : FVec F S272x64 .f32 := extf .f32 k bitsLt_bf16_f32
  let ss : FVec F S272 .f32 := multiReduction .add [1] S272 (mulf x x) 0x00000000#32 reduces_S272x64_S272 (.inl rfl) rfl
  let r : FVec F S272x1 .f32 :=
    rsqrt (addf (divf (shapeCast S272x1 ss shapeCasts_S272_S272x1) (broadcast S272x1 (Scalar.ofBits .f32 0x42800000#32)))
      (broadcast S272x1 (Scalar.ofBits .f32 0x358637BD#32)))
  truncf .bf16 (mulf (mulf x (broadcastTo S272x64 r broadcasts_S272x1_S272x64))
    (broadcastTo S272x64 w broadcasts_S1x64_S272x64)) bitsLt_bf16_f32

/-- One query head, a column per row: scaled to unit root mean square, times the weights. -/
def normQuery (x w : FVec F S64x128 .f32) : FVec F S64x128 .bf16 :=
  let ss : FVec F S128 .f32 := multiReduction .add [0] S128 (mulf x x) 0x00000000#32 reduces_S64x128_S128 (.inl rfl) rfl
  let r : FVec F S1x128 .f32 :=
    rsqrt (addf (divf (shapeCast S1x128 ss shapeCasts_S128_S1x128) (broadcast S1x128 (Scalar.ofBits .f32 0x42800000#32)))
      (broadcast S1x128 (Scalar.ofBits .f32 0x358637BD#32)))
  truncf .bf16 (mulf (mulf x (broadcastTo S64x128 r broadcasts_S1x128_S64x128)) w) bitsLt_bf16_f32

/-- The weights of the queries, times the scale of the scores and log2 e. -/
def queryWeights (w : Vec F S64x128 .f32) : FVec F S64x128 .f32 :=
  mulf (shapeCast S64x128 w shapeCasts_S64x128_S64x128) (broadcast S64x128 (Named.named κ "slope5" 0x3E38AA3B#32))

/-- The unit's eight query heads, transposed. -/
def queryT (q : Vec F S1x128x512 .bf16) : FVec F S512x128 .f32 :=
  transpose S512x128 [1, 0] (extf .f32 (shapeCast S128x512 q shapeCasts_S1x128x512_S128x512) bitsLt_bf16_f32)
    transposes_S128x512_p1_0_S512x128

/-- The eight query heads side by side. -/
def queryCols (q : Vec F S1x128x512 .bf16) (w : FVec F S64x128 .f32) : FVec F S64x1024 .bf16 :=
  concatenate S64x1024 1
    [⟨S64x128, normQuery (extractStridedSlice S64x128 ![0, 0] (queryT q) slices_S512x128_o0_0_S64x128) w⟩,
     ⟨S64x128, normQuery (extractStridedSlice S64x128 ![64, 0] (queryT q) slices_S512x128_o64_0_S64x128) w⟩,
     ⟨S64x128, normQuery (extractStridedSlice S64x128 ![128, 0] (queryT q) slices_S512x128_o128_0_S64x128) w⟩,
     ⟨S64x128, normQuery (extractStridedSlice S64x128 ![192, 0] (queryT q) slices_S512x128_o192_0_S64x128) w⟩,
     ⟨S64x128, normQuery (extractStridedSlice S64x128 ![256, 0] (queryT q) slices_S512x128_o256_0_S64x128) w⟩,
     ⟨S64x128, normQuery (extractStridedSlice S64x128 ![320, 0] (queryT q) slices_S512x128_o320_0_S64x128) w⟩,
     ⟨S64x128, normQuery (extractStridedSlice S64x128 ![384, 0] (queryT q) slices_S512x128_o384_0_S64x128) w⟩,
     ⟨S64x128, normQuery (extractStridedSlice S64x128 ![448, 0] (queryT q) slices_S512x128_o448_0_S64x128) w⟩]
    concatenates_S64x128_S64x128_S64x128_S64x128_S64x128_S64x128_S64x128_S64x128_S64x1024_d1

/-- The products of every key with every query head. -/
def rawScores (k : FVec F S272x64 .bf16) (q : FVec F S64x1024 .bf16) : FVec F S272x1024 .f32 :=
  matmul dot_S272x64_S64x1024_S272x1024_1_0_0_1_n_n none k q (constant S272x1024 .f32 0x00000000#32)

/-- One head's scores: the products less the slope times the clipped distance. -/
def headScores (sl : F .f32) (clip x : FVec F S272x128 .f32) : FVec F S272x128 .f32 :=
  subf x (mulf (broadcast S272x128 sl) clip)

/-- The greatest score of a row, the sink among them. -/
def headMax (sk : F .f32) (s : FVec F S272x128 .f32) : FVec F S1x128 .f32 :=
  maximumf (shapeCast S1x128
    (multiReduction .maximumf [0] S128 s 0xFF800000#32 reduces_S272x128_S128 (.inl rfl) rfl : FVec F S128 .f32)
    shapeCasts_S128_S1x128) (broadcast S1x128 sk)

/-- The exponentials of one head's scores. -/
def headExp (sk : F .f32) (s : FVec F S272x128 .f32) : FVec F S272x128 .f32 :=
  exp2 (subf s (broadcastTo S272x128 (headMax sk s) broadcasts_S1x128_S272x128))

/-- The reciprocal of their sum, the sink's exponential added. -/
def headInv (sk : F .f32) (s : FVec F S272x128 .f32) : FVec F S1x128 .f32 :=
  divf (broadcast S1x128 (Scalar.ofBits .f32 0x3F800000#32))
    (addf (shapeCast S1x128
      (multiReduction .add [0] S128 (headExp sk s) 0x00000000#32 reduces_S272x128_S128 (.inl rfl) rfl : FVec F S128 .f32)
      shapeCasts_S128_S1x128) (exp2 (subf (broadcast S1x128 sk) (headMax sk s))))

/-- The values' sums under the exponentials of the eight heads. -/
def headSums (v : FVec F S272x64 .bf16) (p : Fin 8 → FVec F S272x128 .f32) : FVec F S64x1024 .f32 :=
  matmul dot_S272x64_S272x1024_S64x1024_0_0_1_1_n_n none v
    (concatenate S272x1024 1
      [⟨S272x128, truncf .bf16 (p 0) bitsLt_bf16_f32⟩, ⟨S272x128, truncf .bf16 (p 1) bitsLt_bf16_f32⟩,
       ⟨S272x128, truncf .bf16 (p 2) bitsLt_bf16_f32⟩, ⟨S272x128, truncf .bf16 (p 3) bitsLt_bf16_f32⟩,
       ⟨S272x128, truncf .bf16 (p 4) bitsLt_bf16_f32⟩, ⟨S272x128, truncf .bf16 (p 5) bitsLt_bf16_f32⟩,
       ⟨S272x128, truncf .bf16 (p 6) bitsLt_bf16_f32⟩, ⟨S272x128, truncf .bf16 (p 7) bitsLt_bf16_f32⟩]
      concatenates_S272x128_S272x128_S272x128_S272x128_S272x128_S272x128_S272x128_S272x128_S272x1024_d1)
    (constant S64x1024 .f32 0x00000000#32)

/-- The eight heads of the unit, each divided by its sum, back in rows. -/
def unitRows (o : FVec F S64x1024 .f32) (r : Fin 8 → FVec F S1x128 .f32) : FVec F S128x512 .f32 :=
  transpose S128x512 [1, 0]
    (concatenate S512x128 0
      [⟨S64x128, mulf (extractStridedSlice S64x128 ![0, 0] o slices_S64x1024_o0_0_S64x128) (broadcastTo S64x128 (r 0) broadcasts_S1x128_S64x128)⟩,
       ⟨S64x128, mulf (extractStridedSlice S64x128 ![0, 128] o slices_S64x1024_o0_128_S64x128) (broadcastTo S64x128 (r 1) broadcasts_S1x128_S64x128)⟩,
       ⟨S64x128, mulf (extractStridedSlice S64x128 ![0, 256] o slices_S64x1024_o0_256_S64x128) (broadcastTo S64x128 (r 2) broadcasts_S1x128_S64x128)⟩,
       ⟨S64x128, mulf (extractStridedSlice S64x128 ![0, 384] o slices_S64x1024_o0_384_S64x128) (broadcastTo S64x128 (r 3) broadcasts_S1x128_S64x128)⟩,
       ⟨S64x128, mulf (extractStridedSlice S64x128 ![0, 512] o slices_S64x1024_o0_512_S64x128) (broadcastTo S64x128 (r 4) broadcasts_S1x128_S64x128)⟩,
       ⟨S64x128, mulf (extractStridedSlice S64x128 ![0, 640] o slices_S64x1024_o0_640_S64x128) (broadcastTo S64x128 (r 5) broadcasts_S1x128_S64x128)⟩,
       ⟨S64x128, mulf (extractStridedSlice S64x128 ![0, 768] o slices_S64x1024_o0_768_S64x128) (broadcastTo S64x128 (r 6) broadcasts_S1x128_S64x128)⟩,
       ⟨S64x128, mulf (extractStridedSlice S64x128 ![0, 896] o slices_S64x1024_o0_896_S64x128) (broadcastTo S64x128 (r 7) broadcasts_S1x128_S64x128)⟩]
      concatenates_S64x128_S64x128_S64x128_S64x128_S64x128_S64x128_S64x128_S64x128_S512x128_d0)
    transposes_S512x128_p1_0_S128x512

/-- The rows times the gate's silu, as the block that is stored. -/
def gated (o : FVec F S128x512 .f32) (g : Vec F S1x128x512 .bf16) : FVec F S1x128x512 .bf16 :=
  let x : FVec F S128x512 .f32 := extf .f32 (shapeCast S128x512 g shapeCasts_S1x128x512_S128x512) bitsLt_bf16_f32
  shapeCast S1x128x512 (truncf .bf16 (mulf o (mulf x (logistic x))) bitsLt_bf16_f32) shapeCasts_S128x512_S1x128x512

/-- The columns of the products that belong to one head of the eight. -/
def headCols (x : FVec F S272x1024 .f32) : Fin 8 → FVec F S272x128 .f32 :=
  ![extractStridedSlice S272x128 ![0, 0] x slices_S272x1024_o0_0_S272x128,
    extractStridedSlice S272x128 ![0, 128] x slices_S272x1024_o0_128_S272x128,
    extractStridedSlice S272x128 ![0, 256] x slices_S272x1024_o0_256_S272x128,
    extractStridedSlice S272x128 ![0, 384] x slices_S272x1024_o0_384_S272x128,
    extractStridedSlice S272x128 ![0, 512] x slices_S272x1024_o0_512_S272x128,
    extractStridedSlice S272x128 ![0, 640] x slices_S272x1024_o0_640_S272x128,
    extractStridedSlice S272x128 ![0, 768] x slices_S272x1024_o0_768_S272x128,
    extractStridedSlice S272x128 ![0, 896] x slices_S272x1024_o0_896_S272x128]

/-- A UNIT: from its clipped distances, its slopes and sinks (the sinks not yet times log2 e), its keys, values, queries,
    gate and the two weights, the block that it stores. -/
def unitOut (clip : FVec F S272x128 .f32) (sl sk : Fin 8 → F .f32) (k v : FVec F S272x64 .bf16)
    (q g : Vec F S1x128x512 .bf16) (wq : Vec F S64x128 .f32) (wk : Vec F S1x64 .f32) : FVec F S1x128x512 .bf16 :=
  let x := rawScores (normKeys k wk) (queryCols q (queryWeights wq))
  let s : Fin 8 → FVec F S272x128 .f32 := fun h => headScores (sl h) clip (headCols x h)
  let z : Fin 8 → F .f32 := fun h => Scalar.mulf (sk h) (Named.named κ "log2e" 0x3FB8AA3B#32)
  gated (unitRows (headSums v fun h => headExp (z h) (s h)) fun h => headInv (z h) (s h)) g

/-- The slopes of the sixteen heads, times log2 e. -/
def slopes : Fin 2 → Fin 8 → F .f32 :=
  ![![Named.named κ "slope0" 0x3F8293EE#32, Named.named κ "slope1" 0x3F38AA3B#32,
      Named.named κ "slope2" 0x3F0293EE#32, Named.named κ "slope3" 0x3EB8AA3B#32,
      Named.named κ "slope4" 0x3E8293EE#32, Named.named κ "slope5" 0x3E38AA3B#32,
      Named.named κ "slope6" 0x3E0293EE#32, Named.named κ "slope7" 0x3DB8AA3B#32],
    ![Named.named κ "slope8" 0x3D8293EE#32, Named.named κ "slope9" 0x3D38AA3B#32,
      Named.named κ "slope10" 0x3D0293EE#32, Named.named κ "slope11" 0x3CB8AA3B#32,
      Named.named κ "slope12" 0x3C8293EE#32, Named.named κ "slope13" 0x3C38AA3B#32,
      Named.named κ "slope14" 0x3C0293EE#32, Named.named κ "slope15" 0x3BB8AA3B#32]]

/-- The distance of a query row of block `n` to a key of its unit, clipped at the window; infinite where the key is not
    looked at. -/
def clipDist (n : BitVec 32) : FVec F S272x128 .f32 :=
  let dm : IVec S16x128 32 := subi (addi (broadcast S16x128 (Scalar.muli n 128#32)) (iota .tc S16x128 32 [1] iota_S16x128_d1_w32))
    (addi (broadcast S16x128 112#32) (iota .tc S16x128 32 [0] iota_S16x128_d0_w32))
  let c : IVec S128x128 32 := iota .tc S128x128 32 [0] iota_S128x128_d0_w32
  let r : IVec S128x128 32 := iota .tc S128x128 32 [1] iota_S128x128_d1_w32
  let dp : IVec S128x128 32 := subi (addi (broadcast S128x128 128#32) r) c
  let dc : IVec S128x128 32 := subi r c
  concatenate S272x128 0
    [⟨S16x128, select (cmpi .sge dm (broadcast S16x128 0#32)) (sitofp .f32 (minsi dm (broadcast S16x128 128#32)))
        (broadcast S16x128 (Named.named κ "far" 0x7149F2CA#32))⟩,
     ⟨S128x128, select (andi (cmpi .sgt c r) (broadcast S128x128 (Scalar.cmpi .sge n 2#32)))
        (sitofp .f32 (minsi dp (broadcast S128x128 128#32))) (broadcast S128x128 (Named.named κ "far" 0x7149F2CA#32))⟩,
     ⟨S128x128, select (andi (cmpi .sle c r) (broadcast S128x128 (Scalar.cmpi .sge n 1#32)))
        (sitofp .f32 (minsi dc (broadcast S128x128 128#32))) (broadcast S128x128 (Named.named κ "far" 0x7149F2CA#32))⟩]
    concatenates_S16x128_S128x128_S128x128_S272x128_d0

/-- The number of a unit's block, counted from the block of the meta tokens. -/
def blockNo (i : grid0.Coords) (sub : Nat) : BitVec 32 :=
  Scalar.subi (Scalar.addi (Scalar.muli (BitVec.ofNat 32 (i 1).val) 5#32) (BitVec.ofNat 32 sub)) 1#32

theorem inb512 {sub h : Nat} (hs : sub < 5) (hh : h < 2) :
    ∀ a, (![0, 128 * sub, 512 * h] : Fin 3 → Nat) a + S1x128x512.size a ≤ S1x640x1024.size a := fun a => by
  match a with
  | ⟨0, _⟩ => show 0 + 1 ≤ 1; omega
  | ⟨1, _⟩ => show 128 * sub + 128 ≤ 640; omega
  | ⟨2, _⟩ => show 512 * h + 512 ≤ 1024; omega

theorem inb128 {sub h : Nat} (hs : sub < 5) (hh : h < 4) :
    ∀ a, (![0, 128 * sub, 64 * h] : Fin 3 → Nat) a + S1x128x64.size a ≤ S1x640x256.size a := fun a => by
  match a with
  | ⟨0, _⟩ => show 0 + 1 ≤ 1; omega
  | ⟨1, _⟩ => show 128 * sub + 128 ≤ 640; omega
  | ⟨2, _⟩ => show 64 * h + 64 ≤ 256; omega

theorem inbPrev {h : Nat} (hh : h < 4) :
    ∀ a, (![0, 0, 64 * h] : Fin 3 → Nat) a + S1x128x64.size a ≤ S1x128x256.size a := fun a => by
  match a with
  | ⟨0, _⟩ => show 0 + 1 ≤ 1; omega
  | ⟨1, _⟩ => show 0 + 128 ≤ 128; omega
  | ⟨2, _⟩ => show 64 * h + 64 ≤ 256; omega

theorem inbMeta {h : Nat} (hh : h < 4) :
    ∀ a, (![0, 0, 64 * h] : Fin 3 → Nat) a + S1x16x64.size a ≤ S1x16x256.size a := fun a => by
  match a with
  | ⟨0, _⟩ => show 0 + 1 ≤ 1; omega
  | ⟨1, _⟩ => show 0 + 16 ≤ 16; omega
  | ⟨2, _⟩ => show 64 * h + 64 ≤ 256; omega

theorem inbSink {h : Nat} (hh : h < 16) : ∀ a, (![h] : Fin 1 → Nat) a + S1.size a ≤ S16.size a := fun a => by
  match a with
  | ⟨0, _⟩ => show h + 1 ≤ 16; omega

section Pieces

variable (x0 : Vec F S16 .f32) (x1 : Vec F S1x640x1024 .bf16) (x2 : Vec F S1x16x256 .bf16) (x3 : Vec F S1x128x256 .bf16)
  (x4 : Vec F S1x640x256 .bf16) (x5 : Vec F S1x640x1024 .bf16) (x6 : Vec F S64x128 .f32) (x7 : Vec F S1x64 .f32)

/-- The 128 rows before fifth `sub`: of the step's rows, or of the block before for the first fifth. -/
def prevRows {h : Nat} (hh : h < 4) : (sub : Nat) → sub < 5 → Vec F S1x128x64 .bf16
  | 0, _ => View.ld x3 (Rect.unit (s := S1x128x256) ![0, 0, 64 * h] S1x128x64.size (inbPrev hh))
  | sub + 1, hs => View.ld x4 (Rect.unit (s := S1x640x256) ![0, 128 * sub, 64 * h] S1x128x64.size (inb128 (by omega) hh))

/-- The 272 rows of one key head (or, from column head 2 on, value head) of fifth `sub`. -/
def unitKeys {sub h : Nat} (hs : sub < 5) (hh : h < 4) : FVec F S272x64 .bf16 :=
  keyRows (View.ld x2 (Rect.unit (s := S1x16x256) ![0, 0, 64 * h] S1x16x64.size (inbMeta hh)))
    (prevRows x3 x4 hh sub hs)
    (View.ld x4 (Rect.unit (s := S1x640x256) ![0, 128 * sub, 64 * h] S1x128x64.size (inb128 hs hh)))

/-- The store of fifth `sub` and key head `h`: its place in the block and what it holds. -/
def piece (i : grid0.Coords) (sub h : Nat) (hs : sub < 5) (hh : h < 2) : View.Piece (Elt F) S1x640x1024 .bf16 :=
  ⟨Rect.unit (s := S1x640x1024) ![0, 128 * sub, 512 * h] S1x128x512.size (inb512 hs hh),
   unitOut (clipDist (blockNo i sub)) (slopes ⟨h, hh⟩)
    (fun g => View.ld x0 (Rect.unit (s := S16) ![8 * h + g.val] S1.size (inbSink (by omega)))
      (Shape.Idx.first (numel1_S1.symm ▸ Nat.one_pos)))
    (unitKeys x2 x3 x4 hs (h := h) (by omega)) (unitKeys x2 x3 x4 hs (h := 2 + h) (by omega))
    (View.ld x1 (Rect.unit (s := S1x640x1024) ![0, 128 * sub, 512 * h] S1x128x512.size (inb512 hs hh)))
    (View.ld x5 (Rect.unit (s := S1x640x1024) ![0, 128 * sub, 512 * h] S1x128x512.size (inb512 hs hh)))
    (View.ld x6 (Rect.unit (s := S64x128) ![0, 0] S64x128.size inb_S64x128_S64x128_0_0))
    (View.ld x7 (Rect.unit (s := S1x64) ![0, 0] S1x64.size inb_S1x64_S1x64_0_0))⟩

/-- The ten stores, the last first. -/
def pieces (i : grid0.Coords) : List (View.Piece (Elt F) S1x640x1024 .bf16) :=
  [piece x0 x1 x2 x3 x4 x5 x6 x7 i 4 1 (by omega) (by omega), piece x0 x1 x2 x3 x4 x5 x6 x7 i 4 0 (by omega) (by omega),
   piece x0 x1 x2 x3 x4 x5 x6 x7 i 3 1 (by omega) (by omega), piece x0 x1 x2 x3 x4 x5 x6 x7 i 3 0 (by omega) (by omega),
   piece x0 x1 x2 x3 x4 x5 x6 x7 i 2 1 (by omega) (by omega), piece x0 x1 x2 x3 x4 x5 x6 x7 i 2 0 (by omega) (by omega),
   piece x0 x1 x2 x3 x4 x5 x6 x7 i 1 1 (by omega) (by omega), piece x0 x1 x2 x3 x4 x5 x6 x7 i 1 0 (by omega) (by omega),
   piece x0 x1 x2 x3 x4 x5 x6 x7 i 0 1 (by omega) (by omega), piece x0 x1 x2 x3 x4 x5 x6 x7 i 0 0 (by omega) (by omega)]

set_option maxHeartbeats 2000000 in
/-- The stores that the body makes are these ten, at what its staging buffers hold. -/
theorem pieces_eq (c : Dev nD) (i : grid0.Coords) (arg2 : Memref sig .tc .smem S16 .f32) (harg2 : arg2.IsWhole) (arg3 : Memref sig .tc .vmem S1x640x1024 .bf16) (harg3 : arg3.IsWhole) (arg4 : Memref sig .tc .vmem S1x16x256 .bf16) (harg4 : arg4.IsWhole) (arg5 : Memref sig .tc .vmem S1x128x256 .bf16) (harg5 : arg5.IsWhole) (arg6 : Memref sig .tc .vmem S1x640x256 .bf16) (harg6 : arg6.IsWhole) (arg7 : Memref sig .tc .vmem S1x640x1024 .bf16) (harg7 : arg7.IsWhole) (arg8 : Memref sig .tc .vmem S64x128 .f32) (harg8 : arg8.IsWhole) (arg9 : Memref sig .tc .vmem S1x64 .f32) (harg9 : arg9.IsWhole) (arg10 : Memref sig .tc .vmem S1x640x1024 .bf16) (harg10 : arg10.IsWhole) :
    (kernelRun0_A c i arg2 harg2 arg3 harg3 arg4 harg4 arg5 harg5 arg6 harg6 arg7 harg7 arg8 harg8 arg9 harg9 arg10 harg10 x0 x1 x2 x3 x4 x5 x6 x7).1
      = pieces (arg2.view.read (Elt F) (harg2.unread x0)) (arg3.view.read (Elt F) (harg3.unread x1))
          (arg4.view.read (Elt F) (harg4.unread x2)) (arg5.view.read (Elt F) (harg5.unread x3))
          (arg6.view.read (Elt F) (harg6.unread x4)) (arg7.view.read (Elt F) (harg7.unread x5))
          (arg8.view.read (Elt F) (harg8.unread x6)) (arg9.view.read (Elt F) (harg9.unread x7)) i := by
  sl_kernel_rfl

end Pieces

end Cert.Proof.Attn

end
-- ==== Proof.Read.lean ====
/- ONE UNIT READ AT AN INDEX: the block that `unitOut` stores, element by element, as sums and products of extended reals. -/
module

public import proofs.«01_k».proof.Proof.Unit
public import Idealize.ShloMosaic.Lib.Pointwise

@[expose] public section

set_option maxRecDepth 16384

noncomputable section

namespace Cert.Proof.Attn

open Cert.KernelIdeal Cert.KernelIdeal.Gen Idealize.ShloMosaic Idealize.ShloMosaic.TcCoe

/-- The reciprocal root mean square of 64 numbers. -/
def invRms (x : Fin 64 → EReal) : EReal :=
  Ideal.rsqrt (Ideal.div (∑ k, x k * x k) (Ideal.ofBits FTy.f32 0x42800000#32) + Ideal.ofBits FTy.f32 0x358637BD#32)

/-- The product of a key and a query, each scaled to unit root mean square and weighted. -/
def qkDot (k q wk wq : Fin 64 → EReal) : EReal := ∑ d, (k d * invRms k * wk d) * (q d * invRms q * wq d)

/-- The greatest score, the sink's among them. -/
def topScore {n : Nat} (s : Fin n → EReal) (z : EReal) : EReal :=
  max (Finset.univ.fold max (Ideal.ofBits FTy.f32 0xFF800000#32) s) z

/-- The values' sum under the base-2 exponentials of the scores, divided by the sum of the exponentials with the sink's. -/
def attend2 {n : Nat} (s : Fin n → EReal) (z : EReal) (v : Fin n → EReal) : EReal :=
  (∑ j, v j * Ideal.exp2 (s j - topScore s z)) *
    Ideal.div (Ideal.ofBits FTy.f32 0x3F800000#32)
      ((∑ j, Ideal.exp2 (s j - topScore s z)) + Ideal.exp2 (z - topScore s z))

/-- Of eight pieces of `n` entries laid one after the other, the entry `n * g + i` is entry `i` of piece `g`. -/
theorem pick8 {α : Type} {n : Nat} (f : Fin 8 → Fin n → α) (g : Fin 8) (i : Fin n)
    (hb : n * g.val + i.val - n - n - n - n - n - n - n < n) :
    (if h : n * g.val + i.val < n then f 0 ⟨n * g.val + i.val, h⟩ else
      if h : n * g.val + i.val - n < n then f 1 ⟨n * g.val + i.val - n, h⟩ else
      if h : n * g.val + i.val - n - n < n then f 2 ⟨n * g.val + i.val - n - n, h⟩ else
      if h : n * g.val + i.val - n - n - n < n then f 3 ⟨n * g.val + i.val - n - n - n, h⟩ else
      if h : n * g.val + i.val - n - n - n - n < n then f 4 ⟨n * g.val + i.val - n - n - n - n, h⟩ else
      if h : n * g.val + i.val - n - n - n - n - n < n then f 5 ⟨n * g.val + i.val - n - n - n - n - n, h⟩ else
      if h : n * g.val + i.val - n - n - n - n - n - n < n then f 6 ⟨n * g.val + i.val - n - n - n - n - n - n, h⟩ else
      f 7 ⟨n * g.val + i.val - n - n - n - n - n - n - n, hb⟩) = f g i := by
  obtain ⟨g, hg⟩ := g
  obtain ⟨i, hi⟩ := i
  have key : ∀ (k : Fin 8) (m : Nat) (hm : m < n), g = k.val → m = i → f k ⟨m, hm⟩ = f ⟨g, hg⟩ ⟨i, hi⟩ := by
    rintro k m hm rfl rfl; rfl
  simp only
  split_ifs <;> apply key <;> interval_cases g <;> first | rfl | (exfalso; omega) | omega

/-- Eight query heads side by side, read at a column of one of them. -/
theorem cols64_at (A : Fin 8 → FVec Ideal S64x128 .bf16) (g : Fin 8) (d : Fin 64) (i : Fin 128) :
    concatenate S64x1024 1 [⟨S64x128, A 0⟩, ⟨S64x128, A 1⟩, ⟨S64x128, A 2⟩, ⟨S64x128, A 3⟩, ⟨S64x128, A 4⟩,
      ⟨S64x128, A 5⟩, ⟨S64x128, A 6⟩, ⟨S64x128, A 7⟩]
      concatenates_S64x128_S64x128_S64x128_S64x128_S64x128_S64x128_S64x128_S64x128_S64x1024_d1
      (ix2 d ⟨128 * g.val + i.val, by omega⟩) = A g (ix2 d i) := by
  pointwise
  exact pick8 (fun g i => A g (ix2 d i)) g i (by omega)

/-- Eight heads' exponentials side by side, read at a column of one of them. -/
theorem cols272_at (A : Fin 8 → FVec Ideal S272x128 .bf16) (g : Fin 8) (j : Fin 272) (i : Fin 128) :
    concatenate S272x1024 1 [⟨S272x128, A 0⟩, ⟨S272x128, A 1⟩, ⟨S272x128, A 2⟩, ⟨S272x128, A 3⟩, ⟨S272x128, A 4⟩,
      ⟨S272x128, A 5⟩, ⟨S272x128, A 6⟩, ⟨S272x128, A 7⟩]
      concatenates_S272x128_S272x128_S272x128_S272x128_S272x128_S272x128_S272x128_S272x128_S272x1024_d1
      (ix2 j ⟨128 * g.val + i.val, by omega⟩) = A g (ix2 j i) := by
  pointwise
  exact pick8 (fun g i => A g (ix2 j i)) g i (by omega)

/-- Eight heads' outputs one below the other, read at a row of one of them. -/
theorem rows64_at (A : Fin 8 → FVec Ideal S64x128 .f32) (g : Fin 8) (d : Fin 64) (i : Fin 128) :
    concatenate S512x128 0 [⟨S64x128, A 0⟩, ⟨S64x128, A 1⟩, ⟨S64x128, A 2⟩, ⟨S64x128, A 3⟩, ⟨S64x128, A 4⟩,
      ⟨S64x128, A 5⟩, ⟨S64x128, A 6⟩, ⟨S64x128, A 7⟩]
      concatenates_S64x128_S64x128_S64x128_S64x128_S64x128_S64x128_S64x128_S64x128_S512x128_d0
      (ix2 ⟨64 * g.val + d.val, by omega⟩ i) = A g (ix2 d i) := by
  pointwise
  exact pick8 (fun g d => A g (ix2 d i)) g d (by omega)

/-- The columns of one head, read at an index. -/
theorem headCols_at (x : FVec Ideal S272x1024 .f32) (g : Fin 8) (j : Fin 272) (i : Fin 128) :
    headCols x g (ix2 j i) = x (ix2 j ⟨128 * g.val + i.val, by omega⟩) := by
  obtain ⟨g, hg⟩ := g
  unfold headCols
  interval_cases g <;> dsimp only [Matrix.cons_val] <;> pointwise

/-- A key scaled and weighted, read at an index. -/
theorem normKeys_at (k : FVec Ideal S272x64 .bf16) (w : Vec Ideal S1x64 .f32) (j : Fin 272) (d : Fin 64) :
    normKeys k w (ix2 j d) = k (ix2 j d) * invRms (fun e => k (ix2 j e)) * w (ix2 0 d) := by
  pointwise [normKeys]
  rfl

/-- A query scaled and weighted, read at an index. -/
theorem normQuery_at (x w : FVec Ideal S64x128 .f32) (d : Fin 64) (i : Fin 128) :
    normQuery x w (ix2 d i) = x (ix2 d i) * invRms (fun e => x (ix2 e i)) * w (ix2 d i) := by
  pointwise [normQuery]
  rfl

/-- The transposed queries, read at an index. -/
theorem queryT_at (q : Vec Ideal S1x128x512 .bf16) (c : Fin 512) (i : Fin 128) : queryT q (ix2 c i) = q (ix3 0 i c) := by
  pointwise [queryT]

/-- The rows of one head in the transposed queries. -/
def headRows (x : FVec Ideal S512x128 .f32) : Fin 8 → FVec Ideal S64x128 .f32 :=
  ![extractStridedSlice S64x128 ![0, 0] x slices_S512x128_o0_0_S64x128,
    extractStridedSlice S64x128 ![64, 0] x slices_S512x128_o64_0_S64x128,
    extractStridedSlice S64x128 ![128, 0] x slices_S512x128_o128_0_S64x128,
    extractStridedSlice S64x128 ![192, 0] x slices_S512x128_o192_0_S64x128,
    extractStridedSlice S64x128 ![256, 0] x slices_S512x128_o256_0_S64x128,
    extractStridedSlice S64x128 ![320, 0] x slices_S512x128_o320_0_S64x128,
    extractStridedSlice S64x128 ![384, 0] x slices_S512x128_o384_0_S64x128,
    extractStridedSlice S64x128 ![448, 0] x slices_S512x128_o448_0_S64x128]

/-- The rows of one head, read at an index. -/
theorem headRows_at (x : FVec Ideal S512x128 .f32) (g : Fin 8) (d : Fin 64) (i : Fin 128) :
    headRows x g (ix2 d i) = x (ix2 ⟨64 * g.val + d.val, by omega⟩ i) := by
  obtain ⟨g, hg⟩ := g
  unfold headRows
  interval_cases g <;> dsimp only [Matrix.cons_val] <;> pointwise

/-- The eight heads' queries, read at an index. -/
theorem queryCols_at (q : Vec Ideal S1x128x512 .bf16) (w : FVec Ideal S64x128 .f32) (g : Fin 8) (d : Fin 64) (i : Fin 128) :
    queryCols q w (ix2 d ⟨128 * g.val + i.val, by omega⟩)
      = q (ix3 0 i ⟨64 * g.val + d.val, by omega⟩) * invRms (fun e => q (ix3 0 i ⟨64 * g.val + e.val, by omega⟩)) * w (ix2 d i) := by
  refine (cols64_at (fun g => normQuery (headRows (queryT q) g) w) g d i).trans ?_
  simp only [normQuery_at, headRows_at, queryT_at]

/-- A product of a key and a query head, read at an index. -/
theorem rawScores_at (k : FVec Ideal S272x64 .bf16) (q : FVec Ideal S64x1024 .bf16) (j : Fin 272) (i : Fin 1024) :
    rawScores k q (ix2 j i) = ∑ d : Fin 64, k (ix2 j d) * q (ix2 d i) := by
  pointwise [rawScores]

/-- One head's scores, read at an index. -/
theorem headScores_at (sl : EReal) (clip x : FVec Ideal S272x128 .f32) (j : Fin 272) (i : Fin 128) :
    headScores sl clip x (ix2 j i) = x (ix2 j i) - sl * clip (ix2 j i) := by
  pointwise [headScores]

/-- The exponentials, read at an index. -/
theorem headExp_at (z : EReal) (s : FVec Ideal S272x128 .f32) (j : Fin 272) (i : Fin 128) :
    headExp z s (ix2 j i) = Ideal.exp2 (s (ix2 j i) - topScore (fun j => s (ix2 j i)) z) := by
  pointwise [headExp, headMax]
  rfl

/-- The reciprocal of the sum, read at an index. -/
theorem headInv_at (z : EReal) (s : FVec Ideal S272x128 .f32) (i : Fin 128) :
    headInv z s (ix2 0 i) = Ideal.div (Ideal.ofBits FTy.f32 0x3F800000#32)
      ((∑ j : Fin 272, Ideal.exp2 (s (ix2 j i) - topScore (fun j => s (ix2 j i)) z))
        + Ideal.exp2 (z - topScore (fun j => s (ix2 j i)) z)) := by
  pointwise [headInv, headExp, headMax]
  rfl

/-- The sums of the values, read at an index. -/
theorem headSums_at (v : FVec Ideal S272x64 .bf16) (p : Fin 8 → FVec Ideal S272x128 .f32) (g : Fin 8) (d : Fin 64)
    (i : Fin 128) :
    headSums v p (ix2 d ⟨128 * g.val + i.val, by omega⟩) = ∑ j : Fin 272, v (ix2 j d) * p g (ix2 j i) := by
  have h := fun j => cols272_at (fun g => truncf .bf16 (p g) bitsLt_bf16_f32) g j i
  unfold headSums
  generalize concatenate S272x1024 1 _ _ = P at h ⊢
  pointwise
  refine Finset.sum_congr rfl fun j _ => ?_
  rw [h]; rfl

/-- The columns of one head in the sums. -/
def sumCols (o : FVec Ideal S64x1024 .f32) : Fin 8 → FVec Ideal S64x128 .f32 :=
  ![extractStridedSlice S64x128 ![0, 0] o slices_S64x1024_o0_0_S64x128,
    extractStridedSlice S64x128 ![0, 128] o slices_S64x1024_o0_128_S64x128,
    extractStridedSlice S64x128 ![0, 256] o slices_S64x1024_o0_256_S64x128,
    extractStridedSlice S64x128 ![0, 384] o slices_S64x1024_o0_384_S64x128,
    extractStridedSlice S64x128 ![0, 512] o slices_S64x1024_o0_512_S64x128,
    extractStridedSlice S64x128 ![0, 640] o slices_S64x1024_o0_640_S64x128,
    extractStridedSlice S64x128 ![0, 768] o slices_S64x1024_o0_768_S64x128,
    extractStridedSlice S64x128 ![0, 896] o slices_S64x1024_o0_896_S64x128]

/-- The columns of one head, read at an index. -/
theorem sumCols_at (o : FVec Ideal S64x1024 .f32) (g : Fin 8) (d : Fin 64) (i : Fin 128) :
    sumCols o g (ix2 d i) = o (ix2 d ⟨128 * g.val + i.val, by omega⟩) := by
  obtain ⟨g, hg⟩ := g
  unfold sumCols
  interval_cases g <;> dsimp only [Matrix.cons_val] <;> pointwise

/-- The unit's rows, read at an index. -/
theorem unitRows_at (o : FVec Ideal S64x1024 .f32) (r : Fin 8 → FVec Ideal S1x128 .f32) (g : Fin 8) (d : Fin 64) (i : Fin 128) :
    unitRows o r (ix2 i ⟨64 * g.val + d.val, by omega⟩) = o (ix2 d ⟨128 * g.val + i.val, by omega⟩) * r g (ix2 0 i) := by
  have h := rows64_at (fun g => mulf (sumCols o g) (broadcastTo S64x128 (r g) broadcasts_S1x128_S64x128)) g d i
  unfold unitRows
  generalize hP : concatenate S512x128 0 _ _ = P
  have h' : P (ix2 ⟨64 * g.val + d.val, by omega⟩ i)
      = mulf (sumCols o g) (broadcastTo S64x128 (r g) broadcasts_S1x128_S64x128) (ix2 d i) := by rw [← hP]; exact h
  pointwise
  rw [h']
  pointwise
  rw [sumCols_at]

/-- The rows times the gate's silu, read at an index. -/
theorem gated_at (o : FVec Ideal S128x512 .f32) (g : Vec Ideal S1x128x512 .bf16) (i : Fin 128) (c : Fin 512) :
    gated o g (ix3 0 i c) = o (ix2 i c) * (g (ix3 0 i c) * Ideal.logistic (g (ix3 0 i c))) := by
  pointwise [gated]

/-- A UNIT READ AT AN INDEX: head `g` of the unit, row `i`, component `d`. -/
theorem unitOut_at (clip : FVec Ideal S272x128 .f32) (sl sk : Fin 8 → EReal) (k v : FVec Ideal S272x64 .bf16)
    (q g : Vec Ideal S1x128x512 .bf16) (wq : Vec Ideal S64x128 .f32) (wk : Vec Ideal S1x64 .f32)
    (h : Fin 8) (d : Fin 64) (i : Fin 128) :
    unitOut (F := Ideal) clip sl sk k v q g wq wk (ix3 0 i ⟨64 * h.val + d.val, by omega⟩)
      = attend2 (fun j => qkDot (fun e => k (ix2 j e)) (fun e => q (ix3 0 i ⟨64 * h.val + e.val, by omega⟩))
            (fun e => wk (ix2 0 e)) (fun e => wq (ix2 e i) * (Named.named κ "slope5" 0x3E38AA3B#32 : Ideal .f32))
            - sl h * clip (ix2 j i))
          (sk h * (Named.named κ "log2e" 0x3FB8AA3B#32 : Ideal .f32)) (fun j => v (ix2 j d))
        * (g (ix3 0 i ⟨64 * h.val + d.val, by omega⟩) * Ideal.logistic (g (ix3 0 i ⟨64 * h.val + d.val, by omega⟩))) := by
  have hw : ∀ e, queryWeights wq (ix2 e i) = wq (ix2 e i) * Named.named κ "slope5" 0x3E38AA3B#32 := by
    intro e; pointwise [queryWeights]
  unfold unitOut
  simp only [gated_at, unitRows_at, headSums_at, headExp_at, headInv_at, headScores_at, headCols_at, rawScores_at,
    normKeys_at, queryCols_at, hw]
  rfl

end Cert.Proof.Attn

end
-- ==== Proof.Clip.lean ====
/- THE CLIPPED DISTANCES AND THE NAMED CONSTANTS: which keys a row looks at, and how far they are. -/
module

public import proofs.«01_k».proof.Proof.Read

@[expose] public section

set_option maxRecDepth 16384

noncomputable section

namespace Cert.Proof.Attn

open Cert.KernelIdeal Cert.KernelIdeal.Gen Idealize.ShloMosaic Idealize.ShloMosaic.TcCoe

/-- The constant named `far` is plus infinity. -/
theorem far_eq : (Named.named κ "far" 0x7149F2CA#32 : Ideal .f32) = (⊤ : EReal) :=
  IdealRules.named_const.ideal_named_scalar κ "far" _ _ rfl

/-- log2 e. -/
def log2e : EReal := (((Real.log 2)⁻¹ : ℝ) : EReal)

/-- The constant named `log2e` is that number. -/
theorem log2e_eq : (Named.named κ "log2e" 0x3FB8AA3B#32 : Ideal .f32) = log2e :=
  IdealRules.named_const.ideal_named_scalar κ "log2e" _ _ rfl

/-- The scale of the queries is log2 e over 8. -/
theorem scale_eq : (Named.named κ "slope5" 0x3E38AA3B#32 : Ideal .f32) = (((1 / 8) * (Real.log 2)⁻¹ : ℝ) : EReal) :=
  IdealRules.named_const.ideal_named_scalar κ "slope5" _ _ rfl

/-- The slopes of the sixteen heads as real numbers: 2 to the power -(h+1)/2, the odd halves rounded to 24 bits. -/
def slopeReal (h : Nat) : ℝ := if h % 2 = 0 then 11863283 / (16777216 * 2 ^ (h / 2)) else 1 / 2 ^ (h / 2 + 1)

/-- The named slopes are the real ones times log2 e. -/
theorem slopes_eq (a : Fin 2) (g : Fin 8) :
    (slopes a g : Ideal .f32) = ((slopeReal (8 * a.val + g.val) * (Real.log 2)⁻¹ : ℝ) : EReal) := by
  obtain ⟨a, ha⟩ := a
  obtain ⟨g, hg⟩ := g
  interval_cases a <;> interval_cases g <;>
    exact (IdealRules.named_const.ideal_named_scalar κ _ _ _ rfl).trans (by norm_num [slopeReal])

/-- The row, in the whole array, of key `j` of a unit of block `b`. -/
def keyRow (b : Nat) (j : Fin 272) : Nat :=
  if j.val < 16 then 240 + j.val else if j.val < 144 then 128 * (b - 1) + (j.val - 16) else 128 * b + (j.val - 144)

/-- Row `r` looks at key `j` of its unit, which stands in row `t`: no later row, and of the band only the 128 last rows,
    none of the meta tokens' or before. -/
def looked (r : Nat) (j : Fin 272) (t : Nat) : Prop := t ≤ r ∧ (16 ≤ j.val → 256 ≤ t ∧ r < t + 128)

instance (r : Nat) (j : Fin 272) (t : Nat) : Decidable (looked r j t) := by unfold looked; infer_instance

/-- The distance clipped at 128, infinite where the key is not looked at. -/
def clipAt (r : Nat) (j : Fin 272) (t : Nat) : EReal := if looked r j t then (((min (r - t) 128 : ℕ) : ℝ) : EReal) else ⊤

/-- A small word clipped at 128, as a number. -/
theorem clipWord {w : BitVec 32} {m : Nat} (hw : w.toInt = (m : Int)) :
    FloatOps.sitofp (F := Ideal) .f32 (IntOp.minsi w 128#32) = (((min m 128 : ℕ) : ℝ) : EReal) := by
  have e : (IntOp.minsi w 128#32).toInt = ((min m 128 : ℕ) : Int) := by
    unfold IntOp.minsi
    rw [BitVec.slt_eq_decide, hw]
    by_cases hm : (m : Int) < 128
    · rw [if_pos (by simpa using hm), hw]; omega
    · rw [if_neg (by simpa using hm)]; show (128 : Int) = _; omega
  show (((IntOp.minsi w 128#32).toInt : ℝ) : EReal) = _
  rw [e]; norm_cast

/-- A selection between a clipped word and `far`, when the condition and the word are known. -/
theorem clipSel {p : Prop} [Decidable p] {c : BitVec 1} {w : BitVec 32} {m : Nat} (hc : c = 1 ↔ p)
    (hw : p → w.toInt = (m : Int)) :
    Scalar.select c (FloatOps.sitofp (F := Ideal) .f32 (IntOp.minsi w 128#32)) (Named.named κ "far" 0x7149F2CA#32)
      = if p then (((min m 128 : ℕ) : ℝ) : EReal) else ⊤ := by
  unfold Scalar.select
  by_cases h : p
  · rw [if_pos (hc.2 h), if_pos h]
    exact clipWord (hw h)
  · rw [if_neg (fun hh => h (hc.1 hh)), if_neg h]; exact far_eq

/-- A sum of small words is the sum of their values. -/
theorem wadd {x y : BitVec 32} {a b : Int} (hx : x.toInt = a) (hy : y.toInt = b) (h : -1000000 < a + b ∧ a + b < 1000000) :
    (IntOp.addi x y).toInt = a + b := by
  unfold IntOp.addi
  rw [BitVec.toInt_add, hx, hy, Int.bmod_def]; omega

/-- A difference of small words is the difference of their values. -/
theorem wsub {x y : BitVec 32} {a b : Int} (hx : x.toInt = a) (hy : y.toInt = b) (h : -1000000 < a - b ∧ a - b < 1000000) :
    (IntOp.subi x y).toInt = a - b := by
  unfold IntOp.subi
  rw [BitVec.toInt_sub, hx, hy, Int.bmod_def]; omega

/-- A product of small words is the product of their values. -/
theorem wmul {x y : BitVec 32} {a b : Int} (hx : x.toInt = a) (hy : y.toInt = b) (h : -1000000 < a * b ∧ a * b < 1000000) :
    (IntOp.muli x y).toInt = a * b := by
  unfold IntOp.muli
  rw [BitVec.toInt_mul, hx, hy, Int.bmod_def]
  generalize a * b = c at *
  omega

/-- A small natural number as a word. -/
theorem wnat {m : Nat} (hm : m < 1000000) : (BitVec.ofNat 32 m).toInt = (m : Int) :=
  WordCmp.toInt_ofNat_of_lt (w := 32) (by omega)

/-- The value of the word that counts the blocks. -/
theorem blockNo_toInt (i : grid0.Coords) (sub : Nat) (hs : sub < 5) :
    (blockNo i sub).toInt = ((5 * (i 1).val + sub : Nat) : Int) - 1 := by
  have hi : (i 1).val < 26 := (i 1).isLt
  unfold blockNo
  rw [show ((5 * (i 1).val + sub : Nat) : Int) - 1 = ((i 1).val : Int) * 5 + sub - 1 by push_cast; ring]
  exact wsub (wadd (wmul (wnat (by omega)) rfl (by omega)) (wnat (by omega)) (by omega)) rfl (by omega)

/-- THE CLIPPED DISTANCES READ AT AN INDEX. -/
theorem clipDist_at (n : BitVec 32) (b : Nat) (hb : b < 130) (hn : n.toInt = (b : Int) - 1) (j : Fin 272) (i : Fin 128) :
    clipDist (F := Ideal) n (ix2 j i) = clipAt (128 * b + i.val) j (keyRow b j) := by
  have hj := j.isLt
  have hi := i.isLt
  have wi := wnat (m := i.val) (by omega)
  have both : ∀ p q : Prop, ∀ [Decidable p] [Decidable q],
      IntOp.andi (BitVec.ofBool (decide p)) (BitVec.ofBool (decide q)) = 1 ↔ p ∧ q := by
    intro p q _ _
    rw [WordCmp.andi_ofBool, WordCmp.ofBool_eq_one_iff']; simp
  have one : ∀ p : Prop, ∀ [Decidable p], BitVec.ofBool (decide p) = 1 ↔ p := by
    intro p _
    rw [WordCmp.ofBool_eq_one_iff']; simp
  have wm : (IntOp.subi (IntOp.addi (Scalar.muli n 128#32) (BitVec.ofNat 32 i.val))
      (IntOp.addi (112#32) (BitVec.ofNat 32 j.val))).toInt = ((b : Int) - 1) * 128 + i.val - (112 + j.val) :=
    wsub (wadd (wmul hn rfl (by omega)) wi (by omega)) (wadd rfl (wnat (by omega)) (by omega)) (by omega)
  pointwise [clipDist]
  split_ifs with h1 h2
  · refine (clipSel (p := looked (128 * b + i.val) j (keyRow b j)) (m := 128 * b + i.val - keyRow b j) ?_ ?_)
    · rw [WordCmp.cmpi_sge_eq, one, wm]
      show (0 : Int) ≤ _ ↔ _
      unfold looked keyRow; rw [if_pos h1]; omega
    · unfold looked keyRow; rw [if_pos h1, wm]; omega
  · refine (clipSel (p := looked (128 * b + i.val) j (keyRow b j)) (m := 128 * b + i.val - keyRow b j) ?_ ?_)
    · rw [WordCmp.cmpi_sgt_eq, WordCmp.scalar_cmpi_eq, WordCmp.cmpi_sge_eq, both, hn, wi, wnat (by omega)]
      show _ ∧ (2 : Int) ≤ _ ↔ _
      unfold looked keyRow; rw [if_neg h1, if_pos (by omega)]; omega
    · unfold looked keyRow; rw [if_neg h1, if_pos (by omega)]; intro hl
      rw [wsub (wadd (show (128#32).toInt = 128 from rfl) wi (by omega)) (wnat (by omega)) (by omega)]; omega
  · refine (clipSel (p := looked (128 * b + i.val) j (keyRow b j)) (m := 128 * b + i.val - keyRow b j) ?_ ?_)
    · rw [WordCmp.cmpi_sle_eq, WordCmp.scalar_cmpi_eq, WordCmp.cmpi_sge_eq, both, hn, wi, wnat (by omega)]
      show _ ∧ (1 : Int) ≤ _ ↔ _
      unfold looked keyRow; rw [if_neg h1, if_neg (by omega)]; omega
    · unfold looked keyRow; rw [if_neg h1, if_neg (by omega)]; intro hl
      rw [wsub wi (wnat (by omega)) (by omega)]; omega

end Cert.Proof.Attn

end
-- ==== Proof.Core.lean ====
/- THE EQUATION OF THE TWO SOFTMAXES over the extended reals: the base-2 softmax of scores that carry the factor log2 e,
   normalised after the values' sum, is the natural softmax of the plain scores, normalised before it. -/
module

public import proofs.«01_k».proof.Proof.Clip

@[expose] public section

noncomputable section

namespace Cert.Proof.Attn

open Idealize.ShloMosaic

/-- A real number among the extended ones. -/
def IsReal (x : EReal) : Prop := ∃ r : ℝ, x = r

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

/-- What is neither infinity is real. -/
theorem isReal_of_ne {x : EReal} (h : x ≠ ⊤) (h' : x ≠ ⊥) : IsReal x := ⟨x.toReal, (EReal.coe_toReal h h').symm⟩

/-- A sum of reals, as the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} {s : Finset ι} {f : ι → EReal} (h : ∀ i, IsReal (f i)) : IsReal (∑ i ∈ s, f i) := by
  choose g hg using h
  exact ⟨∑ i ∈ s, g i, by simp only [hg, coe_sum]⟩

theorem ofBits_64 : Ideal.ofBits .f32 0x42800000#32 = ((64 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_eps : Ideal.ofBits .f32 0x358637BD#32 = ((8796093 / 8796093022208 : ℝ) : EReal) := by
  simp [Ideal.ofBits, Ideal.ieee, -EReal.coe_mul]; norm_num
theorem ofBits_negInf : Ideal.ofBits .f32 0xFF800000#32 = (⊥ : EReal) := by
  simp [Ideal.ofBits, Ideal.ieee]

/-- A square is not negative. -/
theorem mul_self_nonneg' (x : EReal) : 0 ≤ x * x := by
  induction x with
  | bot => simp
  | top => simp
  | coe r => rw [← EReal.coe_mul]; exact_mod_cast mul_self_nonneg r

/-- A number times the reciprocal root mean square of its row is real, whatever the row holds. -/
theorem invRms_real (x : Fin 64 → EReal) (d : Fin 64) : IsReal (x d * invRms x) := by
  unfold invRms
  rw [ofBits_64, ofBits_eps]
  by_cases h : ∀ k, IsReal (x k)
  · choose f hf using h
    simp only [hf, ← EReal.coe_mul, ← coe_sum]
    rw [Ideal.div_coe (by norm_num), ← EReal.coe_mul, ← EReal.coe_add, Ideal.rsqrt_coe]
    have hp : 0 < (∑ k, f k * f k) * (1 / 64) + 8796093 / 8796093022208 := by
      have : 0 ≤ ∑ k, f k * f k := Finset.sum_nonneg fun k _ => mul_self_nonneg _
      positivity
    rw [if_neg (not_lt.2 hp.le), if_neg hp.ne', ← EReal.coe_mul]
    exact ⟨_, rfl⟩
  · obtain ⟨k, hk⟩ := not_forall.1 h
    have hkk : x k * x k = ⊤ := by
      induction hx : x k with
      | bot => simp
      | top => simp
      | coe r => exact absurd ⟨r, hx⟩ hk
    have hs : ∑ k, x k * x k = ⊤ := by
      refine top_le_iff.1 ?_
      rw [← hkk]
      exact Finset.single_le_sum (f := fun k => x k * x k) (fun i _ => mul_self_nonneg' _) (Finset.mem_univ k)
    rw [hs, Ideal.div_coe (by norm_num), EReal.top_mul_coe_of_pos (by norm_num), EReal.top_add_coe, Ideal.rsqrt_top, mul_zero]
    exact ⟨0, rfl⟩

theorem log2_pos : 0 < (Real.log 2)⁻¹ := inv_pos.2 (Real.log_pos one_lt_two)

/-- The product of a key and a query is real when the weights are. -/
theorem qkDot_real (k q wk wq : Fin 64 → EReal) (hk : ∀ d, IsReal (wk d)) (hq : ∀ d, IsReal (wq d)) : IsReal (qkDot k q wk wq) :=
  IsReal.sum fun d => ((invRms_real k d).mul (hk d)).mul ((invRms_real q d).mul (hq d))

/-- A real factor of the queries' weights is a factor of the product. -/
theorem qkDot_scale (k q wk wq : Fin 64 → EReal) (hk : ∀ d, IsReal (wk d)) (hq : ∀ d, IsReal (wq d)) (s : ℝ) :
    qkDot k q wk (fun d => wq d * (s : EReal)) = (s : EReal) * qkDot k q wk wq := by
  choose a ha using fun d => (invRms_real k d).mul (hk d)
  choose b hb using fun d => (invRms_real q d).mul (hq d)
  unfold qkDot
  simp only [← mul_assoc, ha]
  simp only [mul_assoc, ← mul_assoc (q _), hb, ← EReal.coe_mul, ← coe_sum]
  congr 1
  rw [Finset.mul_sum]
  exact Finset.sum_congr rfl fun d _ => by ring

/-- Multiplication by log2 e keeps the order. -/
theorem log2e_mono : Monotone fun x : EReal => log2e * x :=
  fun _ _ h => mul_le_mul_of_nonneg_left h (EReal.coe_nonneg.2 log2_pos.le)

theorem log2e_bot : log2e * ⊥ = ⊥ := EReal.coe_mul_bot_of_pos log2_pos

/-- The greatest of the scaled scores is the scaled greatest. -/
theorem topScore_scale {n : Nat} (T : Fin n → EReal) (z : EReal) :
    topScore (fun j => log2e * T j) (log2e * z) = log2e * topScore T z := by
  unfold topScore
  rw [ofBits_negInf, log2e_mono.map_max]
  congr 1
  have h := Finset.fold_hom (op := max) (op' := max) (s := Finset.univ) (f := T) (b := ⊥) (m := fun x : EReal => log2e * x)
    (fun x y => log2e_mono.map_max)
  simp only [log2e_bot] at h
  exact h

/-- The base-2 exponential of a scaled difference is the natural one of the difference. -/
theorem exp2_scale {x : EReal} (hx : x ≠ ⊤) (M : ℝ) : Ideal.exp2 (log2e * x - log2e * (M : EReal)) = Ideal.exp (x - M) := by
  have hm : log2e * (M : EReal) = (((Real.log 2)⁻¹ * M : ℝ) : EReal) := (EReal.coe_mul _ _).symm
  induction x with
  | top => exact absurd rfl hx
  | bot => rw [log2e_bot, hm, EReal.bot_sub, EReal.bot_sub]; rfl
  | coe r =>
    rw [hm, show log2e * (r : EReal) = (((Real.log 2)⁻¹ * r : ℝ) : EReal) from (EReal.coe_mul _ _).symm, ← EReal.coe_sub,
      ← EReal.coe_sub, Ideal.exp2_coe, Ideal.exp_coe]
    congr 1
    show (2 : ℝ) ^ ((Real.log 2)⁻¹ * r - (Real.log 2)⁻¹ * M) = Real.exp (r - M)
    rw [Real.rpow_def_of_pos two_pos]
    congr 1
    have := (Real.log_pos one_lt_two).ne'
    field_simp

/-- The exponential of a number that is not plus infinity less a real is a real, not negative, and positive unless the
    number is minus infinity. -/
theorem exp_real {x : EReal} (hx : x ≠ ⊤) (M : ℝ) : ∃ e : ℝ, 0 ≤ e ∧ (x ≠ ⊥ → 0 < e) ∧ Ideal.exp (x - M) = e := by
  induction x with
  | top => exact absurd rfl hx
  | bot => exact ⟨0, le_refl _, fun h => absurd rfl h, by rw [EReal.bot_sub]; rfl⟩
  | coe r => exact ⟨Real.exp (r - M), (Real.exp_pos _).le, fun _ => Real.exp_pos _, by rw [← EReal.coe_sub, Ideal.exp_coe]⟩

/-- A positive real factor goes into a sum. -/
theorem sum_mul_pos {ι : Type} (s : Finset ι) (f : ι → EReal) {r : ℝ} (hr : 0 ≤ r) : (∑ i ∈ s, f i) * (r : EReal) = ∑ i ∈ s, f i * r := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- The natural softmax with a sink, normalised before the sum: what the reference computes. -/
def attendE {n : Nat} (T : Fin n → EReal) (z : EReal) (v : Fin n → EReal) : EReal :=
  ∑ j, v j * Ideal.div (Ideal.exp (T j - topScore T z)) ((∑ j, Ideal.exp (T j - topScore T z)) + Ideal.exp (z - topScore T z))

/-- The top score is real, when no score is plus infinity and one is real. -/
theorem topScore_real {n : Nat} (T : Fin n → EReal) (z : EReal) (hT : ∀ j, T j ≠ ⊤) (hz : z ≠ ⊤) (hex : ∃ j, T j ≠ ⊥) :
    IsReal (topScore T z) := by
  obtain ⟨j0, hj0⟩ := hex
  apply isReal_of_ne
  · unfold topScore
    rw [ofBits_negInf]
    refine (max_lt ((Finset.fold_max_lt ⊤).2 ⟨bot_lt_top, fun j _ => lt_top_iff_ne_top.2 (hT j)⟩) (lt_top_iff_ne_top.2 hz)).ne
  · refine (lt_of_lt_of_le (bot_lt_iff_ne_bot.2 hj0) (le_trans ?_ (le_max_left _ _))).ne'
    exact (Finset.le_fold_max _).2 (Or.inr ⟨j0, Finset.mem_univ _, le_refl _⟩)

/-- The exponentials are not negative reals, and those of the scores have a positive sum. -/
theorem exps_real {n : Nat} (T : Fin n → EReal) (z : EReal) (hT : ∀ j, T j ≠ ⊤) (hz : z ≠ ⊤) (hex : ∃ j, T j ≠ ⊥) :
    ∃ (e : Fin n → ℝ) (s : ℝ), (∀ j, Ideal.exp (T j - topScore T z) = e j) ∧ Ideal.exp (z - topScore T z) = s ∧ 0 < (∑ j, e j) + s := by
  obtain ⟨M, hM⟩ := topScore_real T z hT hz hex
  obtain ⟨j0, hj0⟩ := hex
  rw [hM]
  choose e he0 hep he using fun j => exp_real (hT j) M
  obtain ⟨s, hs0, -, hs⟩ := exp_real hz M
  exact ⟨e, s, he, hs, add_pos_of_pos_of_nonneg (Finset.sum_pos' (fun j _ => he0 j) ⟨j0, Finset.mem_univ _, hep j0 hj0⟩) hs0⟩

/-- A key of score minus infinity has no weight. -/
theorem weight_bot {n : Nat} (T : Fin n → EReal) (z : EReal) (hT : ∀ j, T j ≠ ⊤) (hz : z ≠ ⊤) (hex : ∃ j, T j ≠ ⊥) :
    Ideal.div (Ideal.exp (⊥ - topScore T z)) ((∑ j, Ideal.exp (T j - topScore T z)) + Ideal.exp (z - topScore T z)) = 0 := by
  obtain ⟨e, s, he, hs, hD⟩ := exps_real T z hT hz hex
  simp only [he, hs, ← coe_sum, ← EReal.coe_add, Ideal.div_coe hD.ne']
  rw [EReal.bot_sub]
  exact zero_mul _

/-- THE EQUATION, when no score is plus infinity and one is real. -/
theorem attend2_eq {n : Nat} (T : Fin n → EReal) (z : EReal) (v : Fin n → EReal) (hT : ∀ j, T j ≠ ⊤) (hz : z ≠ ⊤)
    (hex : ∃ j, T j ≠ ⊥) : attend2 (fun j => log2e * T j) (log2e * z) v = attendE T z v := by
  obtain ⟨M, hM⟩ := topScore_real T z hT hz hex
  obtain ⟨e, s, he, hs, hD⟩ := exps_real T z hT hz hex
  unfold attend2 attendE
  simp only [he, hs, ← coe_sum, ← EReal.coe_add]
  rw [hM] at he hs
  simp only [topScore_scale, hM, exp2_scale (hT _), exp2_scale hz, he, hs, ← coe_sum, ← EReal.coe_add]
  simp only [Ideal.div_coe hD.ne', Ideal.ofBits_one_f32, one_mul]
  have he0 : ∀ j, 0 ≤ e j := fun j => by
    obtain ⟨r, hr, -, h⟩ := exp_real (hT j) M
    have : e j = r := EReal.coe_eq_coe_iff.1 ((he j).symm.trans h)
    exact this ▸ hr
  rw [sum_mul_pos _ _ (by positivity)]
  exact Finset.sum_congr rfl fun j _ => mul_assoc _ _ _

end Cert.Proof.Attn

end
-- ==== Proof.KernelBlock.lean ====
/- A BLOCK OF THE RESULT: what the kernel's ten stores put into an output block, as a function of the argument arrays. -/
module

public import proofs.«01_k».proof.Proof.Core

@[expose] public section

set_option maxRecDepth 16384

noncomputable section

namespace Cert.Proof.Attn

open Cert.KernelIdeal Cert.KernelIdeal.Gen Idealize.ShloMosaic Idealize.ShloMosaic.TcCoe

theorem keyRow_lt (b : Fin 130) (j : Fin 272) : keyRow b.val j < 16640 := by unfold keyRow; split_ifs <;> omega

/-- Row `i` of the array's block `b` of 128 rows. -/
def rowAt (b : Fin 130) (i : Fin 128) : Fin 16640 := ⟨128 * b.val + i.val, by omega⟩

/-- The array's row that key `j` of block `b` is read from. -/
def keyAt (b : Fin 130) (j : Fin 272) : Fin 16640 := ⟨keyRow b.val j, keyRow_lt b j⟩

/-- Component `d` of query head `h` of key head `a`, among the 1024 columns. -/
def colAt (a : Fin 2) (h : Fin 8) (d : Fin 64) : Fin 1024 := ⟨512 * a.val + 64 * h.val + d.val, by omega⟩

/-- Component `d` of key head `a`, among the 256 columns of keys and values; value head `a` is head `2 + a`. -/
def headAt (a : Fin 4) (d : Fin 64) : Fin 256 := ⟨64 * a.val + d.val, by omega⟩

/-- An element of the kernel's result, from the argument arrays. -/
def kernelAt (q : Vec Ideal S2x16640x1024 .bf16) (kv : Vec Ideal S2x16640x256 .bf16) (g : Vec Ideal S2x16640x1024 .bf16)
    (sk : Vec Ideal S16 .f32) (wq wk : Vec Ideal S1x64 .f32)
    (s : Fin 2) (b : Fin 130) (i : Fin 128) (a : Fin 2) (h : Fin 8) (d : Fin 64) : EReal :=
  attend2 (fun j => qkDot (fun e => kv (ix3 s (keyAt b j) (headAt ⟨a.val, by omega⟩ e)))
        (fun e => q (ix3 s (rowAt b i) (colAt a h e))) (fun e => wk (ix2 0 e))
        (fun e => wq (ix2 0 e) * (Named.named κ "slope5" 0x3E38AA3B#32 : Ideal .f32))
      - slopes (F := Ideal) a h * clipAt (128 * b.val + i.val) j (keyRow b.val j))
    (sk (ix1 ⟨8 * a.val + h.val, by omega⟩) * (Named.named κ "log2e" 0x3FB8AA3B#32 : Ideal .f32))
    (fun j => kv (ix3 s (keyAt b j) (headAt ⟨2 + a.val, by omega⟩ d)))
  * (g (ix3 s (rowAt b i) (colAt a h d)) * Ideal.logistic (g (ix3 s (rowAt b i) (colAt a h d))))

section

variable {x0 : Vec Ideal S16 .f32} {x1 : Vec Ideal S1x640x1024 .bf16} {x2 : Vec Ideal S1x16x256 .bf16} {x3 : Vec Ideal S1x128x256 .bf16}
  {x4 : Vec Ideal S1x640x256 .bf16} {x5 : Vec Ideal S1x640x1024 .bf16} {x6 : Vec Ideal S64x128 .f32} {x7 : Vec Ideal S1x64 .f32}
  {q : Vec Ideal S2x16640x1024 .bf16} {kv : Vec Ideal S2x16640x256 .bf16} {gate : Vec Ideal S2x16640x1024 .bf16}
  {sk : Vec Ideal S16 .f32} {wq wk : Vec Ideal S1x64 .f32}

/-- The three parts of a unit's keys, read at a row. -/
theorem keyRows_at (a : Vec Ideal S1x16x64 .bf16) (b c : Vec Ideal S1x128x64 .bf16) (j : Fin 272) (e : Fin 64) :
    keyRows a b c (ix2 j e) = if h : j.val < 16 then a (ix3 0 ⟨j.val, h⟩ e)
      else if h' : j.val < 144 then b (ix3 0 ⟨j.val - 16, by omega⟩ e) else c (ix3 0 ⟨j.val - 144, by omega⟩ e) := by
  pointwise [keyRows]
  by_cases h : j.val < 16
  · rw [dif_pos h, dif_pos h]
  · rw [dif_neg h, dif_neg h]
    by_cases h' : j.val < 144
    · rw [dif_pos h', dif_pos (by omega)]
    · rw [dif_neg h', dif_neg (by omega)]
      exact congrArg (fun z => c (ix3 0 z e)) (Fin.ext (by show j.val - 16 - 128 = j.val - 144; omega))

/-- The rows of `unitKeys` are rows of the argument array. -/
theorem unitKeys_at (s : Fin 2) (n sub : Nat) (hn : n < 26) (hs : sub < 5) (a : Fin 4)
    (h2 : ∀ r c, x2 (ix3 0 r c) = kv (ix3 s ⟨240 + r.val, by omega⟩ c))
    (h3 : ∀ r c, x3 (ix3 0 r c) = kv (ix3 s ⟨128 * (5 * n - 1) + r.val, by omega⟩ c))
    (h4 : ∀ r c, x4 (ix3 0 r c) = kv (ix3 s ⟨640 * n + r.val, by omega⟩ c)) (j : Fin 272) (e : Fin 64) :
    unitKeys x2 x3 x4 hs a.isLt (ix2 j e) = kv (ix3 s (keyAt ⟨5 * n + sub, by omega⟩ j) (headAt a e)) := by
  have hl2 : ∀ r : Fin 16, View.ld x2 (Rect.unit (s := S1x16x256) ![0, 0, 64 * a.val] S1x16x64.size (inbMeta a.isLt)) (ix3 0 r e)
      = kv (ix3 s ⟨240 + r.val, by omega⟩ (headAt a e)) := by
    intro r
    rw [← h2]
    exact congrArg x2 (funext fun b => Fin.ext (by
      match b with
      | ⟨0, _⟩ => show 0 + 1 * 0 = 0; omega
      | ⟨1, _⟩ => show 0 + 1 * r.val = r.val; omega
      | ⟨2, _⟩ => show 64 * a.val + 1 * e.val = 64 * a.val + e.val; omega))
  have hl4 : ∀ (k : Nat) (hk : k < 5) (r : Fin 128), View.ld x4 (Rect.unit (s := S1x640x256) ![0, 128 * k, 64 * a.val] S1x128x64.size (inb128 hk a.isLt)) (ix3 0 r e)
      = kv (ix3 s ⟨640 * n + 128 * k + r.val, by omega⟩ (headAt a e)) := by
    intro k hk r
    have := h4 ⟨128 * k + r.val, by omega⟩ (headAt a e)
    simp only [← Nat.add_assoc] at this
    rw [← this]
    exact congrArg x4 (funext fun b => Fin.ext (by
      match b with
      | ⟨0, _⟩ => show 0 + 1 * 0 = 0; omega
      | ⟨1, _⟩ => show 128 * k + 1 * r.val = 128 * k + r.val; omega
      | ⟨2, _⟩ => show 64 * a.val + 1 * e.val = 64 * a.val + e.val; omega))
  have hl3 : ∀ r : Fin 128, View.ld x3 (Rect.unit (s := S1x128x256) ![0, 0, 64 * a.val] S1x128x64.size (inbPrev a.isLt)) (ix3 0 r e)
      = kv (ix3 s ⟨128 * (5 * n - 1) + r.val, by omega⟩ (headAt a e)) := by
    intro r
    rw [← h3]
    exact congrArg x3 (funext fun b => Fin.ext (by
      match b with
      | ⟨0, _⟩ => show 0 + 1 * 0 = 0; omega
      | ⟨1, _⟩ => show 0 + 1 * r.val = r.val; omega
      | ⟨2, _⟩ => show 64 * a.val + 1 * e.val = 64 * a.val + e.val; omega))
  have hp : ∀ r : Fin 128, prevRows x3 x4 a.isLt sub hs (ix3 0 r e)
      = kv (ix3 s ⟨128 * (5 * n + sub - 1) + r.val, by omega⟩ (headAt a e)) := by
    intro r
    cases sub with
    | zero => exact hl3 r
    | succ k =>
      refine (hl4 k (by omega) r).trans (congrArg (fun z => kv (ix3 s z (headAt a e))) (Fin.ext ?_))
      show 640 * n + 128 * k + r.val = 128 * (5 * n + (k + 1) - 1) + r.val
      omega
  unfold unitKeys
  rw [keyRows_at]
  unfold keyAt keyRow
  split_ifs with h h'
  · rw [hl2]
  · rw [hp]
  · rw [hl4 sub hs]
    exact congrArg (fun z => kv (ix3 s z (headAt a e))) (Fin.ext (by
      show 640 * n + 128 * sub + (j.val - 144) = 128 * (5 * n + sub) + (j.val - 144); omega))

/-- A STORE READ AT AN INDEX: row `r`, head `h`, component `d` of the store of fifth `sub` and key head `a`. -/
theorem piece_at (c : grid0.Coords) (sub : Nat) (hs : sub < 5) (a : Fin 2) (s : Fin 2)
    (h0 : x0 = sk)
    (h1 : ∀ r k, x1 (ix3 0 r k) = q (ix3 s ⟨640 * (c 1).val + r.val, by have : (c 1).val < 26 := (c 1).isLt; omega⟩ k))
    (h2 : ∀ r k, x2 (ix3 0 r k) = kv (ix3 s ⟨240 + r.val, by omega⟩ k))
    (h3 : ∀ r k, x3 (ix3 0 r k) = kv (ix3 s ⟨128 * (5 * (c 1).val - 1) + r.val, by have : (c 1).val < 26 := (c 1).isLt; omega⟩ k))
    (h4 : ∀ r k, x4 (ix3 0 r k) = kv (ix3 s ⟨640 * (c 1).val + r.val, by have : (c 1).val < 26 := (c 1).isLt; omega⟩ k))
    (h5 : ∀ r k, x5 (ix3 0 r k) = gate (ix3 s ⟨640 * (c 1).val + r.val, by have : (c 1).val < 26 := (c 1).isLt; omega⟩ k))
    (h6 : ∀ e i, x6 (ix2 e i) = wq (ix2 0 e)) (h7 : x7 = wk)
    (r : Fin 128) (h : Fin 8) (d : Fin 64) :
    (piece x0 x1 x2 x3 x4 x5 x6 x7 c sub a.val hs a.isLt).2 (ix3 0 r ⟨64 * h.val + d.val, by omega⟩)
      = kernelAt q kv gate sk wq wk s ⟨5 * (c 1).val + sub, by have : (c 1).val < 26 := (c 1).isLt; omega⟩ r a h d := by
  have hc : (c 1).val < 26 := (c 1).isLt
  have row : ∀ (x : Vec Ideal S1x640x1024 .bf16) (y : Vec Ideal S2x16640x1024 .bf16)
      (_ : ∀ r k, x (ix3 0 r k) = y (ix3 s ⟨640 * (c 1).val + r.val, by omega⟩ k)) (e : Fin 64),
      View.ld x (Rect.unit (s := S1x640x1024) ![0, 128 * sub, 512 * a.val] S1x128x512.size (inb512 hs a.isLt)) (ix3 0 r ⟨64 * h.val + e.val, by omega⟩)
        = y (ix3 s (rowAt ⟨5 * (c 1).val + sub, by omega⟩ r) (colAt a h e)) := by
    intro x y hxy e
    have e1 := hxy ⟨128 * sub + r.val, by omega⟩ (colAt a h e)
    have e2 : (⟨640 * (c 1).val + (128 * sub + r.val), by omega⟩ : Fin 16640) = rowAt ⟨5 * (c 1).val + sub, by omega⟩ r :=
      Fin.ext (by show 640 * (c 1).val + (128 * sub + r.val) = 128 * (5 * (c 1).val + sub) + r.val; omega)
    rw [e2] at e1
    rw [← e1]
    exact congrArg x (funext fun b => Fin.ext (by
      match b with
      | ⟨0, _⟩ => show 0 + 1 * 0 = 0; omega
      | ⟨1, _⟩ => show 128 * sub + 1 * r.val = 128 * sub + r.val; omega
      | ⟨2, _⟩ => show 512 * a.val + 1 * (64 * h.val + e.val) = 512 * a.val + 64 * h.val + e.val; omega))
  have hsk : View.ld x0 (Rect.unit (s := S16) ![8 * a.val + h.val] S1.size (inbSink (by omega)))
      (Shape.Idx.first (numel1_S1.symm ▸ Nat.one_pos)) = sk (ix1 ⟨8 * a.val + h.val, by omega⟩) := by
    rw [h0]
    exact congrArg sk (funext fun b => by match b with | ⟨0, _⟩ => rfl)
  have hz : (![0, 0] : Fin 2 → Nat) = fun _ => 0 := funext fun b => by fin_cases b <;> rfl
  have hw6 : View.ld x6 (Rect.unit (s := S64x128) ![0, 0] S64x128.size inb_S64x128_S64x128_0_0) = x6 := View.ld_unit_zero hz _ _
  have hw7 : View.ld x7 (Rect.unit (s := S1x64) ![0, 0] S1x64.size inb_S1x64_S1x64_0_0) = x7 := View.ld_unit_zero hz _ _
  have hclip : ∀ j, clipDist (F := Ideal) (blockNo c sub) (ix2 j r) = clipAt (128 * (5 * (c 1).val + sub) + r.val) j (keyRow (5 * (c 1).val + sub) j) :=
    fun j => clipDist_at _ _ (by omega) ((blockNo_toInt c sub hs).trans (by push_cast; rfl)) j r
  unfold piece
  dsimp only
  rw [unitOut_at]
  unfold kernelAt
  rw [hw6, hw7, row x5 gate h5 d]
  simp only [row x1 q h1, hclip, h6, h7, hsk]
  simp only [unitKeys_at s (c 1).val sub hc hs ⟨a.val, by omega⟩ h2 h3 h4, unitKeys_at s (c 1).val sub hc hs ⟨2 + a.val, by omega⟩ h2 h3 h4]

end

end Cert.Proof.Attn
-- ==== Proof.KernelRun.lean ====
/- THE KERNEL'S RESULT ARRAY AS ONE FUNCTION OF ITS ARGUMENT ARRAYS (`kernelG`, `run`): each grid point writes a block of 640
   rows, made of ten stores; the blocks tile the array. -/
module

public import proofs.«01_k».proof.Proof.KernelBlock

@[expose] public section

set_option maxRecDepth 16384

noncomputable section

namespace Cert.Proof.Attn

open Cert.KernelIdeal Cert.KernelIdeal.Gen Cert.KernelIdeal.Value Idealize.ShloMosaic Idealize.ShloMosaic.TcCoe Idealize.SL.Sem

/-- The kernel's result array, from the argument arrays. -/
def kernelG (q : Vec Ideal S2x16640x1024 .bf16) (kv : Vec Ideal S2x16640x256 .bf16) (g : Vec Ideal S2x16640x1024 .bf16)
    (sk : Vec Ideal S16 .f32) (wq wk : Vec Ideal S1x64 .f32) : Vec Ideal S2x16640x1024 .bf16 := fun y =>
  have h1 : (y 1).val < 16640 := (y 1).isLt
  have h2 : (y 2).val < 1024 := (y 2).isLt
  kernelAt q kv g sk wq wk (y 0) ⟨(y 1).val / 128, by omega⟩ ⟨(y 1).val % 128, by omega⟩ ⟨(y 2).val / 512, by omega⟩
    ⟨(y 2).val % 512 / 64, by omega⟩ ⟨(y 2).val % 64, by omega⟩

/-- The result array read at a block's row and a head's component. -/
theorem kernelG_at (q : Vec Ideal S2x16640x1024 .bf16) (kv : Vec Ideal S2x16640x256 .bf16) (g : Vec Ideal S2x16640x1024 .bf16)
    (sk : Vec Ideal S16 .f32) (wq wk : Vec Ideal S1x64 .f32) (s : Fin 2) (b : Fin 130) (i : Fin 128) (a : Fin 2) (h : Fin 8)
    (d : Fin 64) : kernelG q kv g sk wq wk (ix3 s (rowAt b i) (colAt a h d)) = kernelAt q kv g sk wq wk s b i a h d := by
  have e1 : (128 * b.val + i.val) / 128 = b.val := by omega
  have e2 : (128 * b.val + i.val) % 128 = i.val := by omega
  have e3 : (512 * a.val + 64 * h.val + d.val) / 512 = a.val := by omega
  have e4 : (512 * a.val + 64 * h.val + d.val) % 512 / 64 = h.val := by omega
  have e5 : (512 * a.val + 64 * h.val + d.val) % 64 = d.val := by omega
  show kernelAt q kv g sk wq wk s ⟨(128 * b.val + i.val) / 128, _⟩ ⟨(128 * b.val + i.val) % 128, _⟩
    ⟨(512 * a.val + 64 * h.val + d.val) / 512, _⟩ ⟨(512 * a.val + 64 * h.val + d.val) % 512 / 64, _⟩
    ⟨(512 * a.val + 64 * h.val + d.val) % 64, _⟩ = _
  simp only [e1, e2, e3, e4, e5]

/-- Every index of the array is a row of a block and a component of a head. -/
theorem idx_split (y : S2x16640x1024.Idx) : ∃ s b i a h d, y = ix3 s (rowAt b i) (colAt a h d) := by
  have h1 : (y 1).val < 16640 := (y 1).isLt
  have h2 : (y 2).val < 1024 := (y 2).isLt
  refine ⟨y 0, ⟨(y 1).val / 128, by omega⟩, ⟨(y 1).val % 128, by omega⟩, ⟨(y 2).val / 512, by omega⟩,
    ⟨(y 2).val % 512 / 64, by omega⟩, ⟨(y 2).val % 64, by omega⟩, ?_⟩
  funext a; apply Fin.ext
  match a with
  | ⟨0, _⟩ => rfl
  | ⟨1, _⟩ => show (y 1).val = 128 * ((y 1).val / 128) + (y 1).val % 128; omega
  | ⟨2, _⟩ => show (y 2).val = 512 * ((y 2).val / 512) + 64 * ((y 2).val % 512 / 64) + (y 2).val % 64; omega

section

variable {x0 : Vec Ideal S16 .f32} {x1 : Vec Ideal S1x640x1024 .bf16} {x2 : Vec Ideal S1x16x256 .bf16} {x3 : Vec Ideal S1x128x256 .bf16}
  {x4 : Vec Ideal S1x640x256 .bf16} {x5 : Vec Ideal S1x640x1024 .bf16} {x6 : Vec Ideal S64x128 .f32} {x7 : Vec Ideal S1x64 .f32}
  {q : Vec Ideal S2x16640x1024 .bf16} {kv : Vec Ideal S2x16640x256 .bf16} {gate : Vec Ideal S2x16640x1024 .bf16}
  {sk : Vec Ideal S16 .f32} {wq wk : Vec Ideal S1x64 .f32}

/-- The block of an array that a grid point's output window shows. -/
def blockOf (c : grid0.Coords) (X : Vec Ideal S2x16640x1024 .bf16) : Vec Ideal S1x640x1024 .bf16 := fun y =>
  have h1 : (y 1).val < 640 := (y 1).isLt
  have hc : (c 1).val < 26 := (c 1).isLt
  X (ix3 (c 0) ⟨640 * (c 1).val + (y 1).val, by omega⟩ (y 2))

/-- A store holds its part of the result array's block. -/
theorem piece_block (c : grid0.Coords) (sub a : Nat) (hs : sub < 5) (ha : a < 2)
    (h0 : x0 = sk)
    (h1 : ∀ r k, x1 (ix3 0 r k) = q (ix3 (c 0) ⟨640 * (c 1).val + r.val, by have : (c 1).val < 26 := (c 1).isLt; omega⟩ k))
    (h2 : ∀ r k, x2 (ix3 0 r k) = kv (ix3 (c 0) ⟨240 + r.val, by omega⟩ k))
    (h3 : ∀ r k, x3 (ix3 0 r k) = kv (ix3 (c 0) ⟨128 * (5 * (c 1).val - 1) + r.val, by have : (c 1).val < 26 := (c 1).isLt; omega⟩ k))
    (h4 : ∀ r k, x4 (ix3 0 r k) = kv (ix3 (c 0) ⟨640 * (c 1).val + r.val, by have : (c 1).val < 26 := (c 1).isLt; omega⟩ k))
    (h5 : ∀ r k, x5 (ix3 0 r k) = gate (ix3 (c 0) ⟨640 * (c 1).val + r.val, by have : (c 1).val < 26 := (c 1).isLt; omega⟩ k))
    (h6 : ∀ e i, x6 (ix2 e i) = wq (ix2 0 e)) (h7 : x7 = wk) (x : S1x128x512.Idx) :
    (piece x0 x1 x2 x3 x4 x5 x6 x7 c sub a hs ha).2 x
      = blockOf c (kernelG q kv gate sk wq wk) ((piece x0 x1 x2 x3 x4 x5 x6 x7 c sub a hs ha).1.emb x) := by
  have hc : (c 1).val < 26 := (c 1).isLt
  have b0 : (x 0).val < 1 := (x 0).isLt
  have b1 : (x 1).val < 128 := (x 1).isLt
  have b2 : (x 2).val < 512 := (x 2).isLt
  have hx : x = ix3 0 ⟨(x 1).val, b1⟩ ⟨64 * ((x 2).val / 64) + (x 2).val % 64, by omega⟩ := by
    funext k; apply Fin.ext
    match k with
    | ⟨0, _⟩ => show (x 0).val = 0; omega
    | ⟨1, _⟩ => rfl
    | ⟨2, _⟩ => show (x 2).val = 64 * ((x 2).val / 64) + (x 2).val % 64; omega
  have key := piece_at (x0 := x0) (x1 := x1) (x2 := x2) (x3 := x3) (x4 := x4) (x5 := x5) (x6 := x6) (x7 := x7) c sub hs ⟨a, ha⟩ (c 0)
    h0 h1 h2 h3 h4 h5 h6 h7 ⟨(x 1).val, b1⟩ ⟨(x 2).val / 64, by omega⟩ ⟨(x 2).val % 64, by omega⟩
  refine (congrArg _ hx).trans (key.trans ((kernelG_at q kv gate sk wq wk (c 0) ⟨5 * (c 1).val + sub, by omega⟩ ⟨(x 1).val, b1⟩
    ⟨a, ha⟩ ⟨(x 2).val / 64, by omega⟩ ⟨(x 2).val % 64, by omega⟩).symm.trans ?_))
  refine congrArg (kernelG q kv gate sk wq wk) (funext fun k => Fin.ext ?_)
  match k with
  | ⟨0, _⟩ => rfl
  | ⟨1, _⟩ => show 128 * (5 * (c 1).val + sub) + (x 1).val = 640 * (c 1).val + (128 * sub + 1 * (x 1).val); omega
  | ⟨2, _⟩ => show 512 * a + 64 * ((x 2).val / 64) + (x 2).val % 64 = 512 * a + 1 * (x 2).val; omega

end

variable (m : (ℓ : Loc nD τ sig) → Buf (Elt Ideal) ℓ) (ρ : Dev nD → PrngReg)

/-- The block indices of the windows, at each grid point. -/
theorem idx_in : ∀ t : Fin cfg0.N, win0_0.index t (0 : Fin 1) = 0
    ∧ (win0_6.index t (0 : Fin 2) = 0 ∧ win0_6.index t (1 : Fin 2) = 0)
    ∧ (win0_7.index t (0 : Fin 2) = 0 ∧ win0_7.index t (1 : Fin 2) = 0)
    ∧ (win0_1.index t (0 : Fin 3) = (grid0.coords t 0).val ∧ win0_1.index t (1 : Fin 3) = (grid0.coords t 1).val ∧ win0_1.index t (2 : Fin 3) = 0)
    ∧ (win0_2.index t (0 : Fin 3) = (grid0.coords t 0).val ∧ win0_2.index t (1 : Fin 3) = 15 ∧ win0_2.index t (2 : Fin 3) = 0)
    ∧ (win0_3.index t (0 : Fin 3) = (grid0.coords t 0).val ∧ win0_3.index t (1 : Fin 3) = 5 * (grid0.coords t 1).val - 1 ∧ win0_3.index t (2 : Fin 3) = 0)
    ∧ (win0_4.index t (0 : Fin 3) = (grid0.coords t 0).val ∧ win0_4.index t (1 : Fin 3) = (grid0.coords t 1).val ∧ win0_4.index t (2 : Fin 3) = 0)
    ∧ (win0_5.index t (0 : Fin 3) = (grid0.coords t 0).val ∧ win0_5.index t (1 : Fin 3) = (grid0.coords t 1).val ∧ win0_5.index t (2 : Fin 3) = 0)
    ∧ (win0_8.index t (0 : Fin 3) = (grid0.coords t 0).val ∧ win0_8.index t (1 : Fin 3) = (grid0.coords t 1).val ∧ win0_8.index t (2 : Fin 3) = 0) :=
  (by decide +kernel : ∀ t : Fin grid0.N, _)

/-- An index of the output window's block is this index of the array. -/
theorem emb8 (t : Fin cfg0.N) (y : S1x640x1024.Idx) : ((cfg0.win 8).blk t).view.emb y
    = ix3 (grid0.coords t 0) ⟨640 * (grid0.coords t 1).val + (y 1).val, by
        have : (grid0.coords t 1).val < 26 := (grid0.coords t 1).isLt; have : (y 1).val < 640 := (y 1).isLt; omega⟩ (y 2) := by
  obtain ⟨-, -, -, -, -, -, -, -, e0, e1, e2⟩ := idx_in t
  have b0 : (y 0).val < 1 := (y 0).isLt
  funext a; apply Fin.ext
  match a with
  | ⟨0, _⟩ => show win0_8.index t (0 : Fin 3) * 1 + 1 * (y 0).val = (grid0.coords t 0).val; omega
  | ⟨1, _⟩ => show win0_8.index t (1 : Fin 3) * 640 + 1 * (y 1).val = 640 * (grid0.coords t 1).val + (y 1).val; omega
  | ⟨2, _⟩ => show win0_8.index t (2 : Fin 3) * 1024 + 1 * (y 2).val = (y 2).val; omega

theorem iblk0 (c : Dev nD) (t : Fin cfg0.N) : iblk m c 0 t = V m c main_arg3 := by
  obtain ⟨e0, -⟩ := idx_in t
  funext j
  show V m c main_arg3 (((cfg0.win 0).blk t).view.emb j) = V m c main_arg3 j
  refine congrArg (V m c main_arg3) (funext fun a => Fin.ext ?_)
  match a with
  | ⟨0, _⟩ => show win0_0.index t (0 : Fin 1) * 16 + 1 * (j 0).val = (j 0).val; omega

theorem iblk6 (c : Dev nD) (t : Fin cfg0.N) : iblk m c 6 t = V m c main_v1 := by
  obtain ⟨-, ⟨e0, e1⟩, -⟩ := idx_in t
  funext j
  show V m c main_v1 (((cfg0.win 6).blk t).view.emb j) = V m c main_v1 j
  refine congrArg (V m c main_v1) (funext fun a => Fin.ext ?_)
  match a with
  | ⟨0, _⟩ => show win0_6.index t (0 : Fin 2) * 64 + 1 * (j 0).val = (j 0).val; omega
  | ⟨1, _⟩ => show win0_6.index t (1 : Fin 2) * 128 + 1 * (j 1).val = (j 1).val; omega

theorem iblk7 (c : Dev nD) (t : Fin cfg0.N) : iblk m c 7 t = V m c main_arg5 := by
  obtain ⟨-, -, ⟨e0, e1⟩, -⟩ := idx_in t
  funext j
  show V m c main_arg5 (((cfg0.win 7).blk t).view.emb j) = V m c main_arg5 j
  refine congrArg (V m c main_arg5) (funext fun a => Fin.ext ?_)
  match a with
  | ⟨0, _⟩ => show win0_7.index t (0 : Fin 2) * 1 + 1 * (j 0).val = (j 0).val; omega
  | ⟨1, _⟩ => show win0_7.index t (1 : Fin 2) * 64 + 1 * (j 1).val = (j 1).val; omega

theorem iblk1 (c : Dev nD) (t : Fin cfg0.N) (r : Fin 640) (k : Fin 1024) : iblk m c 1 t (ix3 0 r k)
    = V m c main_arg0 (ix3 (grid0.coords t 0) ⟨640 * (grid0.coords t 1).val + r.val, by
        have : (grid0.coords t 1).val < 26 := (grid0.coords t 1).isLt; omega⟩ k) := by
  obtain ⟨-, -, -, ⟨e0, e1, e2⟩, -⟩ := idx_in t
  show V m c main_arg0 (((cfg0.win 1).blk t).view.emb (ix3 0 r k)) = _
  refine congrArg (V m c main_arg0) (funext fun a => Fin.ext ?_)
  match a with
  | ⟨0, _⟩ => show win0_1.index t (0 : Fin 3) * 1 + 1 * 0 = (grid0.coords t 0).val; omega
  | ⟨1, _⟩ => show win0_1.index t (1 : Fin 3) * 640 + 1 * r.val = 640 * (grid0.coords t 1).val + r.val; omega
  | ⟨2, _⟩ => show win0_1.index t (2 : Fin 3) * 1024 + 1 * k.val = k.val; omega

theorem iblk2 (c : Dev nD) (t : Fin cfg0.N) (r : Fin 16) (k : Fin 256) : iblk m c 2 t (ix3 0 r k)
    = V m c main_arg1 (ix3 (grid0.coords t 0) ⟨240 + r.val, by omega⟩ k) := by
  obtain ⟨-, -, -, -, ⟨e0, e1, e2⟩, -⟩ := idx_in t
  show V m c main_arg1 (((cfg0.win 2).blk t).view.emb (ix3 0 r k)) = _
  refine congrArg (V m c main_arg1) (funext fun a => Fin.ext ?_)
  match a with
  | ⟨0, _⟩ => show win0_2.index t (0 : Fin 3) * 1 + 1 * 0 = (grid0.coords t 0).val; omega
  | ⟨1, _⟩ => show win0_2.index t (1 : Fin 3) * 16 + 1 * r.val = 240 + r.val; omega
  | ⟨2, _⟩ => show win0_2.index t (2 : Fin 3) * 256 + 1 * k.val = k.val; omega

theorem iblk3 (c : Dev nD) (t : Fin cfg0.N) (r : Fin 128) (k : Fin 256) : iblk m c 3 t (ix3 0 r k)
    = V m c main_arg1 (ix3 (grid0.coords t 0) ⟨128 * (5 * (grid0.coords t 1).val - 1) + r.val, by
        have : (grid0.coords t 1).val < 26 := (grid0.coords t 1).isLt; omega⟩ k) := by
  obtain ⟨-, -, -, -, -, ⟨e0, e1, e2⟩, -⟩ := idx_in t
  show V m c main_arg1 (((cfg0.win 3).blk t).view.emb (ix3 0 r k)) = _
  refine congrArg (V m c main_arg1) (funext fun a => Fin.ext ?_)
  match a with
  | ⟨0, _⟩ => show win0_3.index t (0 : Fin 3) * 1 + 1 * 0 = (grid0.coords t 0).val; omega
  | ⟨1, _⟩ => show win0_3.index t (1 : Fin 3) * 128 + 1 * r.val = 128 * (5 * (grid0.coords t 1).val - 1) + r.val; omega
  | ⟨2, _⟩ => show win0_3.index t (2 : Fin 3) * 256 + 1 * k.val = k.val; omega

theorem iblk4 (c : Dev nD) (t : Fin cfg0.N) (r : Fin 640) (k : Fin 256) : iblk m c 4 t (ix3 0 r k)
    = V m c main_arg1 (ix3 (grid0.coords t 0) ⟨640 * (grid0.coords t 1).val + r.val, by
        have : (grid0.coords t 1).val < 26 := (grid0.coords t 1).isLt; omega⟩ k) := by
  obtain ⟨-, -, -, -, -, -, ⟨e0, e1, e2⟩, -⟩ := idx_in t
  show V m c main_arg1 (((cfg0.win 4).blk t).view.emb (ix3 0 r k)) = _
  refine congrArg (V m c main_arg1) (funext fun a => Fin.ext ?_)
  match a with
  | ⟨0, _⟩ => show win0_4.index t (0 : Fin 3) * 1 + 1 * 0 = (grid0.coords t 0).val; omega
  | ⟨1, _⟩ => show win0_4.index t (1 : Fin 3) * 640 + 1 * r.val = 640 * (grid0.coords t 1).val + r.val; omega
  | ⟨2, _⟩ => show win0_4.index t (2 : Fin 3) * 256 + 1 * k.val = k.val; omega

theorem iblk5 (c : Dev nD) (t : Fin cfg0.N) (r : Fin 640) (k : Fin 1024) : iblk m c 5 t (ix3 0 r k)
    = V m c main_arg2 (ix3 (grid0.coords t 0) ⟨640 * (grid0.coords t 1).val + r.val, by
        have : (grid0.coords t 1).val < 26 := (grid0.coords t 1).isLt; omega⟩ k) := by
  obtain ⟨-, -, -, -, -, -, -, ⟨e0, e1, e2⟩, -⟩ := idx_in t
  show V m c main_arg2 (((cfg0.win 5).blk t).view.emb (ix3 0 r k)) = _
  refine congrArg (V m c main_arg2) (funext fun a => Fin.ext ?_)
  match a with
  | ⟨0, _⟩ => show win0_5.index t (0 : Fin 3) * 1 + 1 * 0 = (grid0.coords t 0).val; omega
  | ⟨1, _⟩ => show win0_5.index t (1 : Fin 3) * 640 + 1 * r.val = 640 * (grid0.coords t 1).val + r.val; omega
  | ⟨2, _⟩ => show win0_5.index t (2 : Fin 3) * 1024 + 1 * k.val = k.val; omega

/-- The host's array of query weights: weight `e` in every lane of row `e`. -/
theorem lanes_at (c : Dev nD) (e : Fin 64) (i : Fin 128) : V m c main_v1 (ix2 e i) = m ((c : Thread nD τ).loc main_arg4) (ix2 0 e) := by
  have : V m c main_v1 = broadcastInDim S64x128 ![0, 1] bcast_S64x1_S64x128_0_1 (shapeCast S64x1 (m ((c : Thread nD τ).loc main_arg4)) shapeCasts_S1x64_S64x1) := by
    rfl
  rw [this]
  pointwise []

variable (c : Dev nD)

/-- The result array of the arguments as launched. -/
abbrev finalG : Vec Ideal S2x16640x1024 .bf16 :=
  kernelG (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a grid point leaves in the output's staging buffer is its block of the result array. -/
theorem out_eq (t : Fin cfg0.N) : outsAt0 m c t = blockOf (grid0.coords t) (finalG m c) := by
  unfold outsAt0 out0_A_8
  rw [View.read_writes_junk_eq_canon]
  funext y
  refine View.canon_apply_of_pieces (blockOf (grid0.coords t) (finalG m c)) _ ?_ y
    (cover0_A_8 c _ _ _ _ _ _ _ _ _ _ _ _ _ _ _ _ _ _ _ _ _ _ _ _ _ _ _ y)
  rw [pieces_eq]
  simp only [Memref.IsWhole.read_unread]
  have P := fun (sub a : Nat) (hs : sub < 5) (ha : a < 2) => piece_block (q := m ((c : Thread nD τ).loc main_arg0))
    (kv := m ((c : Thread nD τ).loc main_arg1)) (gate := m ((c : Thread nD τ).loc main_arg2))
    (wq := m ((c : Thread nD τ).loc main_arg4)) (grid0.coords t) sub a hs ha
    ((iblk0 m c t).trans (V_main_arg3 m c)) (fun r k => (iblk1 m c t r k).trans (by rw [V_main_arg0]))
    (fun r k => (iblk2 m c t r k).trans (by rw [V_main_arg1])) (fun r k => (iblk3 m c t r k).trans (by rw [V_main_arg1]))
    (fun r k => (iblk4 m c t r k).trans (by rw [V_main_arg1])) (fun r k => (iblk5 m c t r k).trans (by rw [V_main_arg2]))
    (fun e i => (congrFun (iblk6 m c t) _).trans (lanes_at m c e i)) ((iblk7 m c t).trans (V_main_arg5 m c))
  intro p hp
  simp only [pieces, List.mem_cons, List.not_mem_nil, or_false] at hp
  rcases hp with h | h | h | h | h | h | h | h | h | h <;> subst h <;> exact P _ _ _ _

/-- What a grid point writes back is its block of the result array. -/
theorem flushed_eq (t : Fin cfg0.N) :
    (dats m 0 c).flushed 8 t = ((cfg0.win 8).blk t).view.read (Elt Ideal) (finalG m c) := by
  rw [flushed8, out_eq]
  funext y
  show blockOf (grid0.coords t) (finalG m c) y = finalG m c (((cfg0.win 8).blk t).view.emb y)
  rw [emb8]
  rfl

/-- Every pair of coordinates is a grid point. -/
theorem point_of : ∀ (s : Fin 2) (n : Fin 26), ∃ t : Fin cfg0.N, (grid0.coords t 0).val = s.val ∧ (grid0.coords t 1).val = n.val :=
  (by decide +kernel : ∀ (s : Fin 2) (n : Fin 26), ∃ t : Fin grid0.N, (grid0.coords t 0).val = s.val ∧ (grid0.coords t 1).val = n.val)

/-- Every index of the result array is in some point's block. -/
theorem covered (y : S2x16640x1024.Idx) :
    ∃ t : Fin cfg0.N, (cfg0.win 8).flush t = true ∧ y ∈ ((cfg0.win 8).blk t).view.set := by
  have h1 : (y 1).val < 16640 := (y 1).isLt
  obtain ⟨t, e0, e1⟩ := point_of (y 0) ⟨(y 1).val / 640, by omega⟩
  refine ⟨t, flush0_8 _, ?_⟩
  have h := ((cfg0.win 8).blk t).view.emb_mem_set (ix3 0 ⟨(y 1).val % 640, by omega⟩ (y 2))
  rw [emb8] at h
  refine Eq.mp (congrArg (· ∈ _) (funext fun a => Fin.ext ?_)) h
  match a with
  | ⟨0, _⟩ => exact e0
  | ⟨1, _⟩ =>
    show 640 * (grid0.coords t 1).val + (y 1).val % 640 = (y 1).val
    rw [e1]; show 640 * ((y 1).val / 640) + (y 1).val % 640 = (y 1).val; omega
  | ⟨2, _⟩ => rfl

/-- The result array after the run. -/
theorem final : (dats m 0 c).arrAt 8 cfg0.N = finalG m c :=
  (dats m 0 c).arrAt_eq_of_cover 8 (finalG m c) (fun t _ => flushed_eq m c t) covered

/-- The kernel's run with the result array at its function of the arguments. -/
theorem run : θ_run defs (onTc (τ := τ) (main (F := Ideal))) ⟨m, fun _ => 0, ρ⟩ fun r => ∀ c : Dev nD,
      r.2.mem ((c : Thread nD τ).loc main_v2) = finalG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Proof.Attn
-- ==== Proof.RefRead.lean ====
/- THE REFERENCE READ AT AN INDEX: the arrays before its scores, element by element. -/
module

public import proofs.«01_k».proof.Proof.KernelBlock
public import proofs.«01_k».proof.Proof.Gen.ReferenceIdeal.Run

@[expose] public section

set_option maxRecDepth 16384

noncomputable section

namespace Cert.Proof.Ref

open Cert.ReferenceIdeal Cert.ReferenceIdeal.Gen Cert.ReferenceIdeal.Value Idealize.ShloMosaic Idealize.ShloMosaic.TcCoe
open Cert.Proof.Attn (invRms headAt colAt rowAt)

variable (V : Valuation τ sig (Elt Ideal))

/-- The queries' array. -/
def argQ : FVec Ideal S2x16640x1024 .bf16 := V (Proc.devRef .tc main_arg0)
/-- The keys' and values' array. -/
def argKV : FVec Ideal S2x16640x256 .bf16 := V (Proc.devRef .tc main_arg1)
/-- The gate's array. -/
def argG : FVec Ideal S2x16640x1024 .bf16 := V (Proc.devRef .tc main_arg2)
/-- The sinks. -/
def argS : FVec Ideal S16 .f32 := V (Proc.devRef .tc main_arg3)
/-- The weights of the queries' norm. -/
def argWq : FVec Ideal S1x64 .f32 := V (Proc.devRef .tc main_arg4)
/-- The weights of the keys' norm. -/
def argWk : FVec Ideal S1x64 .f32 := V (Proc.devRef .tc main_arg5)

/-- The value that the reference pads with. -/
theorem pad_zero : (FloatOps.sitofp (F := Ideal) .f32 0#32 : EReal) = 0 := by
  show (((0#32).toInt : ℝ) : EReal) = 0
  simp

/-- A query's component: row `240 + l` of the array, head `h` of key head `a`. -/
theorem v6_at (b : Fin 2) (l : Fin 16400) (a : Fin 2) (h : Fin 8) (d : Fin 64) :
    (res_main_v6 V (ix4 b l ⟨a.val * 8 + h.val, by omega⟩ d) : EReal) = argQ V (ix3 b ⟨240 + l.val, by omega⟩ (colAt a h d)) := by
  pointwise [res_main_v6]
  exact congrArg (fun z => argQ V (ix3 b ⟨240 + l.val, by omega⟩ z)) (Fin.ext (by show (a.val * 8 + h.val) * 64 + d.val = 512 * a.val + 64 * h.val + d.val; omega))

/-- A key's component. -/
theorem v22_at (b : Fin 2) (l : Fin 16400) (a : Fin 2) (d : Fin 64) :
    (res_main_v22 V (ix4 b l a d) : EReal) = argKV V (ix3 b ⟨240 + l.val, by omega⟩ (headAt ⟨a.val, by omega⟩ d)) := by
  pointwise [res_main_v22, res_main_v3]
  exact congrArg (fun z => argKV V (ix3 b ⟨240 + l.val, by omega⟩ z)) (Fin.ext (by show a.val * 64 + d.val = 64 * a.val + d.val; omega))

/-- A value's component. -/
theorem v38_at (b : Fin 2) (l : Fin 16400) (a : Fin 2) (d : Fin 64) :
    (res_main_v38 V (ix4 b l a d) : EReal) = argKV V (ix3 b ⟨240 + l.val, by omega⟩ (headAt ⟨2 + a.val, by omega⟩ d)) := by
  pointwise [res_main_v38, res_main_v3]
  exact congrArg (fun z => argKV V (ix3 b ⟨240 + l.val, by omega⟩ z)) (Fin.ext (by show 128 + (a.val * 64 + d.val) = 64 * (2 + a.val) + d.val; omega))

/-- A normed and weighted component. -/
def normed (x w : Fin 64 → EReal) (d : Fin 64) : EReal := x d * invRms x * w d

/-- A normed key's component. -/
theorem v36_at (b : Fin 2) (l : Fin 16400) (a : Fin 2) (d : Fin 64) :
    (res_main_v36 V (ix4 b l a d) : EReal)
      = normed (fun e => argKV V (ix3 b ⟨240 + l.val, by omega⟩ (headAt ⟨a.val, by omega⟩ e))) (fun e => argWk V (ix2 0 e)) d := by
  pointwise [res_main_v36]
  simp only [v22_at]
  rfl

/-- An array of queries padded by 112 rows and cut in blocks of 128 rows. -/
theorem paddedQ_at (X : FVec Ideal S2x16400x16x64 .f32) (b : Fin 2) (n : Fin 129) (q : Fin 128) (a : Fin 2) (h : Fin 8) (d : Fin 64) :
    (shapeCast S2x129x128x2x8x64 (pad S2x16512x16x64 ![0, 112, 0, 0] ![0, 0, 0, 0] ![0, 0, 0, 0] X (sitofp (F := Ideal) .f32 (constantI S_ 32 0#32) : FVec Ideal S_ .f32)
        pads_S2x16400x16x64_S2x16512x16x64_000_11200_000_000 h_S_ : FVec Ideal S2x16512x16x64 .f32)
        shapeCasts_S2x16512x16x64_S2x129x128x2x8x64 : FVec Ideal S2x129x128x2x8x64 .f32) (ix6 b n q a h d)
      = if hr : 112 ≤ 128 * n.val + q.val then X (ix4 b ⟨128 * n.val + q.val - 112, by omega⟩ ⟨a.val * 8 + h.val, by omega⟩ d) else (0 : EReal) := by
  pointwise []
  by_cases hr : 112 ≤ 128 * n.val + q.val
  · rw [dif_pos hr, dif_pos (by omega)]
    exact congrArg (fun z => X (ix4 b z ⟨a.val * 8 + h.val, by omega⟩ d)) (Fin.ext (by show n.val * 128 + q.val - 112 = 128 * n.val + q.val - 112; omega))
  · rw [dif_neg hr, dif_neg (by omega), pad_zero]

/-- A normed query's component, zero in the padding's 112 rows. -/
theorem v40_at (b : Fin 2) (n : Fin 129) (q : Fin 128) (a : Fin 2) (h : Fin 8) (d : Fin 64) :
    (res_main_v40 V (ix6 b n q a h d) : EReal) = if 112 ≤ 128 * n.val + q.val then
      normed (fun e => argQ V (ix3 b ⟨128 * n.val + q.val + 128, by omega⟩ (colAt a h e))) (fun e => argWq V (ix2 0 e)) d else 0 := by
  refine (paddedQ_at _ b n q a h d).trans ?_
  split_ifs with hr
  · pointwise []
    have e3 : (⟨240 + (128 * n.val + q.val - 112), by omega⟩ : Fin 16640) = ⟨128 * n.val + q.val + 128, by omega⟩ :=
      Fin.ext (by show 240 + (128 * n.val + q.val - 112) = 128 * n.val + q.val + 128; omega)
    simp only [v6_at, e3]
    rfl
  · rfl

/-- An array of keys or values padded by 112 rows and cut in blocks of 128 rows. -/
theorem padded_at (X : FVec Ideal S2x16400x2x64 .f32) (b : Fin 2) (n : Fin 129) (q : Fin 128) (a : Fin 2) (d : Fin 64) :
    (shapeCast S2x129x128x2x64 (pad S2x16512x2x64 ![0, 112, 0, 0] ![0, 0, 0, 0] ![0, 0, 0, 0] X (sitofp (F := Ideal) .f32 (constantI S_ 32 0#32) : FVec Ideal S_ .f32)
        pads_S2x16400x2x64_S2x16512x2x64_000_11200_000_000 h_S_ : FVec Ideal S2x16512x2x64 .f32)
        shapeCasts_S2x16512x2x64_S2x129x128x2x64 : FVec Ideal S2x129x128x2x64 .f32) (ix5 b n q a d)
      = if hr : 112 ≤ 128 * n.val + q.val then X (ix4 b ⟨128 * n.val + q.val - 112, by omega⟩ a d) else (0 : EReal) := by
  pointwise []
  by_cases hr : 112 ≤ 128 * n.val + q.val
  · rw [dif_pos hr, dif_pos (by omega)]
    exact congrArg (fun z => X (ix4 b z a d)) (Fin.ext (by show n.val * 128 + q.val - 112 = 128 * n.val + q.val - 112; omega))
  · rw [dif_neg hr, dif_neg (by omega), pad_zero]

/-- The padded keys. -/
theorem v42_at (b : Fin 2) (n : Fin 129) (q : Fin 128) (a : Fin 2) (d : Fin 64) :
    (res_main_v42 V (ix5 b n q a d) : EReal) = if 112 ≤ 128 * n.val + q.val then
      normed (fun e => argKV V (ix3 b ⟨128 * n.val + q.val + 128, by omega⟩ (headAt ⟨a.val, by omega⟩ e))) (fun e => argWk V (ix2 0 e)) d else 0 := by
  refine (padded_at _ b n q a d).trans ?_
  split_ifs with hr
  · rw [v36_at]
    have e3 : (⟨240 + (128 * n.val + q.val - 112), by omega⟩ : Fin 16640) = ⟨128 * n.val + q.val + 128, by omega⟩ :=
      Fin.ext (by show 240 + (128 * n.val + q.val - 112) = 128 * n.val + q.val + 128; omega)
    simp only [e3]
  · rfl

/-- The padded values. -/
theorem v44_at (b : Fin 2) (n : Fin 129) (q : Fin 128) (a : Fin 2) (d : Fin 64) :
    (res_main_v44 V (ix5 b n q a d) : EReal) = if 112 ≤ 128 * n.val + q.val then
      argKV V (ix3 b ⟨128 * n.val + q.val + 128, by omega⟩ (headAt ⟨2 + a.val, by omega⟩ d)) else 0 := by
  refine (padded_at _ b n q a d).trans ?_
  split_ifs with hr
  · rw [v38_at]
    have e3 : (⟨240 + (128 * n.val + q.val - 112), by omega⟩ : Fin 16640) = ⟨128 * n.val + q.val + 128, by omega⟩ :=
      Fin.ext (by show 240 + (128 * n.val + q.val - 112) = 128 * n.val + q.val + 128; omega)
    simp only [e3]
  · rfl

/-- The constant's word at each of its sixteen places is the slope of that head. -/
theorem slope_word (k : Fin 16) : Ideal.ofBits FTy.f32 (lit0 (S16.rowMajor (ix1 k))) = ((Attn.slopeReal k.val : ℝ) : EReal) := by
  have hk : (S16.rowMajor (ix1 k) : Fin 16) = k := by fin_cases k <;> rfl
  refine (congrArg (fun z : Fin 16 => Ideal.ofBits FTy.f32 (lit0 z)) hk).trans ?_
  fin_cases k <;> (simp only [Attn.slopeReal]; simp [lit0, Ideal.ofBits, Ideal.ieee, -EReal.coe_mul]; norm_num)

/-- The slopes. -/
theorem v91_at (a : Fin 2) (h : Fin 8) :
    (res_main_v91 V (ix6 0 0 a h 0 0) : EReal) = ((Attn.slopeReal (8 * a.val + h.val) : ℝ) : EReal) := by
  pointwise [res_main_v91]
  rw [slope_word]
  show ((Attn.slopeReal (a.val * 8 + h.val) : ℝ) : EReal) = _
  rw [Nat.mul_comm]

open Attn (wsub wnat)

/-- A query's position. -/
theorem v64_at (n : Fin 129) (q : Fin 128) : (res_main_v64 V (ix2 n q) : BitVec 32).toInt = ((128 * n.val + q.val : ℕ) : Int) - 112 := by
  pointwise [res_main_v64]
  rw [show n.val * 128 + q.val = 128 * n.val + q.val by omega]
  exact wsub (wnat (by omega)) rfl (by omega)

/-- A band key's position. -/
theorem v67_at (n : Fin 129) (k : Fin 256) : (res_main_v67 V (ix2 n k) : BitVec 32).toInt = ((128 * n.val + k.val : ℕ) : Int) - 240 := by
  pointwise [res_main_v67]
  by_cases h : k.val < 128
  · rw [dif_pos h]
    exact (wsub (v64_at V n ⟨k.val, h⟩) (show (128#32).toInt = 128 from rfl) (by dsimp only; omega)).trans (by dsimp only; omega)
  · rw [dif_neg h]
    exact (v64_at V n ⟨k.val - 128, by omega⟩).trans (by dsimp only; omega)

/-- The distance to a band key. -/
theorem v73_at (n : Fin 129) (q : Fin 128) (k : Fin 256) : (res_main_v73 V (ix3 n q k) : BitVec 32).toInt = ((128 + q.val : ℕ) : Int) - k.val := by
  pointwise [res_main_v73]
  refine (wsub (v64_at V n q) (v67_at V n k) ?_).trans ?_ <;> omega

/-- The distance to a meta key. -/
theorem v88_at (n : Fin 129) (q : Fin 128) (k : Fin 16) : (res_main_v88 V (ix3 n q k) : BitVec 32).toInt = ((128 * n.val + q.val : ℕ) : Int) - 112 - k.val := by
  pointwise [res_main_v88]
  exact wsub (v64_at V n q) (wnat (by omega)) (by omega)

end Cert.Proof.Ref
end
-- ==== Proof.RefScore.lean ====
/- THE REFERENCE'S SCORES READ AT AN INDEX. -/
module

public import proofs.«01_k».proof.Proof.RefRead

@[expose] public section

set_option maxRecDepth 16384

noncomputable section

namespace Cert.Proof.Ref

open Cert.ReferenceIdeal Cert.ReferenceIdeal.Gen Cert.ReferenceIdeal.Value Idealize.ShloMosaic Idealize.ShloMosaic.TcCoe
open Cert.Proof.Attn

variable (V : Valuation τ sig (Elt Ideal))

/-- A key's score against a query, minus infinity where the key is not looked at. -/
def scoreAt (q : FVec Ideal S2x16640x1024 .bf16) (kv : FVec Ideal S2x16640x256 .bf16) (wq wk : FVec Ideal S1x64 .f32)
    (s : Fin 2) (b : Fin 130) (i : Fin 128) (a : Fin 2) (h : Fin 8) (j : Fin 272) : EReal :=
  if looked (128 * b.val + i.val) j (keyRow b.val j) then
    qkDot (fun e => kv (ix3 s (keyAt b j) (headAt ⟨a.val, by omega⟩ e))) (fun e => q (ix3 s (rowAt b i) (colAt a h e)))
        (fun e => wk (ix2 0 e)) (fun e => wq (ix2 0 e)) * ((1 / 8 : ℝ) : EReal)
      - ((slopeReal (8 * a.val + h.val) : ℝ) : EReal) * (((min (128 * b.val + i.val - keyRow b.val j) 128 : ℕ) : ℝ) : EReal)
  else ⊥

/-- A selection between a score and minus infinity, when the condition, the product and the distance are known. -/
theorem scoreSel {p : Prop} [Decidable p] {c : BitVec 1} {w : BitVec 32} {m : Nat} {D D' sl : EReal} (hc : c = 1 ↔ p)
    (hw : p → w.toInt = (m : Int)) (hD : p → D = D') :
    Scalar.select c (D * Ideal.ofBits FTy.f32 0x3E000000#32 - sl * FloatOps.sitofp (F := Ideal) .f32 (IntOp.minsi w 128#32) : EReal)
        (Ideal.ofBits FTy.f32 0xFF800000#32)
      = if p then D' * ((1 / 8 : ℝ) : EReal) - sl * (((min m 128 : ℕ) : ℝ) : EReal) else ⊥ := by
  unfold Scalar.select
  by_cases h : p
  · rw [if_pos (hc.2 h), if_pos h, hD h, clipWord (hw h), ofBits_eighth]
  · rw [if_neg (fun hh => h (hc.1 hh)), if_neg h, ofBits_negInf]

/-- A band of keys: block `n - 1` before block `n`, zero before the first block. -/
def bandOf (X : FVec Ideal S2x129x128x2x64 .f32) : FVec Ideal S2x129x256x2x64 .f32 :=
  concatenate S2x129x256x2x64 2 [⟨S2x129x128x2x64, (extractStridedSlice S2x129x128x2x64 ![0, 0, 0, 0, 0] (pad S2x130x128x2x64 ![0, 1, 0, 0, 0] ![0, 0, 0, 0, 0] ![0, 0, 0, 0, 0] X (sitofp .f32 (constantI S_ 32 0#32)) pads_S2x129x128x2x64_S2x130x128x2x64_000_100_000_000_000 h_S_) slices_S2x130x128x2x64_S2x129x128x2x64_0_0_0_0_0)⟩, ⟨S2x129x128x2x64, X⟩] concatenates_S2x129x128x2x64_S2x129x128x2x64_S2x129x256x2x64_d2

theorem bandOf_at (X : FVec Ideal S2x129x128x2x64 .f32) (b : Fin 2) (n : Fin 129) (k : Fin 256) (a : Fin 2) (d : Fin 64) :
    (bandOf X (ix5 b n k a d) : EReal) = if h : k.val < 128 then
        if hn : 1 ≤ n.val then X (ix5 b ⟨n.val - 1, by omega⟩ ⟨k.val, h⟩ a d) else 0
      else X (ix5 b n ⟨k.val - 128, by omega⟩ a d) := by
  pointwise [bandOf]
  by_cases h : k.val < 128
  · rw [dif_pos h, dif_pos h]
    by_cases hn : 1 ≤ n.val
    · rw [dif_pos hn, dif_pos (by omega)]
    · rw [dif_neg hn, dif_neg (by omega), pad_zero]
  · rw [dif_neg h, dif_neg h]

/-- A band key's score. -/
theorem band_at (b : Fin 2) (n : Fin 129) (a : Fin 2) (h : Fin 8) (q : Fin 128) (hr : 112 ≤ 128 * n.val + q.val) (k : Fin 256) :
    (res_main_v116 V (ix6 b n a h q ⟨k.val, by omega⟩) : EReal)
      = scoreAt (argQ V) (argKV V) (argWq V) (argWk V) b ⟨n.val + 1, by omega⟩ q a h ⟨16 + k.val, by omega⟩ := by
  have e : (res_main_v116 V (ix6 b n a h q ⟨k.val, by omega⟩) : EReal) = Scalar.select
      (IntOp.andi
        (IntOp.andi (IntOp.cmpi CmpIPredicate.sge (res_main_v67 V (ix2 n k)) 16#32)
          (IntOp.cmpi CmpIPredicate.sge (res_main_v73 V (ix3 n q k)) 0#32))
        (IntOp.cmpi CmpIPredicate.slt (res_main_v73 V (ix3 n q k)) 128#32))
      ((∑ x, @HMul.hMul EReal EReal EReal _ (bandOf (res_main_v42 V) (ix5 b n k a x)) (res_main_v40 V (ix6 b n q a h x))) * Ideal.ofBits FTy.f32 0x3E000000#32
        - @HMul.hMul EReal EReal EReal _ (res_main_v91 V (ix6 0 0 a h 0 0)) (FloatOps.sitofp (F := Ideal) FTy.f32 (IntOp.minsi (res_main_v73 V (ix3 n q k)) 128#32)) : EReal)
      (Ideal.ofBits FTy.f32 0xFF800000#32) := by
    have hb : concatenate S2x129x256x2x64 2 [⟨S2x129x128x2x64, (extractStridedSlice S2x129x128x2x64 ![0, 0, 0, 0, 0] (pad S2x130x128x2x64 ![0, 1, 0, 0, 0] ![0, 0, 0, 0, 0] ![0, 0, 0, 0, 0] (res_main_v42 V) (sitofp (F := Ideal) .f32 (constantI S_ 32 0#32)) pads_S2x129x128x2x64_S2x130x128x2x64_000_100_000_000_000 h_S_) slices_S2x130x128x2x64_S2x129x128x2x64_0_0_0_0_0)⟩, ⟨S2x129x128x2x64, (res_main_v42 V)⟩] concatenates_S2x129x128x2x64_S2x129x128x2x64_S2x129x256x2x64_d2
      = bandOf (res_main_v42 V) := rfl
    unfold res_main_v116
    rw [hb]
    pointwise []
    rfl
  have kr : keyRow (n.val + 1) ⟨16 + k.val, by omega⟩ = 128 * n.val + k.val := by
    unfold keyRow; split_ifs <;> dsimp only at * <;> omega
  have w67 := v67_at V n k
  have w73 := v73_at V n q k
  rw [e, v91_at]
  refine (scoreSel (p := looked (128 * (n.val + 1) + q.val) ⟨16 + k.val, by omega⟩ (keyRow (n.val + 1) ⟨16 + k.val, by omega⟩))
    (m := 128 * (n.val + 1) + q.val - keyRow (n.val + 1) ⟨16 + k.val, by omega⟩) ?_ ?_ ?_).trans rfl
  · rw [WordCmp.cmpi_sge_eq, WordCmp.cmpi_sge_eq, WordCmp.cmpi_slt_eq, WordCmp.andi_ofBool, WordCmp.andi_ofBool,
      WordCmp.ofBool_eq_one_iff', w67, w73, show (16#32).toInt = 16 from rfl, show (0#32).toInt = 0 from rfl,
      show (128#32).toInt = 128 from rfl, kr]
    unfold looked
    simp only [Bool.and_eq_true, decide_eq_true_eq]
    omega
  · rw [kr, w73]; unfold looked; dsimp only; omega
  · rw [kr]; intro hl
    unfold looked at hl; dsimp only at hl
    refine Finset.sum_congr rfl fun x _ => ?_
    rw [v40_at, if_pos hr, bandOf_at]
    have hq : (⟨128 * n.val + q.val + 128, by omega⟩ : Fin 16640) = rowAt ⟨n.val + 1, by omega⟩ q :=
      Fin.ext (by show 128 * n.val + q.val + 128 = 128 * (n.val + 1) + q.val; omega)
    have hk : keyAt ⟨n.val + 1, by omega⟩ ⟨16 + k.val, by omega⟩ = ⟨128 * n.val + k.val, by omega⟩ := Fin.ext kr
    rw [hq, hk]
    by_cases h1 : k.val < 128
    · have e3 : (⟨128 * (n.val - 1) + k.val + 128, by omega⟩ : Fin 16640) = ⟨128 * n.val + k.val, by omega⟩ :=
        Fin.ext (by show 128 * (n.val - 1) + k.val + 128 = 128 * n.val + k.val; omega)
      rw [dif_pos h1, dif_pos (by omega), v42_at, if_pos (by dsimp only; omega)]
      dsimp only
      rw [e3]
      rfl
    · have e3 : (⟨128 * n.val + (k.val - 128) + 128, by omega⟩ : Fin 16640) = ⟨128 * n.val + k.val, by omega⟩ :=
        Fin.ext (by show 128 * n.val + (k.val - 128) + 128 = 128 * n.val + k.val; omega)
      rw [dif_neg h1, v42_at, if_pos (by dsimp only; omega)]
      dsimp only
      rw [e3]
      rfl

/-- A meta key's score. -/
theorem meta_at (b : Fin 2) (n : Fin 129) (a : Fin 2) (h : Fin 8) (q : Fin 128) (hr : 112 ≤ 128 * n.val + q.val) (k : Fin 16) :
    (res_main_v116 V (ix6 b n a h q ⟨256 + k.val, by omega⟩) : EReal)
      = scoreAt (argQ V) (argKV V) (argWq V) (argWk V) b ⟨n.val + 1, by omega⟩ q a h ⟨k.val, by omega⟩ := by
  have e : (res_main_v116 V (ix6 b n a h q ⟨256 + k.val, by omega⟩) : EReal) = Scalar.select
      (IntOp.cmpi CmpIPredicate.sge (res_main_v88 V (ix3 n q k)) 0#32)
      ((∑ x, @HMul.hMul EReal EReal EReal _ (res_main_v36 V (ix4 b ⟨k.val, by omega⟩ a x)) (res_main_v40 V (ix6 b n q a h x))) * Ideal.ofBits FTy.f32 0x3E000000#32
        - @HMul.hMul EReal EReal EReal _ (res_main_v91 V (ix6 0 0 a h 0 0)) (FloatOps.sitofp (F := Ideal) FTy.f32 (IntOp.minsi (res_main_v88 V (ix3 n q k)) 128#32)) : EReal)
      (Ideal.ofBits FTy.f32 0xFF800000#32) := by
    pointwise [res_main_v116]
    rfl
  have kr : keyRow (n.val + 1) ⟨k.val, by omega⟩ = 240 + k.val := by
    unfold keyRow; rw [if_pos (by dsimp only; omega)]
  have w88 := v88_at V n q k
  rw [e, v91_at]
  refine (scoreSel (p := looked (128 * (n.val + 1) + q.val) ⟨k.val, by omega⟩ (keyRow (n.val + 1) ⟨k.val, by omega⟩))
    (m := 128 * (n.val + 1) + q.val - keyRow (n.val + 1) ⟨k.val, by omega⟩) ?_ ?_ ?_).trans rfl
  · rw [WordCmp.cmpi_sge_eq, WordCmp.ofBool_eq_one_iff', w88, show (0#32).toInt = 0 from rfl, kr]
    unfold looked
    simp only [decide_eq_true_eq]
    omega
  · rw [kr, w88]; unfold looked; dsimp only; omega
  · rw [kr]; intro hl
    refine Finset.sum_congr rfl fun x _ => ?_
    rw [v40_at, if_pos hr, v36_at]
    have hq : (⟨128 * n.val + q.val + 128, by omega⟩ : Fin 16640) = rowAt ⟨n.val + 1, by omega⟩ q :=
      Fin.ext (by show 128 * n.val + q.val + 128 = 128 * (n.val + 1) + q.val; omega)
    have hk : keyAt ⟨n.val + 1, by omega⟩ ⟨k.val, by omega⟩ = ⟨240 + k.val, by omega⟩ := Fin.ext kr
    rw [hq, hk]
    rfl

/-- The sink's score. -/
theorem sink_at (b : Fin 2) (n : Fin 129) (a : Fin 2) (h : Fin 8) (q : Fin 128) :
    (res_main_v116 V (ix6 b n a h q ⟨272, by omega⟩) : EReal) = argS V (ix1 ⟨8 * a.val + h.val, by omega⟩) := by
  pointwise [res_main_v116]
  exact congrArg (fun z => argS V (ix1 z)) (Fin.ext (by show a.val * 8 + h.val = 8 * a.val + h.val; omega))

end Cert.Proof.Ref
end
-- ==== Proof.RefSoft.lean ====
/- THE REFERENCE'S RESULT READ AT AN INDEX: the softmax over a query's 273 scores, and the sum of the values. -/
module

public import proofs.«01_k».proof.Proof.RefScore

@[expose] public section

set_option maxRecDepth 16384

noncomputable section

namespace Cert.Proof.Ref

open Cert.ReferenceIdeal Cert.ReferenceIdeal.Gen Cert.ReferenceIdeal.Value Idealize.ShloMosaic Idealize.ShloMosaic.TcCoe
open Cert.Proof.Attn

variable (V : Valuation τ sig (Elt Ideal))

/-- The indices that a reduction over the last of six axes takes together. -/
theorem fiber6 (x : S2x129x2x8x128x273.ReducesTo [5] S2x129x2x8x128) (b : Fin 2) (n : Fin 129) (a : Fin 2) (h : Fin 8) (q : Fin 128)
    (i : S2x129x2x8x128x273.Idx) : x.drop i = ix5 b n a h q ↔ ∃ k : Fin 273, ix6 b n a h q k = i := by
  constructor
  · intro e
    refine ⟨i 5, ?_⟩
    funext c; apply Fin.ext
    match c with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext c; apply Fin.ext
    match c with
    | ⟨0, _⟩ => rfl
    | ⟨1, _⟩ => rfl
    | ⟨2, _⟩ => rfl
    | ⟨3, _⟩ => rfl
    | ⟨4, _⟩ => rfl

/-- The greatest of the last axis. -/
theorem max6 (X : FVec Ideal S2x129x2x8x128x273 .f32) (b : Fin 2) (n : Fin 129) (a : Fin 2) (h : Fin 8) (q : Fin 128) :
    Host.reduce (FloatOps.maximumf (F := Ideal) (φ := .f32)) X (constant S_ .f32 0xFF800000#32 : FVec Ideal S_ .f32) reducesTo_S2x129x2x8x128x273_S2x129x2x8x128_d5 h_S_ (ix5 b n a h q)
      = Finset.univ.fold max (Ideal.ofBits FTy.f32 0xFF800000#32) (fun k => X (ix6 b n a h q k)) := by
  rw [Host.reduce_eq_fold]
  exact Finset.fold_filter_eq_fold_of_fiber _ _ (fun k : Fin 273 => ix6 b n a h q k) (fun _ _ e => congrFun e 5)
    (fiber6 _ b n a h q) _ X

/-- The sum of the last axis. -/
theorem sum6 (X : FVec Ideal S2x129x2x8x128x273 .f32) (b : Fin 2) (n : Fin 129) (a : Fin 2) (h : Fin 8) (q : Fin 128) :
    (Host.reduceAdd X (constant S_ .f32 0x00000000#32 : FVec Ideal S_ .f32) reducesTo_S2x129x2x8x128x273_S2x129x2x8x128_d5 h_S_ (ix5 b n a h q) : EReal)
      = ∑ k, (X (ix6 b n a h q k) : EReal) := by
  have e : (Host.reduceAdd X (constant S_ .f32 0x00000000#32 : FVec Ideal S_ .f32) reducesTo_S2x129x2x8x128x273_S2x129x2x8x128_d5 h_S_ (ix5 b n a h q) : EReal)
      = Ideal.ofBits FTy.f32 0x00000000#32 + ∑ k, (X (ix6 b n a h q k) : EReal) :=
    congrArg (Ideal.ofBits FTy.f32 0x00000000#32 + ·)
      (Finset.sum_filter_eq_sum_of_fiber _ (fun k : Fin 273 => ix6 b n a h q k) (fun _ _ e => congrFun e 5)
        (fiber6 _ b n a h q) _)
  rw [e, Ideal.ofBits_zero_f32, zero_add]

/-- The exponentials of an array of scores less the greatest of each row. -/
def expOf (X : FVec Ideal S2x129x2x8x128x273 .f32) (M : FVec Ideal S2x129x2x8x128 .f32) : FVec Ideal S2x129x2x8x128x273 .f32 :=
  Host.exp (subf X (broadcastInDim S2x129x2x8x128x273 ![0, 1, 2, 3, 4, 5] bcast_S2x129x2x8x128x1_S2x129x2x8x128x273_0_1_2_3_4_5 (broadcastInDim S2x129x2x8x128x1 ![0, 1, 2, 3, 4] bcast_S2x129x2x8x128_S2x129x2x8x128x1_0_1_2_3_4 (maximumf (broadcastInDim S2x129x2x8x128 ![] bcast_S_S2x129x2x8x128 (constant S_ .f32 0xFF800000#32)) M))))

theorem expOf_at (X : FVec Ideal S2x129x2x8x128x273 .f32) (M : FVec Ideal S2x129x2x8x128 .f32) (b : Fin 2) (n : Fin 129) (a : Fin 2) (h : Fin 8) (q : Fin 128) (k : Fin 273) :
    (expOf X M (ix6 b n a h q k) : EReal) = Ideal.exp (X (ix6 b n a h q k) - max (Ideal.ofBits FTy.f32 0xFF800000#32) (M (ix5 b n a h q))) := by
  pointwise [expOf]

/-- An array's quotients by a number for each row. -/
def divOf (X : FVec Ideal S2x129x2x8x128x273 .f32) (M : FVec Ideal S2x129x2x8x128 .f32) : FVec Ideal S2x129x2x8x128x273 .f32 :=
  Host.divf X (broadcastInDim S2x129x2x8x128x273 ![0, 1, 2, 3, 4, 5] bcast_S2x129x2x8x128x1_S2x129x2x8x128x273_0_1_2_3_4_5 (broadcastInDim S2x129x2x8x128x1 ![0, 1, 2, 3, 4] bcast_S2x129x2x8x128_S2x129x2x8x128x1_0_1_2_3_4 M))

theorem divOf_at (X : FVec Ideal S2x129x2x8x128x273 .f32) (M : FVec Ideal S2x129x2x8x128 .f32) (b : Fin 2) (n : Fin 129) (a : Fin 2) (h : Fin 8) (q : Fin 128) (k : Fin 273) :
    (divOf X M (ix6 b n a h q k) : EReal) = Ideal.div (X (ix6 b n a h q k)) (M (ix5 b n a h q)) := by
  pointwise [divOf]

/-- The scores, as an array of numbers. -/
def scores : FVec Ideal S2x129x2x8x128x273 .f32 := res_main_v116 V

/-- A row's probabilities. -/
theorem v127_at (b : Fin 2) (n : Fin 129) (a : Fin 2) (h : Fin 8) (q : Fin 128) (k : Fin 273) :
    (res_main_v127 V (ix6 b n a h q k) : EReal)
      = Ideal.div (Ideal.exp (scores V (ix6 b n a h q k) - Finset.univ.fold max (Ideal.ofBits FTy.f32 0xFF800000#32) (fun k' => scores V (ix6 b n a h q k'))))
        (∑ k', Ideal.exp (scores V (ix6 b n a h q k') - Finset.univ.fold max (Ideal.ofBits FTy.f32 0xFF800000#32) (fun k' => scores V (ix6 b n a h q k')))) := by
  have e1 : res_main_v123 V = expOf (scores V) (Host.reduce FloatOps.maximumf (scores V) (constant S_ .f32 0xFF800000#32) reducesTo_S2x129x2x8x128x273_S2x129x2x8x128_d5 h_S_) := rfl
  have e2 : res_main_v127 V = divOf (res_main_v123 V) (Host.reduceAdd (res_main_v123 V) (constant S_ .f32 0x00000000#32) reducesTo_S2x129x2x8x128x273_S2x129x2x8x128_d5 h_S_) := rfl
  rw [e2, divOf_at, sum6, e1]
  simp only [expOf_at, max6, ofBits_negInf, bot_sup_eq]

/-- The sum over a row's entries, its keys listed in the order of the array and the sink last. -/
theorem row_sum (f : EReal → EReal) (S : Fin 273 → EReal) (T : Fin 272 → EReal) (z : EReal)
    (hb : ∀ k : Fin 256, S ⟨k.val, by omega⟩ = T ⟨16 + k.val, by omega⟩)
    (hm : ∀ k : Fin 16, S ⟨256 + k.val, by omega⟩ = T ⟨k.val, by omega⟩) (hz : S ⟨272, by omega⟩ = z) :
    ∑ k, f (S k) = (∑ j, f (T j)) + f z := by
  have e1 : ∑ k : Fin 272, f (S ⟨k.val, by omega⟩) = (∑ k : Fin 256, f (T ⟨16 + k.val, by omega⟩)) + ∑ k : Fin 16, f (T ⟨k.val, by omega⟩) := by
    refine (Fin.sum_univ_add (a := 256) (b := 16) fun k => f (S ⟨k.val, by omega⟩)).trans ?_
    exact congrArg₂ (· + ·) (Finset.sum_congr rfl fun k _ => congrArg f (hb k)) (Finset.sum_congr rfl fun k _ => congrArg f (hm k))
  have e2 : ∑ j : Fin 272, f (T j) = (∑ k : Fin 16, f (T ⟨k.val, by omega⟩)) + ∑ k : Fin 256, f (T ⟨16 + k.val, by omega⟩) :=
    Fin.sum_univ_add (a := 16) (b := 256) fun k => f (T k)
  rw [Fin.sum_univ_castSucc, e2, add_comm (∑ k : Fin 16, _)]
  exact congrArg₂ (· + ·) e1 (congrArg f hz)

/-- The greatest of a row's entries is the top score. -/
theorem row_max (S : Fin 273 → EReal) (T : Fin 272 → EReal) (z : EReal)
    (hb : ∀ k : Fin 256, S ⟨k.val, by omega⟩ = T ⟨16 + k.val, by omega⟩)
    (hm : ∀ k : Fin 16, S ⟨256 + k.val, by omega⟩ = T ⟨k.val, by omega⟩) (hz : S ⟨272, by omega⟩ = z) :
    Finset.univ.fold max (⊥ : EReal) S = max (Finset.univ.fold max (⊥ : EReal) T) z := by
  refine eq_of_forall_ge_iff fun c => ?_
  rw [Finset.fold_max_le, max_le_iff, Finset.fold_max_le]
  constructor
  · rintro ⟨_, hS⟩
    refine ⟨⟨bot_le, fun j _ => ?_⟩, hz ▸ hS _ (Finset.mem_univ _)⟩
    by_cases hj : j.val < 16
    · exact (hm ⟨j.val, hj⟩) ▸ hS _ (Finset.mem_univ _)
    · have := hb ⟨j.val - 16, by omega⟩
      rw [show T j = T ⟨16 + (j.val - 16), by omega⟩ from congrArg T (Fin.ext (by dsimp only; omega)), ← this]
      exact hS _ (Finset.mem_univ _)
  · rintro ⟨⟨_, hT⟩, hz'⟩
    refine ⟨bot_le, fun k _ => ?_⟩
    by_cases h1 : k.val < 256
    · have := hb ⟨k.val, h1⟩
      exact this ▸ hT _ (Finset.mem_univ _)
    · by_cases h2 : k.val < 272
      · have := hm ⟨k.val - 256, by omega⟩
        rw [show S k = S ⟨256 + (k.val - 256), by omega⟩ from congrArg S (Fin.ext (by dsimp only; omega)), this]
        exact hT _ (Finset.mem_univ _)
      · rw [show S k = S ⟨272, by omega⟩ from congrArg S (Fin.ext (by dsimp only; omega)), hz]
        exact hz'

/-- The weighted sum over a row's keys, in the order of the keys. -/
theorem keys_sum (f : Fin 272 → EReal) :
    (∑ x : Fin 256, f ⟨16 + x.val, by omega⟩) + (∑ x : Fin 16, f ⟨x.val, by omega⟩) = ∑ j, f j := by
  have e2 : ∑ j : Fin 272, f j = (∑ k : Fin 16, f ⟨k.val, by omega⟩) + ∑ k : Fin 256, f ⟨16 + k.val, by omega⟩ :=
    Fin.sum_univ_add (a := 16) (b := 256) f
  rw [e2, add_comm]

/-- The gate's rows, past the first 240. -/
theorem v5_at (b : Fin 2) (l : Fin 16400) (c : Fin 1024) :
    (res_main_v5 V (ix3 b l c) : EReal) = argG V (ix3 b ⟨240 + l.val, by omega⟩ c) := by
  pointwise [res_main_v5, argG]

/-- The result of the values in a band, the probabilities, the meta tokens' values and the gate. -/
def outOf (B : FVec Ideal S2x129x256x2x64 .f32) (P : FVec Ideal S2x129x2x8x128x273 .f32) (M : FVec Ideal S2x16400x2x64 .f32)
    (G : FVec Ideal S2x16400x1024 .f32) : FVec Ideal S2x16640x1024 .bf16 :=
  truncf FTy.bf16
      (pad S2x16640x1024 ![0, 240, 0] ![0, 0, 0] ![0, 0, 0]
        (mulf
          (extractStridedSlice S2x16400x1024 ![0, 112, 0]
            (shapeCast S2x16512x1024
              (addf
                (transpose S2x129x128x2x8x64 [0, 1, 5, 2, 4, 3]
                  (Host.dotGeneral dot_S2x129x256x2x64_S2x129x2x8x128x256_S2x129x2x64x8x128_2_5_4_34_013_012 none
                    B
                    (extractStridedSlice S2x129x2x8x128x256 ![0, 0, 0, 0, 0, 0] P
                      slices_S2x129x2x8x128x273_S2x129x2x8x128x256_0_0_0_0_0_0))
                  transposes_S2x129x2x64x8x128_S2x129x128x2x8x64_0_1_5_2_4_3)
                (transpose S2x129x128x2x8x64 [0, 3, 5, 1, 4, 2]
                  (Host.dotGeneral dot_S2x16x2x64_S2x129x2x8x128x16_S2x2x64x129x8x128_1_5_3_134_02_02 none
                    (extractStridedSlice S2x16x2x64 ![0, 0, 0, 0] M
                      slices_S2x16400x2x64_S2x16x2x64_0_0_0_0)
                    (extractStridedSlice S2x129x2x8x128x16 ![0, 0, 0, 0, 0, 256] P
                      slices_S2x129x2x8x128x273_S2x129x2x8x128x16_0_0_0_0_0_256))
                  transposes_S2x2x64x129x8x128_S2x129x128x2x8x64_0_3_5_1_4_2))
              shapeCasts_S2x129x128x2x8x64_S2x16512x1024)
            slices_S2x16512x1024_S2x16400x1024_0_112_0)
          (mulf G
            (Host.divf (broadcastInDim S2x16400x1024 ![] bcast_S_S2x16400x1024 (constant S_ FTy.f32 1065353216#32))
              (addf (broadcastInDim S2x16400x1024 ![] bcast_S_S2x16400x1024 (constant S_ FTy.f32 1065353216#32))
                (Host.exp (Host.negf G))))))
        (sitofp FTy.f32 (constantI S_ 32 0#32)) pads_S2x16400x1024_S2x16640x1024_000_24000_000 h_S_)
      bitsLt_bf16_f32

theorem outOf_low (B : FVec Ideal S2x129x256x2x64 .f32) (P : FVec Ideal S2x129x2x8x128x273 .f32) (M : FVec Ideal S2x16400x2x64 .f32)
    (G : FVec Ideal S2x16400x1024 .f32) (b : Fin 2) (r : Fin 16640) (c : Fin 1024) (hr : r.val < 240) :
    (outOf B P M G (ix3 b r c) : EReal) = 0 := by
  pointwise [outOf]
  rw [dif_neg (by omega), pad_zero]

theorem outOf_high (B : FVec Ideal S2x129x256x2x64 .f32) (P : FVec Ideal S2x129x2x8x128x273 .f32) (M : FVec Ideal S2x16400x2x64 .f32)
    (G : FVec Ideal S2x16400x1024 .f32) (b : Fin 2) (n : Fin 129) (q : Fin 128) (a : Fin 2) (h : Fin 8) (d : Fin 64) (R : Fin 16640) (C : Fin 1024)
    (hv : R.val = 128 * (n.val + 1) + q.val) (hc : C.val = 512 * a.val + 64 * h.val + d.val) (hr : 112 ≤ 128 * n.val + q.val) :
    (outOf B P M G (ix3 b R C) : EReal)
      = ((∑ x : Fin 256, @HMul.hMul EReal EReal EReal _ (B (ix5 b n x a d)) (P (ix6 b n a h q ⟨x.val, by omega⟩)))
        + ∑ x : Fin 16, @HMul.hMul EReal EReal EReal _ (M (ix4 b ⟨x.val, by omega⟩ a d)) (P (ix6 b n a h q ⟨256 + x.val, by omega⟩)))
        * ((G (ix3 b ⟨128 * n.val + q.val - 112, by omega⟩ C) : EReal) * Ideal.logistic (G (ix3 b ⟨128 * n.val + q.val - 112, by omega⟩ C))) := by
  pointwise [outOf]
  rw [dif_pos (by omega)]
  have e1 : ∀ x, (⟨(112 + (R.val - 240)) / 128, x⟩ : Fin 129) = n := fun _ => Fin.ext (by dsimp only; omega)
  have e2 : ∀ x, (⟨C.val / 512, x⟩ : Fin 2) = a := fun _ => Fin.ext (by dsimp only; omega)
  have e3 : ∀ x, (⟨C.val % 64, x⟩ : Fin 64) = d := fun _ => Fin.ext (by dsimp only; omega)
  have e4 : ∀ x, (⟨C.val / 64 % 8, x⟩ : Fin 8) = h := fun _ => Fin.ext (by dsimp only; omega)
  have e5 : ∀ x, (⟨(112 + (R.val - 240)) % 128, x⟩ : Fin 128) = q := fun _ => Fin.ext (by dsimp only; omega)
  have e6 : ∀ x, (⟨R.val - 240, x⟩ : Fin 16400) = ⟨128 * n.val + q.val - 112, by omega⟩ :=
    fun _ => Fin.ext (by dsimp only; omega)
  simp only [e1, e2, e3, e4, e5, e6]
  rfl

/-- The values in a band: none before row 240. -/
theorem bandValue_at (b : Fin 2) (n : Fin 129) (k : Fin 256) (a : Fin 2) (d : Fin 64) :
    (bandOf (res_main_v44 V) (ix5 b n k a d) : EReal) = if 240 ≤ 128 * n.val + k.val then
      argKV V (ix3 b (keyAt ⟨n.val + 1, by omega⟩ ⟨16 + k.val, by omega⟩) (headAt ⟨2 + a.val, by omega⟩ d)) else 0 := by
  refine (bandOf_at _ b n k a d).trans ?_
  have hk : (keyAt ⟨n.val + 1, by omega⟩ ⟨16 + k.val, by omega⟩).val = 128 * n.val + k.val := by
    show keyRow (n.val + 1) ⟨16 + k.val, _⟩ = _
    unfold keyRow
    rw [if_neg (by dsimp only; omega)]
    by_cases h : k.val < 128
    · rw [if_pos (by dsimp only; omega)]; dsimp only; omega
    · rw [if_neg (by dsimp only; omega)]; dsimp only; omega
  by_cases h : k.val < 128
  · rw [dif_pos h]
    by_cases hn : 1 ≤ n.val
    · rw [dif_pos hn, v44_at]
      by_cases hr : 240 ≤ 128 * n.val + k.val
      · rw [if_pos hr, if_pos (by dsimp only; omega)]
        exact congrArg (fun z => argKV V (ix3 b z _)) (Fin.ext (hk ▸ (by dsimp only; omega)))
      · rw [if_neg hr, if_neg (by dsimp only; omega)]
    · rw [dif_neg hn, if_neg (by omega)]
  · rw [dif_neg h, v44_at]
    by_cases hr : 240 ≤ 128 * n.val + k.val
    · rw [if_pos hr, if_pos (by dsimp only; omega)]
      exact congrArg (fun z => argKV V (ix3 b z _)) (Fin.ext (hk ▸ (by dsimp only; omega)))
    · rw [if_neg hr, if_neg (by dsimp only; omega)]

/-- A key before row 240 is not looked at. -/
theorem scoreAt_low (q : FVec Ideal S2x16640x1024 .bf16) (kv : FVec Ideal S2x16640x256 .bf16) (wq wk : FVec Ideal S1x64 .f32)
    (s : Fin 2) (n : Fin 129) (i : Fin 128) (a : Fin 2) (h : Fin 8) (k : Fin 256) (hk : ¬ 240 ≤ 128 * n.val + k.val) :
    scoreAt q kv wq wk s ⟨n.val + 1, by omega⟩ i a h ⟨16 + k.val, by omega⟩ = ⊥ := by
  unfold scoreAt
  refine if_neg fun hl => ?_
  have h2 := (hl.2 (by dsimp only; omega)).1
  unfold keyRow at h2
  rw [if_neg (by dsimp only; omega)] at h2
  by_cases h : k.val < 128
  · rw [if_pos (by dsimp only; omega)] at h2; dsimp only at h2; omega
  · rw [if_neg (by dsimp only; omega)] at h2; dsimp only at h2; omega

/-- The result as a whole, of the arrays it is computed from. -/
theorem out_eq : val3 V (Proc.devRef .tc main_v140) = outOf (bandOf (res_main_v44 V)) (res_main_v127 V) (res_main_v38 V) (res_main_v5 V) := by
  rw [val3_main_v140]; rfl

/-- The result is zero before row 240. -/
theorem out_low (b : Fin 2) (r : Fin 16640) (c : Fin 1024) (hr : r.val < 240) :
    @Eq EReal (val3 V (Proc.devRef .tc main_v140) (ix3 b r c)) 0 := by
  rw [out_eq]
  exact outOf_low _ _ _ _ b r c hr

/-- The result at a later row: the attention times the gate. -/
theorem out_high (b : Fin 2) (n : Fin 129) (q : Fin 128) (a : Fin 2) (h : Fin 8) (d : Fin 64) (hr : 112 ≤ 128 * n.val + q.val)
    (hT : ∀ j, scoreAt (argQ V) (argKV V) (argWq V) (argWk V) b ⟨n.val + 1, by omega⟩ q a h j ≠ ⊤)
    (hz : (argS V (ix1 ⟨8 * a.val + h.val, by omega⟩) : EReal) ≠ ⊤)
    (hex : ∃ j, scoreAt (argQ V) (argKV V) (argWq V) (argWk V) b ⟨n.val + 1, by omega⟩ q a h j ≠ ⊥) :
    @Eq EReal (val3 V (Proc.devRef .tc main_v140) (ix3 b (rowAt ⟨n.val + 1, by omega⟩ q) (colAt a h d)))
      (attendE (scoreAt (argQ V) (argKV V) (argWq V) (argWk V) b ⟨n.val + 1, by omega⟩ q a h) (argS V (ix1 ⟨8 * a.val + h.val, by omega⟩))
          (fun j => argKV V (ix3 b (keyAt ⟨n.val + 1, by omega⟩ j) (headAt ⟨2 + a.val, by omega⟩ d)))
        * @HMul.hMul EReal EReal EReal _ (argG V (ix3 b (rowAt ⟨n.val + 1, by omega⟩ q) (colAt a h d)))
            (Ideal.logistic (argG V (ix3 b (rowAt ⟨n.val + 1, by omega⟩ q) (colAt a h d))))) := by
  rw [out_eq]
  refine (outOf_high _ _ _ _ b n q a h d _ _ rfl rfl hr).trans ?_
  have hb := band_at V b n a h q hr
  have hm := meta_at V b n a h q hr
  have hs := sink_at V b n a h q
  generalize hTd : scoreAt (argQ V) (argKV V) (argWq V) (argWk V) b ⟨n.val + 1, by omega⟩ q a h = T at *
  generalize hzd : (argS V (ix1 ⟨8 * a.val + h.val, by omega⟩) : EReal) = z at *
  have hg : (⟨240 + (128 * n.val + q.val - 112), by omega⟩ : Fin 16640) = rowAt ⟨n.val + 1, by omega⟩ q :=
    Fin.ext (by show 240 + (128 * n.val + q.val - 112) = 128 * (n.val + 1) + q.val; omega)
  have hw : ∀ k, (res_main_v127 V (ix6 b n a h q k) : EReal) = Ideal.div (Ideal.exp (scores V (ix6 b n a h q k) - topScore T z))
      ((∑ j, Ideal.exp (T j - topScore T z)) + Ideal.exp (z - topScore T z)) := fun k => by
    rw [v127_at, ofBits_negInf, row_max (fun k => scores V (ix6 b n a h q k)) T z hb hm hs]
    rw [row_sum (fun x => Ideal.exp (x - _)) (fun k => scores V (ix6 b n a h q k)) T z hb hm hs]
    unfold topScore
    rw [ofBits_negInf]
  rw [v5_at, hg]
  refine congrArg (fun x : EReal => x * _) ?_
  unfold attendE
  refine Eq.trans ?_ (keys_sum _)
  refine congrArg₂ (· + ·) (Finset.sum_congr rfl fun k _ => ?_) (Finset.sum_congr rfl fun k _ => ?_)
  · rw [hw, show scores V (ix6 b n a h q ⟨k.val, by omega⟩) = T ⟨16 + k.val, by omega⟩ from hb k, bandValue_at]
    by_cases hk : 240 ≤ 128 * n.val + k.val
    · rw [if_pos hk]
    · rw [show T ⟨16 + k.val, by omega⟩ = ⊥ from hTd ▸ scoreAt_low _ _ _ _ b n q a h k hk, weight_bot T z hT hz hex, mul_zero, mul_zero]
  · rw [hw, show scores V (ix6 b n a h q ⟨256 + k.val, by omega⟩) = T ⟨k.val, by omega⟩ from hm k, v38_at]
    have hk : (⟨240 + k.val, by omega⟩ : Fin 16640) = keyAt ⟨n.val + 1, by omega⟩ ⟨k.val, by omega⟩ :=
      Fin.ext (by show _ = keyRow _ _; unfold keyRow; rw [if_pos (by exact k.isLt)])
    rw [hk]

end Cert.Proof.Ref
end
-- ==== Proof.Equal.lean ====
/- THE KERNEL'S RESULT IS THE REFERENCE'S, index by index, where the norms' weights are real and no sink is plus infinity. -/
module

public import proofs.«01_k».proof.Proof.KernelRun
public import proofs.«01_k».proof.Proof.RefSoft

@[expose] public section

set_option maxRecDepth 16384

noncomputable section

namespace Cert.Proof.Attn

open Cert.KernelIdeal Cert.KernelIdeal.Gen Idealize.ShloMosaic
open Cert.Proof.Ref (scoreAt)

/-- Every slope is positive. -/
theorem slopeReal_pos (h : Nat) : 0 < slopeReal h := by
  unfold slopeReal
  split_ifs <;> positivity

variable (q : FVec Ideal S2x16640x1024 .bf16) (kv : FVec Ideal S2x16640x256 .bf16) (wq wk : FVec Ideal S1x64 .f32)
  (s : Fin 2) (b : Fin 130) (i : Fin 128) (a : Fin 2) (h : Fin 8)

/-- The kernel's score of a key. -/
def kernelScore (j : Fin 272) : EReal :=
  qkDot (fun e => kv (ix3 s (keyAt b j) (headAt ⟨a.val, by omega⟩ e)))
      (fun e => q (ix3 s (rowAt b i) (colAt a h e))) (fun e => wk (ix2 0 e))
      (fun e => @HMul.hMul EReal EReal EReal _ (wq (ix2 0 e)) (Named.named κ "slope5" 0x3E38AA3B#32 : Ideal .f32))
    - @HMul.hMul EReal EReal EReal _ (slopes (F := Ideal) a h) (clipAt (128 * b.val + i.val) j (keyRow b.val j))

variable (hq : ∀ e : Fin 64, IsReal (wq (ix2 0 e))) (hk : ∀ e : Fin 64, IsReal (wk (ix2 0 e)))

include hq hk

/-- It is the reference's score in base 2. -/
theorem kernelScore_eq (j : Fin 272) : kernelScore q kv wq wk s b i a h j = log2e * scoreAt q kv wq wk s b i a h j := by
  unfold kernelScore scoreAt
  rw [scale_eq, slopes_eq, qkDot_scale _ _ _ _ hk hq]
  obtain ⟨x, hx⟩ := qkDot_real (fun e => kv (ix3 s (keyAt b j) (headAt ⟨a.val, by omega⟩ e)))
      (fun e => q (ix3 s (rowAt b i) (colAt a h e))) _ _ hk hq
  rw [hx]
  unfold clipAt log2e
  by_cases hl : looked (128 * b.val + i.val) j (keyRow b.val j)
  · rw [if_pos hl, if_pos hl]
    simp only [← EReal.coe_mul, ← EReal.coe_sub]
    exact congrArg _ (by ring)
  · rw [if_neg hl, if_neg hl]
    rw [EReal.coe_mul_top_of_pos (mul_pos (slopeReal_pos _) log2_pos), ← EReal.coe_mul, EReal.sub_top]
    exact log2e_bot.symm

/-- No score is plus infinity. -/
theorem scoreAt_ne_top (j : Fin 272) : scoreAt q kv wq wk s b i a h j ≠ ⊤ := by
  unfold scoreAt
  obtain ⟨x, hx⟩ := qkDot_real (fun e => kv (ix3 s (keyAt b j) (headAt ⟨a.val, by omega⟩ e)))
      (fun e => q (ix3 s (rowAt b i) (colAt a h e))) _ _ hk hq
  rw [hx]
  split_ifs
  · simp only [← EReal.coe_mul, ← EReal.coe_sub]
    exact EReal.coe_ne_top _
  · exact bot_ne_top

/-- The score of a key that is looked at is real. -/
theorem scoreAt_ne_bot (j : Fin 272) (hl : looked (128 * b.val + i.val) j (keyRow b.val j)) : scoreAt q kv wq wk s b i a h j ≠ ⊥ := by
  unfold scoreAt
  obtain ⟨x, hx⟩ := qkDot_real (fun e => kv (ix3 s (keyAt b j) (headAt ⟨a.val, by omega⟩ e)))
      (fun e => q (ix3 s (rowAt b i) (colAt a h e))) _ _ hk hq
  rw [hx, if_pos hl]
  simp only [← EReal.coe_mul, ← EReal.coe_sub]
  exact EReal.coe_ne_bot _

omit hq hk in
/-- Every row from 240 on looks at a key: a row of the meta tokens at its own, a later one at its own. -/
theorem exists_looked (hr : 240 ≤ 128 * b.val + i.val) : ∃ j, looked (128 * b.val + i.val) j (keyRow b.val j) := by
  by_cases h : 128 * b.val + i.val < 256
  · refine ⟨⟨128 * b.val + i.val - 240, by omega⟩, ?_⟩
    unfold looked keyRow
    rw [if_pos (by dsimp only; omega)]
    dsimp only; omega
  · refine ⟨⟨144 + i.val, by omega⟩, ?_⟩
    unfold looked keyRow
    rw [if_neg (by dsimp only; omega), if_neg (by dsimp only; omega)]
    dsimp only; omega

omit hq hk in
/-- No row before 240 looks at a key. -/
theorem not_looked (hr : 128 * b.val + i.val < 240) (j : Fin 272) : ¬ looked (128 * b.val + i.val) j (keyRow b.val j) := by
  unfold looked keyRow
  rintro ⟨h1, h2⟩
  by_cases hj : j.val < 16
  · rw [if_pos hj] at h1; omega
  · have := (h2 (by omega)).1
    omega

variable (g : FVec Ideal S2x16640x1024 .bf16) (sk : FVec Ideal S16 .f32) (d : Fin 64)

/-- The kernel's element at a row from 240 on. -/
theorem kernelAt_high (hz : (sk (ix1 ⟨8 * a.val + h.val, by omega⟩) : EReal) ≠ ⊤) (hr : 240 ≤ 128 * b.val + i.val) :
    kernelAt q kv g sk wq wk s b i a h d
      = attendE (scoreAt q kv wq wk s b i a h) (sk (ix1 ⟨8 * a.val + h.val, by omega⟩))
          (fun j => kv (ix3 s (keyAt b j) (headAt ⟨2 + a.val, by omega⟩ d)))
        * @HMul.hMul EReal EReal EReal _ (g (ix3 s (rowAt b i) (colAt a h d))) (Ideal.logistic (g (ix3 s (rowAt b i) (colAt a h d)))) := by
  obtain ⟨j, hj⟩ := exists_looked b i hr
  rw [← attend2_eq _ _ _ (scoreAt_ne_top q kv wq wk s b i a h hq hk) hz ⟨j, scoreAt_ne_bot q kv wq wk s b i a h hq hk j hj⟩]
  rw [show (fun j => log2e * scoreAt q kv wq wk s b i a h j) = kernelScore q kv wq wk s b i a h from
    funext fun j => (kernelScore_eq q kv wq wk s b i a h hq hk j).symm, mul_comm log2e, ← log2e_eq]
  rfl

/-- The kernel's element at a row before 240. -/
theorem kernelAt_low (hr : 128 * b.val + i.val < 240) : kernelAt q kv g sk wq wk s b i a h d = 0 := by
  have e : kernelScore q kv wq wk s b i a h = fun _ => ⊥ := funext fun j => by
    rw [kernelScore_eq q kv wq wk s b i a h hq hk j]
    unfold scoreAt
    rw [if_neg (not_looked b i hr j), log2e_bot]
  have e' : kernelAt q kv g sk wq wk s b i a h d = attend2 (kernelScore q kv wq wk s b i a h)
      (@HMul.hMul EReal EReal EReal _ (sk (ix1 ⟨8 * a.val + h.val, by omega⟩)) (Named.named κ "log2e" 0x3FB8AA3B#32 : Ideal .f32))
      (fun j => kv (ix3 s (keyAt b j) (headAt ⟨2 + a.val, by omega⟩ d)))
      * @HMul.hMul EReal EReal EReal _ (g (ix3 s (rowAt b i) (colAt a h d))) (Ideal.logistic (g (ix3 s (rowAt b i) (colAt a h d)))) := rfl
  rw [e', e]
  unfold attend2
  have e0 : ∀ x : EReal, Ideal.exp2 (⊥ - x) = 0 := fun x => by rw [EReal.bot_sub]; rfl
  simp only [e0, mul_zero, Finset.sum_const_zero, zero_mul]

end Cert.Proof.Attn

namespace Cert.Proof

open Idealize.ShloMosaic Cert.Proof.Attn Cert.Proof.Ref

/-- The reference's result is the kernel's function of the reference's arguments. -/
theorem result_eq (V : Valuation Cert.ReferenceIdeal.τ Cert.ReferenceIdeal.sig (Elt Ideal))
    (hq : ∀ e : Fin 64, IsReal (argWq V (ix2 0 e))) (hk : ∀ e : Fin 64, IsReal (argWk V (ix2 0 e)))
    (hs : ∀ x : Fin 16, (argS V (ix1 x) : EReal) ≠ ⊤) :
    Cert.ReferenceIdeal.Value.val3 V (Proc.devRef .tc Cert.ReferenceIdeal.main_v140)
      = kernelG (argQ V) (argKV V) (argG V) (argS V) (argWq V) (argWk V) := by
  funext y
  obtain ⟨s, b, i, a, h, d, rfl⟩ := idx_split y
  refine Eq.trans ?_ (kernelG_at (argQ V) (argKV V) (argG V) (argS V) (argWq V) (argWk V) s b i a h d).symm
  by_cases hr : 128 * b.val + i.val < 240
  · exact (out_low V s (rowAt b i) (colAt a h d) hr).trans (kernelAt_low _ _ _ _ s b i a h hq hk _ _ d hr).symm
  · obtain ⟨j, hj⟩ := exists_looked b i (by omega)
    obtain ⟨n, hn, eb⟩ : ∃ (n : Nat) (hn : n < 129), b = ⟨n + 1, Nat.succ_lt_succ hn⟩ :=
      ⟨b.val - 1, by omega, Fin.ext (by dsimp only; omega)⟩
    rw [kernelAt_high (argQ V) (argKV V) (argWq V) (argWk V) s b i a h hq hk (argG V) (argS V) d (hs _) (by omega)]
    have T := scoreAt_ne_top (argQ V) (argKV V) (argWq V) (argWk V) s b i a h hq hk
    have B := scoreAt_ne_bot (argQ V) (argKV V) (argWq V) (argWk V) s b i a h hq hk j hj
    subst eb
    exact out_high V s ⟨n, hn⟩ i a h d (by dsimp only at hr; dsimp only; omega) T (hs _) ⟨j, B⟩

end Cert.Proof
-- ==== Proof.Finite.lean ====
/- WHAT THE PRECONDITION SAYS of the extended reals: the norms' weights are real and no sink is plus infinity. -/
module

public import proofs.«01_k».proof.Pre_weights_finite
public import proofs.«01_k».proof.Proof.Core
public import Idealize.ShloMosaic.Lib.ReduceAll

@[expose] public section

noncomputable section

namespace Cert.Proof

open Idealize.ShloMosaic Cert.Proof.Attn

/-- The shape relations that the precondition takes. -/
instance preFacts : Cert.Pre_weights_finite.Facts where
  bcast_S_S1x64 := by decide
  reducesTo_S1x64_S_d0_1 := by decide
  h_S_ := by decide
  bcast_S_S16 := by decide
  reducesTo_S16_S_d0 := by decide

theorem ofBits_inf : Ideal.ofBits .f32 0x7F800000#32 = (⊤ : EReal) := by
  simp [Ideal.ofBits, Ideal.ieee]

/-- A comparison that came out 1 was true. -/
theorem olt_one {x y : EReal} (h : FloatOps.cmpf (F := Ideal) (φ := .f32) .olt x y = 1#1) : x < y := by
  by_contra hn
  have : FloatOps.cmpf (F := Ideal) (φ := .f32) .olt x y = 0#1 := by
    show BitVec.ofBool (decide (x < y)) = 0#1
    rw [decide_eq_false hn]; rfl
  rw [this] at h
  exact absurd h (by decide)

/-- A number of absolute value below plus infinity is real. -/
theorem isReal_of_abs {x : EReal} (h : max x (-x) < ⊤) : IsReal x := by
  refine isReal_of_ne (fun e => ?_) (fun e => ?_)
  · rw [e] at h; exact absurd (lt_of_le_of_lt (le_max_left _ _) h) (lt_irrefl _)
  · rw [e] at h; exact absurd (lt_of_le_of_lt (le_max_right _ _) h) (by simp)

/-- The precondition, read. -/
theorem finite_of_pre (q : FVec Ideal Cert.Pre_weights_finite.S2x16640x1024 .bf16) (kv : FVec Ideal Cert.Pre_weights_finite.S2x16640x256 .bf16)
    (g : FVec Ideal Cert.Pre_weights_finite.S2x16640x1024 .bf16) (sk : FVec Ideal Cert.Pre_weights_finite.S16 .f32)
    (wq wk : FVec Ideal Cert.Pre_weights_finite.S1x64 .f32)
    (h : Cert.Pre_weights_finite.fn (F := Ideal) q kv g sk wq wk = fun _ => 1#1) :
    (∀ e : Fin 64, IsReal (wq (ix2 0 e))) ∧ (∀ e : Fin 64, IsReal (wk (ix2 0 e))) ∧ ∀ x : Fin 16, (sk (ix1 x) : EReal) ≠ ⊤ := by
  have h0 := congrFun h (fun a => a.elim0)
  obtain ⟨h1, h2⟩ := IntOp.andi_eq_one.1 h0
  obtain ⟨h3, h4⟩ := IntOp.andi_eq_one.1 h1
  haveI : Subsingleton Cert.Pre_weights_finite.S_.Idx := ⟨fun x y => funext fun a => a.elim0⟩
  refine ⟨fun e => ?_, fun e => ?_, fun x => ?_⟩
  · have := olt_one (Host.reduce_andi_all _ _ _ _ _ h3 (ix2 0 e))
    exact isReal_of_abs (lt_of_lt_of_eq this ofBits_inf)
  · have := olt_one (Host.reduce_andi_all _ _ _ _ _ h4 (ix2 0 e))
    exact isReal_of_abs (lt_of_lt_of_eq this ofBits_inf)
  · have := olt_one (Host.reduce_andi_all _ _ _ _ _ h2 (ix1 x))
    exact (lt_of_lt_of_eq this ofBits_inf).ne

end Cert.Proof
-- ==== Proof.InBlock.lean ====
/- THE INPUT PROJECTION OF THE ATTENTION, BLOCK BY BLOCK: what a grid point writes to each of the three results, element by
   element, as sums and products of extended reals. -/
module

public import proofs.«01_k».proof.Proof.Gen.KernelInIdeal.Value
public import Idealize.ShloMosaic.Lib.Tactic
public import Idealize.ShloMosaic.Lib.Pointwise

@[expose] public section

set_option maxRecDepth 16384

noncomputable section

namespace Cert.Proof.AttnIn

open Cert.KernelInIdeal Cert.KernelInIdeal.Gen Idealize.ShloMosaic Idealize.ShloMosaic.TcCoe

/-- The reciprocal root mean square of 1024 numbers. -/
def rowScale (x : Fin 1024 → EReal) : EReal :=
  Ideal.rsqrt (Ideal.div (∑ k, x k * x k) (Ideal.ofBits FTy.f32 0x44800000#32) + Ideal.ofBits FTy.f32 0x358637BD#32)

/-- One output of the projection: a row scaled to unit root mean square and weighted, times a column of the matrix. -/
def rowDot (x w W : Fin 1024 → EReal) : EReal := ∑ k, @HMul.hMul EReal EReal EReal _ (x k * rowScale x * w k) (W k)

/-- The layer's input with the padding in front: 240 zero rows, the 16 meta rows, the input. -/
def hidden (x : Vec Ideal S2x16384x1024 .f32) (mt : Vec Ideal S16x1024 .f32) (s : Fin 2) (r : Fin 16640) (k : Fin 1024) : EReal :=
  if r.val < 240 then 0
  else if h : r.val < 256 then mt (ix2 ⟨r.val - 240, by omega⟩ k)
  else x (ix3 s ⟨r.val - 256, by omega⟩ k)

/-- One element of the projection. -/
def project (x : Vec Ideal S2x16384x1024 .f32) (mt : Vec Ideal S16x1024 .f32) (w : Vec Ideal S1x1024 .f32)
    (W : Vec Ideal S1x1024x2304 .f32) (s : Fin 2) (r : Fin 16640) (n : Fin 2304) : EReal :=
  rowDot (hidden x mt s r) (fun k => w (ix2 0 k)) fun k => W (ix3 0 k n)

/-- Rows scaled to unit root mean square, times the weights. -/
def normRows (x : FVec Ideal S256x1024 .f32) (w : Vec Ideal S1x1024 .f32) : FVec Ideal S256x1024 .bf16 :=
  let ss : FVec Ideal S256 .f32 := multiReduction .add [1] S256 (mulf x x) 0x00000000#32 reduces_S256x1024_S256 (.inl rfl) rfl
  let r : FVec Ideal S256x1 .f32 :=
    rsqrt (addf (divf (shapeCast S256x1 ss shapeCasts_S256_S256x1) (broadcast S256x1 (Scalar.ofBits .f32 0x44800000#32)))
      (broadcast S256x1 (Scalar.ofBits .f32 0x358637BD#32)))
  truncf .bf16 (mulf (mulf x (broadcastTo S256x1024 r broadcasts_S256x1_S256x1024))
    (broadcastTo S256x1024 (shapeCast S1x1024 w shapeCasts_S1x1024_S1x1024) broadcasts_S1x1024_S256x1024)) bitsLt_bf16_f32

/-- Rows times a matrix of 1024 columns. -/
def dotWide (a : FVec Ideal S256x1024 .bf16) (W : Vec Ideal S1024x1024 .bf16) : FVec Ideal S1x256x1024 .bf16 :=
  shapeCast S1x256x1024 (truncf .bf16 (matmul (φ₂ := .bf16) dot_S256x1024_S1024x1024_S256x1024_1_0_0_1_n_n none a
    (shapeCast S1024x1024 W shapeCasts_S1024x1024_S1024x1024) (constant S256x1024 .f32 0x00000000#32)) bitsLt_bf16_f32)
    shapeCasts_S256x1024_S1x256x1024

/-- Rows times a matrix of 256 columns. -/
def dotNarrow (a : FVec Ideal S256x1024 .bf16) (W : Vec Ideal S1024x256 .bf16) : FVec Ideal S1x256x256 .bf16 :=
  shapeCast S1x256x256 (truncf .bf16 (matmul (φ₂ := .bf16) dot_S256x1024_S1024x256_S256x256_1_0_0_1_n_n none a
    (shapeCast S1024x256 W shapeCasts_S1024x256_S1024x256) (constant S256x256 .f32 0x00000000#32)) bitsLt_bf16_f32)
    shapeCasts_S256x256_S1x256x256

/-- A block without its leading axis. -/
def rowsOf (x : Vec Ideal S1x256x1024 .f32) : FVec Ideal S256x1024 .f32 := shapeCast S256x1024 x shapeCasts_S1x256x1024_S256x1024

theorem normRows_at (x : FVec Ideal S256x1024 .f32) (w : Vec Ideal S1x1024 .f32) (r : Fin 256) (k : Fin 1024) :
    normRows x w (ix2 r k) = x (ix2 r k) * rowScale (fun e => x (ix2 r e)) * w (ix2 0 k) := by
  pointwise [normRows]
  rfl

theorem dotWide_at (a : FVec Ideal S256x1024 .bf16) (W : Vec Ideal S1024x1024 .bf16) (r : Fin 256) (n : Fin 1024) :
    dotWide a W (ix3 0 r n) = ∑ k : Fin 1024, @HMul.hMul EReal EReal EReal _ (a (ix2 r k)) (W (ix2 k n)) := by
  pointwise [dotWide]

theorem dotNarrow_at (a : FVec Ideal S256x1024 .bf16) (W : Vec Ideal S1024x256 .bf16) (r : Fin 256) (n : Fin 256) :
    dotNarrow a W (ix3 0 r n) = ∑ k : Fin 1024, @HMul.hMul EReal EReal EReal _ (a (ix2 r k)) (W (ix2 k n)) := by
  pointwise [dotNarrow]

theorem rowsOf_at (x : Vec Ideal S1x256x1024 .f32) (r : Fin 256) (k : Fin 1024) : rowsOf x (ix2 r k) = x (ix3 0 r k) := by
  pointwise [rowsOf]

/-- The condition that chooses the head block: the first step of a sequence. -/
theorem first_iff : ∀ n : Fin 65, Scalar.cmpi .eq (BitVec.ofNat 32 n.val) 0#32 = if n.val = 0 then 1#1 else 0#1 := by decide

/-- The rows that a grid point normalizes. -/
theorem pay3_eq (c : grid0.Coords) (x0 x1 : Vec Ideal S1x256x1024 .f32) (x2 : Vec Ideal S1x1024 .f32) :
    k0_pay3 c x0 x1 x2 = normRows (if (c 1).val = 0 then rowsOf x0 else rowsOf x1) x2 := by
  have h : k0_pay3 c x0 x1 x2
    = normRows (Scalar.select (Scalar.cmpi .eq (BitVec.ofNat 32 (c 1).val) 0#32) (rowsOf x0) (rowsOf x1)) x2 := rfl
  rw [h, first_iff (c 1)]
  split <;> rfl

theorem pay4_eq (c : grid0.Coords) (x0 x1 : Vec Ideal S1x256x1024 .f32) (x2 : Vec Ideal S1x1024 .f32) (W : Vec Ideal S1024x1024 .bf16) :
    k0_pay4 c x0 x1 x2 W = dotWide (k0_pay3 c x0 x1 x2) W := rfl

theorem pay2_eq (a : FVec Ideal S256x1024 .bf16) (W : Vec Ideal S1024x1024 .bf16) : k0_pay2 a W = dotWide a W := rfl

theorem pay15_eq (c : grid0.Coords) (x0 x1 : Vec Ideal S1x256x1024 .f32) (x2 : Vec Ideal S1x1024 .f32) (W : Vec Ideal S1024x256 .bf16) :
    k0_pay1 (k0_pay5 c x0 x1 x2 W) = dotNarrow (k0_pay3 c x0 x1 x2) W := rfl

section

variable {x0 x1 : Vec Ideal S1x256x1024 .f32} {x2 : Vec Ideal S1x1024 .f32} {x3 : Vec Ideal S1024x2304 .bf16}
  {x : Vec Ideal S2x16384x1024 .f32} {mt : Vec Ideal S16x1024 .f32} {w : Vec Ideal S1x1024 .f32} {W : Vec Ideal S1x1024x2304 .f32}

/-- The normalized rows of a grid point, read at an index. -/
theorem rows_at (c : grid0.Coords) (h0 : (c 1).val = 0 → ∀ r k, x0 (ix3 0 r k) = hidden x mt (c 0) ⟨r.val, by omega⟩ k)
    (h1 : ∀ h : (c 1).val ≠ 0, ∀ r k, x1 (ix3 0 r k) = x (ix3 (c 0) ⟨256 * ((c 1).val - 1) + r.val, by
      have : (c 1).val < 65 := (c 1).isLt; omega⟩ k))
    (h2 : ∀ k, x2 (ix2 0 k) = w (ix2 0 k)) (r : Fin 256) (k : Fin 1024) :
    k0_pay3 c x0 x1 x2 (ix2 r k)
      = hidden x mt (c 0) ⟨256 * (c 1).val + r.val, by have : (c 1).val < 65 := (c 1).isLt; omega⟩ k
        * rowScale (hidden x mt (c 0) ⟨256 * (c 1).val + r.val, by have : (c 1).val < 65 := (c 1).isLt; omega⟩) * w (ix2 0 k) := by
  have hc : (c 1).val < 65 := (c 1).isLt
  have hrow : ∀ e : Fin 1024, (if (c 1).val = 0 then rowsOf x0 else rowsOf x1) (ix2 r e)
      = hidden x mt (c 0) ⟨256 * (c 1).val + r.val, by omega⟩ e := by
    intro e
    by_cases hz : (c 1).val = 0
    · rw [if_pos hz, rowsOf_at, h0 hz]
      congr 2; omega
    · rw [if_neg hz, rowsOf_at, h1 hz]
      unfold hidden
      rw [if_neg (by show ¬ 256 * (c 1).val + r.val < 240; omega), dif_neg (by show ¬ 256 * (c 1).val + r.val < 256; omega)]
      refine congrArg x (congrArg (fun q => ix3 (c 0) q e) (Fin.ext ?_))
      show 256 * ((c 1).val - 1) + r.val = 256 * (c 1).val + r.val - 256
      omega
  rw [pay3_eq, normRows_at, h2]
  simp only [hrow]

end

end Cert.Proof.AttnIn
-- ==== Proof.InRun.lean ====
/- THE THREE RESULT ARRAYS OF THE INPUT PROJECTION, each as one function of the argument arrays (`resultQ`, `resultKV`,
   `resultG`, `run`): each grid point writes a block of 256 rows of each, and the blocks tile the arrays. -/
module

public import proofs.«01_k».proof.Proof.InBlock

@[expose] public section

set_option maxRecDepth 16384

noncomputable section

namespace Cert.Proof.AttnIn

open Cert.KernelInIdeal Cert.KernelInIdeal.Gen Cert.KernelInIdeal.Value Idealize.ShloMosaic Idealize.ShloMosaic.TcCoe Idealize.SL.Sem

section

variable (x : Vec Ideal S2x16384x1024 .f32) (mt : Vec Ideal S16x1024 .f32) (w : Vec Ideal S1x1024 .f32) (W : Vec Ideal S1x1024x2304 .f32)

/-- The queries. -/
def resultQ : Vec Ideal S2x16640x1024 .bf16 := fun y =>
  have h2 : (y 2).val < 1024 := (y 2).isLt
  project x mt w W (y 0) (y 1) ⟨(y 2).val, by omega⟩

/-- The keys and values. -/
def resultKV : Vec Ideal S2x16640x256 .bf16 := fun y =>
  have h2 : (y 2).val < 256 := (y 2).isLt
  project x mt w W (y 0) (y 1) ⟨1024 + (y 2).val, by omega⟩

/-- The gate. -/
def resultG : Vec Ideal S2x16640x1024 .bf16 := fun y =>
  have h2 : (y 2).val < 1024 := (y 2).isLt
  project x mt w W (y 0) (y 1) ⟨1280 + (y 2).val, by omega⟩

end

variable (m : (ℓ : Loc nD τ sig) → Buf (Elt Ideal) ℓ) (ρ : Dev nD → PrngReg)

/-- The block indices of the windows, at each grid point. -/
theorem idx_in : ∀ t : Fin cfg0.N,
    (win0_0.index t (0 : Fin 3) = (grid0.coords t 0).val ∧ win0_0.index t (1 : Fin 3) = 0 ∧ win0_0.index t (2 : Fin 3) = 0)
    ∧ (win0_1.index t (0 : Fin 3) = (grid0.coords t 0).val ∧ win0_1.index t (1 : Fin 3) = (grid0.coords t 1).val - 1 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = (grid0.coords t 0).val ∧ win0_4.index t (1 : Fin 3) = (grid0.coords t 1).val ∧ win0_4.index t (2 : Fin 3) = 0)
    ∧ (win0_5.index t (0 : Fin 3) = (grid0.coords t 0).val ∧ win0_5.index t (1 : Fin 3) = (grid0.coords t 1).val ∧ win0_5.index t (2 : Fin 3) = 0)
    ∧ (win0_6.index t (0 : Fin 3) = (grid0.coords t 0).val ∧ win0_6.index t (1 : Fin 3) = (grid0.coords t 1).val ∧ win0_6.index t (2 : Fin 3) = 0) :=
  (by decide +kernel : ∀ t : Fin grid0.N, _)

theorem emb4 (t : Fin cfg0.N) (y : S1x256x1024.Idx) : ((cfg0.win 4).blk t).view.emb y
    = ix3 (grid0.coords t 0) ⟨256 * (grid0.coords t 1).val + (y 1).val, by
        have : (grid0.coords t 1).val < 65 := (grid0.coords t 1).isLt; have : (y 1).val < 256 := (y 1).isLt; omega⟩ (y 2) := by
  obtain ⟨-, -, -, -, ⟨e0, e1, e2⟩, -⟩ := idx_in t
  have b0 : (y 0).val < 1 := (y 0).isLt
  funext a; apply Fin.ext
  match a with
  | ⟨0, _⟩ => show win0_4.index t (0 : Fin 3) * 1 + 1 * (y 0).val = (grid0.coords t 0).val; omega
  | ⟨1, _⟩ => show win0_4.index t (1 : Fin 3) * 256 + 1 * (y 1).val = 256 * (grid0.coords t 1).val + (y 1).val; omega
  | ⟨2, _⟩ => show win0_4.index t (2 : Fin 3) * 1024 + 1 * (y 2).val = (y 2).val; omega

theorem emb5 (t : Fin cfg0.N) (y : S1x256x256.Idx) : ((cfg0.win 5).blk t).view.emb y
    = ix3 (grid0.coords t 0) ⟨256 * (grid0.coords t 1).val + (y 1).val, by
        have : (grid0.coords t 1).val < 65 := (grid0.coords t 1).isLt; have : (y 1).val < 256 := (y 1).isLt; omega⟩ (y 2) := by
  obtain ⟨-, -, -, -, -, ⟨e0, e1, e2⟩, -⟩ := idx_in t
  have b0 : (y 0).val < 1 := (y 0).isLt
  funext a; apply Fin.ext
  match a with
  | ⟨0, _⟩ => show win0_5.index t (0 : Fin 3) * 1 + 1 * (y 0).val = (grid0.coords t 0).val; omega
  | ⟨1, _⟩ => show win0_5.index t (1 : Fin 3) * 256 + 1 * (y 1).val = 256 * (grid0.coords t 1).val + (y 1).val; omega
  | ⟨2, _⟩ => show win0_5.index t (2 : Fin 3) * 256 + 1 * (y 2).val = (y 2).val; omega

theorem emb6 (t : Fin cfg0.N) (y : S1x256x1024.Idx) : ((cfg0.win 6).blk t).view.emb y
    = ix3 (grid0.coords t 0) ⟨256 * (grid0.coords t 1).val + (y 1).val, by
        have : (grid0.coords t 1).val < 65 := (grid0.coords t 1).isLt; have : (y 1).val < 256 := (y 1).isLt; omega⟩ (y 2) := by
  obtain ⟨-, -, -, -, -, -, ⟨e0, e1, e2⟩⟩ := idx_in t
  have b0 : (y 0).val < 1 := (y 0).isLt
  funext a; apply Fin.ext
  match a with
  | ⟨0, _⟩ => show win0_6.index t (0 : Fin 3) * 1 + 1 * (y 0).val = (grid0.coords t 0).val; omega
  | ⟨1, _⟩ => show win0_6.index t (1 : Fin 3) * 256 + 1 * (y 1).val = 256 * (grid0.coords t 1).val + (y 1).val; omega
  | ⟨2, _⟩ => show win0_6.index t (2 : Fin 3) * 1024 + 1 * (y 2).val = (y 2).val; omega

theorem iblk0 (c : Dev nD) (t : Fin cfg0.N) (r : Fin 256) (k : Fin 1024) :
    iblk m c 0 t (ix3 0 r k) = V m c main_v3 (ix3 (grid0.coords t 0) r k) := by
  obtain ⟨⟨e0, e1, e2⟩, -⟩ := idx_in t
  show V m c main_v3 (((cfg0.win 0).blk t).view.emb (ix3 0 r k)) = _
  refine congrArg (V m c main_v3) (funext fun a => Fin.ext ?_)
  match a with
  | ⟨0, _⟩ => show win0_0.index t (0 : Fin 3) * 1 + 1 * 0 = (grid0.coords t 0).val; omega
  | ⟨1, _⟩ => show win0_0.index t (1 : Fin 3) * 256 + 1 * r.val = r.val; omega
  | ⟨2, _⟩ => show win0_0.index t (2 : Fin 3) * 1024 + 1 * k.val = k.val; omega

theorem iblk1 (c : Dev nD) (t : Fin cfg0.N) (r : Fin 256) (k : Fin 1024) : iblk m c 1 t (ix3 0 r k)
    = V m c main_arg0 (ix3 (grid0.coords t 0) ⟨256 * ((grid0.coords t 1).val - 1) + r.val, by
        have : (grid0.coords t 1).val < 65 := (grid0.coords t 1).isLt; omega⟩ k) := by
  obtain ⟨-, ⟨e0, e1, e2⟩, -⟩ := idx_in t
  show V m c main_arg0 (((cfg0.win 1).blk t).view.emb (ix3 0 r k)) = _
  refine congrArg (V m c main_arg0) (funext fun a => Fin.ext ?_)
  match a with
  | ⟨0, _⟩ => show win0_1.index t (0 : Fin 3) * 1 + 1 * 0 = (grid0.coords t 0).val; omega
  | ⟨1, _⟩ => show win0_1.index t (1 : Fin 3) * 256 + 1 * r.val = 256 * ((grid0.coords t 1).val - 1) + r.val; omega
  | ⟨2, _⟩ => show win0_1.index t (2 : Fin 3) * 1024 + 1 * k.val = k.val; omega

theorem iblk2 (c : Dev nD) (t : Fin cfg0.N) : iblk m c 2 t = V m c main_v5 := by
  obtain ⟨-, -, ⟨e0, e1⟩, -⟩ := idx_in t
  funext j
  show V m c main_v5 (((cfg0.win 2).blk t).view.emb j) = V m c main_v5 j
  refine congrArg (V m c main_v5) (funext fun a => Fin.ext ?_)
  match a with
  | ⟨0, _⟩ => show win0_2.index t (0 : Fin 2) * 1 + 1 * (j 0).val = (j 0).val; omega
  | ⟨1, _⟩ => show win0_2.index t (1 : Fin 2) * 1024 + 1 * (j 1).val = (j 1).val; omega

theorem iblk3 (c : Dev nD) (t : Fin cfg0.N) : iblk m c 3 t = V m c main_v7 := by
  obtain ⟨-, -, -, ⟨e0, e1⟩, -⟩ := idx_in t
  funext j
  show V m c main_v7 (((cfg0.win 3).blk t).view.emb j) = V m c main_v7 j
  refine congrArg (V m c main_v7) (funext fun a => Fin.ext ?_)
  match a with
  | ⟨0, _⟩ => show win0_3.index t (0 : Fin 2) * 1024 + 1 * (j 0).val = (j 0).val; omega
  | ⟨1, _⟩ => show win0_3.index t (1 : Fin 2) * 2304 + 1 * (j 1).val = (j 1).val; omega

/-- The host's block of padding and meta rows. -/
def headRows (mt : Vec Ideal S16x1024 .f32) : Vec Ideal S2x256x1024 .f32 :=
  concatenate S2x256x1024 1
    [⟨S2x240x1024, (broadcastInDim S2x240x1024 ![] bcast_S_S2x240x1024 (constant S_ .f32 0x00000000#32 : FVec Ideal S_ .f32) : FVec Ideal S2x240x1024 .f32)⟩,
     ⟨S2x16x1024, broadcastInDim S2x16x1024 ![0, 1, 2] bcast_S1x16x1024_S2x16x1024_0_1_2
        (broadcastInDim S1x16x1024 ![1, 2] bcast_S16x1024_S1x16x1024_1_2 mt)⟩]
    concatenates_S2x240x1024_S2x16x1024_S2x256x1024_d1

theorem headRows_at (x : Vec Ideal S2x16384x1024 .f32) (mt : Vec Ideal S16x1024 .f32) (s : Fin 2) (r : Fin 256) (k : Fin 1024) :
    headRows mt (ix3 s r k) = hidden x mt s ⟨r.val, by omega⟩ k := by
  unfold hidden
  pointwise [headRows]
  by_cases h : r.val < 240
  · rw [dif_pos h, if_pos h]
  · rw [dif_neg h, if_neg h]

theorem head_eq (c : Dev nD) : V m c main_v3 = headRows (m ((c : Thread nD τ).loc main_arg1)) := by rfl

/-- The host's weights and matrix. -/
def hostWeights (w : Vec Ideal S1x1024 .f32) : Vec Ideal S1x1024 .f32 :=
  broadcastInDim S1x1024 ![1] bcast_S1024_S1x1024_1 (shapeCast S1024 w shapeCasts_S1x1024_S1024)

def hostMatrix (W : FVec Ideal S1x1024x2304 .f32) : FVec Ideal S1024x2304 .bf16 :=
  truncf .bf16 (shapeCast S1024x2304 W shapeCasts_S1x1024x2304_S1024x2304) bitsLt_bf16_f32

theorem hostWeights_at (w : Vec Ideal S1x1024 .f32) (k : Fin 1024) : hostWeights w (ix2 0 k) = w (ix2 0 k) := by
  pointwise [hostWeights]

theorem hostMatrix_at (W : FVec Ideal S1x1024x2304 .f32) (k : Fin 1024) (n : Fin 2304) : hostMatrix W (ix2 k n) = W (ix3 0 k n) := by
  pointwise [hostMatrix]

theorem weights_eq (c : Dev nD) : V m c main_v5 = hostWeights (m ((c : Thread nD τ).loc main_arg2)) := by rfl

theorem matrix_eq (c : Dev nD) : V m c main_v7 = hostMatrix (m ((c : Thread nD τ).loc main_arg3)) := by rfl

variable (c : Dev nD)

/-- A grid point's normalized rows, in the arguments. -/
theorem point_rows (t : Fin cfg0.N) (r : Fin 256) (k : Fin 1024) :
    k0_pay3 (grid0.coords t) (View.ld (iblk m c 0 t) r0_0) (View.ld (iblk m c 1 t) r0_0) (View.ld (iblk m c 2 t) r0_1) (ix2 r k)
      = hidden (m ((c : Thread nD τ).loc main_arg0)) (m ((c : Thread nD τ).loc main_arg1)) (grid0.coords t 0)
          ⟨256 * (grid0.coords t 1).val + r.val, by have : (grid0.coords t 1).val < 65 := (grid0.coords t 1).isLt; omega⟩ k
        * rowScale (hidden (m ((c : Thread nD τ).loc main_arg0)) (m ((c : Thread nD τ).loc main_arg1)) (grid0.coords t 0)
          ⟨256 * (grid0.coords t 1).val + r.val, by have : (grid0.coords t 1).val < 65 := (grid0.coords t 1).isLt; omega⟩)
        * m ((c : Thread nD τ).loc main_arg2) (ix2 0 k) := by
  have e : ∀ Y : Vec Ideal S1x256x1024 .f32, View.ld Y r0_0 = Y := fun Y => funext fun j => congrArg Y (funext fun a => Fin.ext (by
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega))
  have e' : ∀ Y : Vec Ideal S1x1024 .f32, View.ld Y r0_1 = Y := fun Y => funext fun j => congrArg Y (funext fun a => Fin.ext (by
    match a with
    | ⟨0, _⟩ => show 0 + 1 * (j 0).val = (j 0).val; omega
    | ⟨1, _⟩ => show 0 + 1 * (j 1).val = (j 1).val; omega))
  rw [e, e, e']
  refine rows_at (w := m ((c : Thread nD τ).loc main_arg2)) (grid0.coords t) (fun _ r k => ?_) (fun _ r k => ?_) (fun k => ?_) r k
  · rw [iblk0, head_eq]; exact headRows_at _ _ _ _ _
  · rw [iblk1, V_main_arg0]
  · rw [iblk2, weights_eq]; exact hostWeights_at _ k

/-- The block of a result array that a grid point's window shows. -/
def wideBlock (t : Fin cfg0.N) (X : Vec Ideal S2x16640x1024 .bf16) : Vec Ideal S1x256x1024 .bf16 := fun y =>
  have h1 : (y 1).val < 256 := (y 1).isLt
  have hc : (grid0.coords t 1).val < 65 := (grid0.coords t 1).isLt
  X (ix3 (grid0.coords t 0) ⟨256 * (grid0.coords t 1).val + (y 1).val, by omega⟩ (y 2))

def narrowBlock (t : Fin cfg0.N) (X : Vec Ideal S2x16640x256 .bf16) : Vec Ideal S1x256x256 .bf16 := fun y =>
  have h1 : (y 1).val < 256 := (y 1).isLt
  have hc : (grid0.coords t 1).val < 65 := (grid0.coords t 1).isLt
  X (ix3 (grid0.coords t 0) ⟨256 * (grid0.coords t 1).val + (y 1).val, by omega⟩ (y 2))

/-- The results of the arguments as launched. -/
abbrev finalQ : Vec Ideal S2x16640x1024 .bf16 :=
  resultQ (m ((c : Thread nD τ).loc main_arg0)) (m ((c : Thread nD τ).loc main_arg1)) (m ((c : Thread nD τ).loc main_arg2)) (m ((c : Thread nD τ).loc main_arg3))
abbrev finalKV : Vec Ideal S2x16640x256 .bf16 :=
  resultKV (m ((c : Thread nD τ).loc main_arg0)) (m ((c : Thread nD τ).loc main_arg1)) (m ((c : Thread nD τ).loc main_arg2)) (m ((c : Thread nD τ).loc main_arg3))
abbrev finalG : Vec Ideal S2x16640x1024 .bf16 :=
  resultG (m ((c : Thread nD τ).loc main_arg0)) (m ((c : Thread nD τ).loc main_arg1)) (m ((c : Thread nD τ).loc main_arg2)) (m ((c : Thread nD τ).loc main_arg3))

theorem split_wide (y : S1x256x1024.Idx) : ∃ r n, y = ix3 0 r n := ⟨y 1, y 2, funext fun a => Fin.ext (by
  match a with
  | ⟨0, _⟩ => have : (y 0).val < 1 := (y 0).isLt; show (y 0).val = 0; omega
  | ⟨1, _⟩ => rfl
  | ⟨2, _⟩ => rfl)⟩

theorem split_narrow (y : S1x256x256.Idx) : ∃ r n, y = ix3 0 r n := ⟨y 1, y 2, funext fun a => Fin.ext (by
  match a with
  | ⟨0, _⟩ => have : (y 0).val < 1 := (y 0).isLt; show (y 0).val = 0; omega
  | ⟨1, _⟩ => rfl
  | ⟨2, _⟩ => rfl)⟩

/-- A column of the matrix, read where a load places it. -/
theorem col_at (t : Fin cfg0.N) (k : Fin 1024) (n : Fin 2304) : iblk m c 3 t (ix2 k n) = m ((c : Thread nD τ).loc main_arg3) (ix3 0 k n) := by
  rw [iblk3, matrix_eq]; exact hostMatrix_at _ k n

theorem out4 (t : Fin cfg0.N) (r : Fin 256) (n : Fin 1024) :
    k0_pay4 (grid0.coords t) (View.ld (iblk m c 0 t) r0_0) (View.ld (iblk m c 1 t) r0_0) (View.ld (iblk m c 2 t) r0_1)
      (View.ld (iblk m c 3 t) r0_2) (ix3 0 r n) = wideBlock t (finalQ m c) (ix3 0 r n) := by
  rw [pay4_eq, dotWide_at]
  show _ = rowDot (hidden (m ((c : Thread nD τ).loc main_arg0)) (m ((c : Thread nD τ).loc main_arg1)) (grid0.coords t 0)
      ⟨256 * (grid0.coords t 1).val + r.val, _⟩) (fun k => m ((c : Thread nD τ).loc main_arg2) (ix2 0 k))
      fun k => m ((c : Thread nD τ).loc main_arg3) (ix3 0 k ⟨n.val, _⟩)
  unfold rowDot
  refine Finset.sum_congr rfl fun k _ => ?_
  rw [point_rows m c t r k]
  refine congrArg (@HMul.hMul EReal EReal EReal _ _) ?_
  refine Eq.trans ?_ (col_at m c t k ⟨n.val, by omega⟩)
  refine congrArg (iblk m c 3 t) (funext fun a => Fin.ext ?_)
  match a with
  | ⟨0, _⟩ => show 0 + 1 * k.val = k.val; omega
  | ⟨1, _⟩ => show 0 + 1 * n.val = n.val; omega

theorem out5 (t : Fin cfg0.N) (r : Fin 256) (n : Fin 256) :
    k0_pay1 (k0_pay5 (grid0.coords t) (View.ld (iblk m c 0 t) r0_0) (View.ld (iblk m c 1 t) r0_0) (View.ld (iblk m c 2 t) r0_1)
      (View.ld (iblk m c 3 t) r0_3)) (ix3 0 r n) = narrowBlock t (finalKV m c) (ix3 0 r n) := by
  rw [pay15_eq, dotNarrow_at]
  show _ = rowDot (hidden (m ((c : Thread nD τ).loc main_arg0)) (m ((c : Thread nD τ).loc main_arg1)) (grid0.coords t 0)
      ⟨256 * (grid0.coords t 1).val + r.val, _⟩) (fun k => m ((c : Thread nD τ).loc main_arg2) (ix2 0 k))
      fun k => m ((c : Thread nD τ).loc main_arg3) (ix3 0 k ⟨1024 + n.val, _⟩)
  unfold rowDot
  refine Finset.sum_congr rfl fun k _ => ?_
  rw [point_rows m c t r k]
  refine congrArg (@HMul.hMul EReal EReal EReal _ _) ?_
  refine Eq.trans ?_ (col_at m c t k ⟨1024 + n.val, by omega⟩)
  refine congrArg (iblk m c 3 t) (funext fun a => Fin.ext ?_)
  match a with
  | ⟨0, _⟩ => show 0 + 1 * k.val = k.val; omega
  | ⟨1, _⟩ => show 1024 + 1 * n.val = 1024 + n.val; omega

theorem out6 (t : Fin cfg0.N) (r : Fin 256) (n : Fin 1024) :
    k0_pay2 (k0_pay3 (grid0.coords t) (View.ld (iblk m c 0 t) r0_0) (View.ld (iblk m c 1 t) r0_0) (View.ld (iblk m c 2 t) r0_1))
      (View.ld (iblk m c 3 t) r0_5) (ix3 0 r n) = wideBlock t (finalG m c) (ix3 0 r n) := by
  rw [pay2_eq, dotWide_at]
  show _ = rowDot (hidden (m ((c : Thread nD τ).loc main_arg0)) (m ((c : Thread nD τ).loc main_arg1)) (grid0.coords t 0)
      ⟨256 * (grid0.coords t 1).val + r.val, _⟩) (fun k => m ((c : Thread nD τ).loc main_arg2) (ix2 0 k))
      fun k => m ((c : Thread nD τ).loc main_arg3) (ix3 0 k ⟨1280 + n.val, _⟩)
  unfold rowDot
  refine Finset.sum_congr rfl fun k _ => ?_
  rw [point_rows m c t r k]
  refine congrArg (@HMul.hMul EReal EReal EReal _ _) ?_
  refine Eq.trans ?_ (col_at m c t k ⟨1280 + n.val, by omega⟩)
  refine congrArg (iblk m c 3 t) (funext fun a => Fin.ext ?_)
  match a with
  | ⟨0, _⟩ => show 0 + 1 * k.val = k.val; omega
  | ⟨1, _⟩ => show 1280 + 1 * n.val = 1280 + n.val; omega

/-- What a grid point writes back is its block of the results. -/
theorem flushed4_eq (t : Fin cfg0.N) : (dats m 0 c).flushed 4 t = ((cfg0.win 4).blk t).view.read (Elt Ideal) (finalQ m c) := by
  rw [flushed4]
  funext y
  show out0_4 (grid0.coords t) (iblk m c 0 t) (iblk m c 1 t) (iblk m c 2 t) (iblk m c 3 t) y = finalQ m c (((cfg0.win 4).blk t).view.emb y)
  rw [emb4]
  unfold out0_4
  refine (View.canon_apply_of_pieces (wideBlock t (finalQ m c)) _ ?_ y (cover0_4 _ y)).trans rfl
  intro p hp
  obtain rfl := List.mem_singleton.1 hp
  intro x
  obtain ⟨r, n, rfl⟩ := split_wide x
  refine (out4 m c t r n).trans (congrArg _ (funext fun a => Fin.ext ?_))
  match a with
  | ⟨0, _⟩ => rfl
  | ⟨1, _⟩ => show r.val = 0 + 1 * r.val; omega
  | ⟨2, _⟩ => show n.val = 0 + 1 * n.val; omega

theorem flushed5_eq (t : Fin cfg0.N) : (dats m 0 c).flushed 5 t = ((cfg0.win 5).blk t).view.read (Elt Ideal) (finalKV m c) := by
  rw [flushed5]
  funext y
  show out0_5 (grid0.coords t) (iblk m c 0 t) (iblk m c 1 t) (iblk m c 2 t) (iblk m c 3 t) y = finalKV m c (((cfg0.win 5).blk t).view.emb y)
  rw [emb5]
  unfold out0_5
  refine (View.canon_apply_of_pieces (narrowBlock t (finalKV m c)) _ ?_ y (cover0_5 _ y)).trans rfl
  intro p hp
  obtain rfl := List.mem_singleton.1 hp
  intro x
  obtain ⟨r, n, rfl⟩ := split_narrow x
  refine (out5 m c t r n).trans (congrArg _ (funext fun a => Fin.ext ?_))
  match a with
  | ⟨0, _⟩ => rfl
  | ⟨1, _⟩ => show r.val = 0 + 1 * r.val; omega
  | ⟨2, _⟩ => show n.val = 0 + 1 * n.val; omega

theorem flushed6_eq (t : Fin cfg0.N) : (dats m 0 c).flushed 6 t = ((cfg0.win 6).blk t).view.read (Elt Ideal) (finalG m c) := by
  rw [flushed6]
  funext y
  show out0_6 (grid0.coords t) (iblk m c 0 t) (iblk m c 1 t) (iblk m c 2 t) (iblk m c 3 t) y = finalG m c (((cfg0.win 6).blk t).view.emb y)
  rw [emb6]
  unfold out0_6
  refine (View.canon_apply_of_pieces (wideBlock t (finalG m c)) _ ?_ y (cover0_6 _ y)).trans rfl
  intro p hp
  obtain rfl := List.mem_singleton.1 hp
  intro x
  obtain ⟨r, n, rfl⟩ := split_wide x
  refine (out6 m c t r n).trans (congrArg _ (funext fun a => Fin.ext ?_))
  match a with
  | ⟨0, _⟩ => rfl
  | ⟨1, _⟩ => show r.val = 0 + 1 * r.val; omega
  | ⟨2, _⟩ => show n.val = 0 + 1 * n.val; omega

/-- Every pair of coordinates is a grid point. -/
theorem point_of : ∀ (s : Fin 2) (n : Fin 65), ∃ t : Fin cfg0.N, (grid0.coords t 0).val = s.val ∧ (grid0.coords t 1).val = n.val :=
  (by decide +kernel : ∀ (s : Fin 2) (n : Fin 65), ∃ t : Fin grid0.N, (grid0.coords t 0).val = s.val ∧ (grid0.coords t 1).val = n.val)

theorem covered4 (y : S2x16640x1024.Idx) : ∃ t : Fin cfg0.N, (cfg0.win 4).flush t = true ∧ y ∈ ((cfg0.win 4).blk t).view.set := by
  have h1 : (y 1).val < 16640 := (y 1).isLt
  obtain ⟨t, e0, e1⟩ := point_of (y 0) ⟨(y 1).val / 256, by omega⟩
  refine ⟨t, flush0_4 _, ?_⟩
  have h := ((cfg0.win 4).blk t).view.emb_mem_set (ix3 0 ⟨(y 1).val % 256, by omega⟩ (y 2))
  rw [emb4] at h
  refine Eq.mp (congrArg (· ∈ _) (funext fun a => Fin.ext ?_)) h
  match a with
  | ⟨0, _⟩ => exact e0
  | ⟨1, _⟩ =>
    show 256 * (grid0.coords t 1).val + (y 1).val % 256 = (y 1).val
    rw [e1]; show 256 * ((y 1).val / 256) + (y 1).val % 256 = (y 1).val; omega
  | ⟨2, _⟩ => rfl

theorem covered5 (y : S2x16640x256.Idx) : ∃ t : Fin cfg0.N, (cfg0.win 5).flush t = true ∧ y ∈ ((cfg0.win 5).blk t).view.set := by
  have h1 : (y 1).val < 16640 := (y 1).isLt
  obtain ⟨t, e0, e1⟩ := point_of (y 0) ⟨(y 1).val / 256, by omega⟩
  refine ⟨t, flush0_5 _, ?_⟩
  have h := ((cfg0.win 5).blk t).view.emb_mem_set (ix3 0 ⟨(y 1).val % 256, by omega⟩ (y 2))
  rw [emb5] at h
  refine Eq.mp (congrArg (· ∈ _) (funext fun a => Fin.ext ?_)) h
  match a with
  | ⟨0, _⟩ => exact e0
  | ⟨1, _⟩ =>
    show 256 * (grid0.coords t 1).val + (y 1).val % 256 = (y 1).val
    rw [e1]; show 256 * ((y 1).val / 256) + (y 1).val % 256 = (y 1).val; omega
  | ⟨2, _⟩ => rfl

theorem covered6 (y : S2x16640x1024.Idx) : ∃ t : Fin cfg0.N, (cfg0.win 6).flush t = true ∧ y ∈ ((cfg0.win 6).blk t).view.set := by
  have h1 : (y 1).val < 16640 := (y 1).isLt
  obtain ⟨t, e0, e1⟩ := point_of (y 0) ⟨(y 1).val / 256, by omega⟩
  refine ⟨t, flush0_6 _, ?_⟩
  have h := ((cfg0.win 6).blk t).view.emb_mem_set (ix3 0 ⟨(y 1).val % 256, by omega⟩ (y 2))
  rw [emb6] at h
  refine Eq.mp (congrArg (· ∈ _) (funext fun a => Fin.ext ?_)) h
  match a with
  | ⟨0, _⟩ => exact e0
  | ⟨1, _⟩ =>
    show 256 * (grid0.coords t 1).val + (y 1).val % 256 = (y 1).val
    rw [e1]; show 256 * ((y 1).val / 256) + (y 1).val % 256 = (y 1).val; omega
  | ⟨2, _⟩ => rfl

/-- The result arrays after the run. -/
theorem final4 : (dats m 0 c).arrAt 4 cfg0.N = finalQ m c :=
  (dats m 0 c).arrAt_eq_of_cover 4 (finalQ m c) (fun t _ => flushed4_eq m c t) covered4
theorem final5 : (dats m 0 c).arrAt 5 cfg0.N = finalKV m c :=
  (dats m 0 c).arrAt_eq_of_cover 5 (finalKV m c) (fun t _ => flushed5_eq m c t) covered5
theorem final6 : (dats m 0 c).arrAt 6 cfg0.N = finalG m c :=
  (dats m 0 c).arrAt_eq_of_cover 6 (finalG m c) (fun t _ => flushed6_eq m c t) covered6

/-- The kernel's run with the result arrays at their functions of the arguments. -/
theorem run : θ_run defs (onTc (τ := τ) (main (F := Ideal))) ⟨m, fun _ => 0, ρ⟩ fun r => ∀ c : Dev nD,
      r.2.mem ((c : Thread nD τ).loc main_v8_0) = finalQ m c
      ∧ r.2.mem ((c : Thread nD τ).loc main_v8_1) = finalKV m c
      ∧ r.2.mem ((c : Thread nD τ).loc main_v8_2) = finalG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (run_blocks m ρ)

end Cert.Proof.AttnIn
-- ==== Proof.InRef.lean ====
/- THE REFERENCE OF THE INPUT PROJECTION READ AT AN INDEX, and its equality with the kernel's result arrays. -/
module

public import proofs.«01_k».proof.Proof.InRun
public import proofs.«01_k».proof.Proof.Gen.ReferenceInIdeal.Run

@[expose] public section

set_option maxRecDepth 16384

noncomputable section

namespace Cert.Proof.AttnIn

open Cert.ReferenceInIdeal Cert.ReferenceInIdeal.Gen Idealize.ShloMosaic Idealize.ShloMosaic.TcCoe Idealize.SL.Sem

/-- The meta rows and the input, one after the other. -/
def refHidden (x : FVec Ideal S2x16384x1024 .f32) (mt : FVec Ideal S16x1024 .f32) : FVec Ideal S2x16400x1024 .f32 :=
  concatenate S2x16400x1024 1
    [⟨S2x16x1024, broadcastInDim S2x16x1024 ![0, 1, 2] bcast_S1x16x1024_S2x16x1024_0_1_2
        (broadcastInDim S1x16x1024 ![1, 2] bcast_S16x1024_S1x16x1024_1_2 mt)⟩, ⟨S2x16384x1024, x⟩]
    concatenates_S2x16x1024_S2x16384x1024_S2x16400x1024_d1

/-- The rows scaled to unit root mean square, times the weights. -/
def refNorm (h : FVec Ideal S2x16400x1024 .f32) (w : FVec Ideal S1x1024 .f32) : FVec Ideal S2x16400x1024 .f32 :=
  mulf (mulf h (broadcastInDim S2x16400x1024 ![0, 1, 2] bcast_S2x16400x1_S2x16400x1024_0_1_2
      (Host.rsqrt (addf (Host.divf
        (broadcastInDim S2x16400x1 ![0, 1] bcast_S2x16400_S2x16400x1_0_1
          (Host.reduceAdd (mulf h h) (constant S_ .f32 0x00000000#32) reducesTo_S2x16400x1024_S2x16400_d2 h_S_))
        (broadcastInDim S2x16400x1 ![] bcast_S_S2x16400x1 (constant S_ .f32 0x44800000#32)))
        (broadcastInDim S2x16400x1 ![] bcast_S_S2x16400x1 (constant S_ .f32 0x358637BD#32))))))
    (broadcastInDim S2x16400x1024 ![0, 1, 2] bcast_S1x1x1024_S2x16400x1024_0_1_2
      (broadcastInDim S1x1x1024 ![2] bcast_S1024_S1x1x1024_2 (shapeCast S1024 w shapeCasts_S1x1024_S1024)))

/-- The product with the matrix. -/
def refDot (h : FVec Ideal S2x16400x1024 .f32) (W : FVec Ideal S1x1024x2304 .f32) : FVec Ideal S2x16400x2304 .f32 :=
  Host.dotGeneral dot_S2x16400x1024_S1024x2304_S2x16400x2304_2_0_01_1_n_n none h
    (shapeCast S1024x2304 W shapeCasts_S1x1024x2304_S1024x2304)

/-- The padding in front, and the rounding. -/
def refPad (u : FVec Ideal S2x16400x2304 .f32) : FVec Ideal S2x16640x2304 .bf16 :=
  truncf .bf16 (pad S2x16640x2304 ![0, 240, 0] ![0, 0, 0] ![0, 0, 0] u (sitofp .f32 (constantI S_ 32 0#32))
    pads_S2x16400x2304_S2x16640x2304_000_24000_000 h_S_) bitsLt_bf16_f32

theorem refHidden_at (x : FVec Ideal S2x16384x1024 .f32) (mt : FVec Ideal S16x1024 .f32) (s : Fin 2) (r : Fin 16400) (k : Fin 1024) :
    refHidden x mt (ix3 s r k) = hidden x mt s ⟨240 + r.val, by omega⟩ k := by
  unfold hidden
  rw [if_neg (by show ¬ 240 + r.val < 240; omega)]
  pointwise [refHidden]
  by_cases h : r.val < 16
  · rw [dif_pos h, dif_pos (by show 240 + r.val < 256; omega)]
  · rw [dif_neg h, dif_neg (by show ¬ 240 + r.val < 256; omega)]
    refine congrArg x (congrArg (fun q => ix3 s q k) (Fin.ext (by show r.val - 16 = 240 + r.val - 256; omega)))

theorem refNorm_at (h : FVec Ideal S2x16400x1024 .f32) (w : FVec Ideal S1x1024 .f32) (s : Fin 2) (r : Fin 16400) (k : Fin 1024) :
    refNorm h w (ix3 s r k) = h (ix3 s r k) * rowScale (fun e => h (ix3 s r e)) * w (ix2 0 k) := by
  pointwise [refNorm]
  rfl

theorem refDot_at (h : FVec Ideal S2x16400x1024 .f32) (W : FVec Ideal S1x1024x2304 .f32) (s : Fin 2) (r : Fin 16400) (n : Fin 2304) :
    refDot h W (ix3 s r n) = ∑ k : Fin 1024, @HMul.hMul EReal EReal EReal _ (h (ix3 s r k)) (W (ix3 0 k n)) := by
  pointwise [refDot]

theorem refPad_at (u : FVec Ideal S2x16400x2304 .f32) (s : Fin 2) (r : Fin 16640) (n : Fin 2304) :
    refPad u (ix3 s r n) = if h : 240 ≤ r.val then u (ix3 s ⟨r.val - 240, by omega⟩ n) else 0 := by
  have z : @Eq EReal (FloatOps.sitofp (F := Ideal) FTy.f32 0#32) 0 := by
    show (((0#32 : BitVec 32).toInt : ℝ) : EReal) = 0
    simp
  pointwise [refPad]
  by_cases h : 240 ≤ r.val
  · rw [dif_pos h, dif_pos ⟨h, by omega⟩]
  · rw [dif_neg h, dif_neg (fun q => h q.1)]; exact z

/-- The reference's product with its padding is the kernel's projection: a zero row has zero products. -/
theorem refPad_project (x : FVec Ideal S2x16384x1024 .f32) (mt : FVec Ideal S16x1024 .f32) (w : FVec Ideal S1x1024 .f32)
    (W : FVec Ideal S1x1024x2304 .f32) (s : Fin 2) (r : Fin 16640) (n : Fin 2304) :
    refPad (refDot (refNorm (refHidden x mt) w) W) (ix3 s r n) = project x mt w W s r n := by
  rw [refPad_at]
  unfold project rowDot
  by_cases h : 240 ≤ r.val
  · have e : (⟨240 + (r.val - 240), by omega⟩ : Fin 16640) = r := Fin.ext (by show 240 + (r.val - 240) = r.val; omega)
    rw [dif_pos h, refDot_at]
    simp only [refNorm_at, refHidden_at, e]
  · have z : ∀ k, hidden x mt s r k = 0 := fun k => if_pos (by omega)
    rw [dif_neg h]
    refine (Finset.sum_eq_zero fun k _ => ?_).symm
    rw [z k, zero_mul, zero_mul, zero_mul]

/-- The three results of the reference. -/
def refQ (u : FVec Ideal S2x16640x2304 .bf16) : FVec Ideal S2x16640x1024 .bf16 :=
  extractStridedSlice S2x16640x1024 ![0, 0, 0] u slices_S2x16640x2304_S2x16640x1024_0_0_0
def refKV (u : FVec Ideal S2x16640x2304 .bf16) : FVec Ideal S2x16640x256 .bf16 :=
  extractStridedSlice S2x16640x256 ![0, 0, 1024] u slices_S2x16640x2304_S2x16640x256_0_0_1024
def refG (u : FVec Ideal S2x16640x2304 .bf16) : FVec Ideal S2x16640x1024 .bf16 :=
  extractStridedSlice S2x16640x1024 ![0, 0, 1280] u slices_S2x16640x2304_S2x16640x1024_0_0_1280

theorem refQ_at (u : FVec Ideal S2x16640x2304 .bf16) (s : Fin 2) (r : Fin 16640) (n : Fin 1024) :
    refQ u (ix3 s r n) = u (ix3 s r ⟨n.val, by omega⟩) := by pointwise [refQ]
theorem refKV_at (u : FVec Ideal S2x16640x2304 .bf16) (s : Fin 2) (r : Fin 16640) (n : Fin 256) :
    refKV u (ix3 s r n) = u (ix3 s r ⟨1024 + n.val, by omega⟩) := by pointwise [refKV]
theorem refG_at (u : FVec Ideal S2x16640x2304 .bf16) (s : Fin 2) (r : Fin 16640) (n : Fin 1024) :
    refG u (ix3 s r n) = u (ix3 s r ⟨1280 + n.val, by omega⟩) := by pointwise [refG]

theorem split_idx {n : Nat} (y : (⟨3, ![2, 16640, n]⟩ : Shape).Idx) : ∃ (s : Fin 2) (r : Fin 16640) (k : Fin n), y = ix3 s r k :=
  ⟨y 0, y 1, y 2, funext fun a => match a with | ⟨0, _⟩ => rfl | ⟨1, _⟩ => rfl | ⟨2, _⟩ => rfl⟩

section

variable (x : FVec Ideal S2x16384x1024 .f32) (mt : FVec Ideal S16x1024 .f32) (w : FVec Ideal S1x1024 .f32) (W : FVec Ideal S1x1024x2304 .f32)

theorem resultQ_eq : refQ (refPad (refDot (refNorm (refHidden x mt) w) W)) = resultQ x mt w W := by
  funext y
  obtain ⟨s, r, k, rfl⟩ := split_idx y
  rw [refQ_at, refPad_project]; rfl

theorem resultKV_eq : refKV (refPad (refDot (refNorm (refHidden x mt) w) W)) = resultKV x mt w W := by
  funext y
  obtain ⟨s, r, k, rfl⟩ := split_idx y
  rw [refKV_at, refPad_project]; rfl

theorem resultG_eq : refG (refPad (refDot (refNorm (refHidden x mt) w) W)) = resultG x mt w W := by
  funext y
  obtain ⟨s, r, k, rfl⟩ := split_idx y
  rw [refG_at, refPad_project]; rfl

end

/-- The reference's run with its results at the kernel's functions of the arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = resultQ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v22) = resultKV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v23) = resultG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (resultQ_eq _ _ _ _), (h c).2.1.trans (resultKV_eq _ _ _ _),
    (h c).2.2.1.trans (resultG_eq _ _ _ _), (h c).2.2.2⟩) (Cert.ReferenceInIdeal.Value.run m ρ)

end Cert.Proof.AttnIn
-- ==== Proof.OutBlock.lean ====
/- THE OUTPUT PROJECTION OF THE RECURRENCE, BLOCK BY BLOCK: what a grid point writes, element by element. The body adds to
   the rows eight products, each of 256 columns (two heads) with 256 rows of the matrix. -/
module

public import proofs.«01_k».proof.Proof.Gen.KernelOutIdeal.Value
public import Idealize.ShloMosaic.Lib.Tactic
public import Idealize.ShloMosaic.Lib.Pointwise

@[expose] public section

set_option maxRecDepth 16384

noncomputable section

namespace Cert.Proof.DnOut

open Cert.KernelOutIdeal Cert.KernelOutIdeal.Gen Idealize.ShloMosaic Idealize.ShloMosaic.TcCoe

/-- The reciprocal root mean square of 128 numbers. -/
def headScale (x : Fin 128 → EReal) : EReal :=
  Ideal.rsqrt (Ideal.div (∑ k, x k * x k) (Ideal.ofBits FTy.f32 0x43000000#32) + Ideal.ofBits FTy.f32 0x358637BD#32)

/-- One component of a head, scaled to unit root mean square and weighted, times the silu of its gate. -/
def gate (o z : Fin 128 → EReal) (w : EReal) (e : Fin 128) : EReal := o e * headScale o * w * (z e * Ideal.logistic (z e))

/-- The columns of one head, in a row of sixteen heads. -/
def headOf (x : Fin 2048 → EReal) (h : Fin 16) : Fin 128 → EReal := fun e => x ⟨128 * h.val + e.val, by omega⟩

/-- A row of sixteen gated heads. -/
def gatedRow (o z : Fin 2048 → EReal) (w : Fin 128 → EReal) (j : Fin 2048) : EReal :=
  gate (headOf o ⟨j.val / 128, by omega⟩) (headOf z ⟨j.val / 128, by omega⟩) (w ⟨j.val % 128, by omega⟩) ⟨j.val % 128, by omega⟩

/-- A gated head of a block. -/
def headBlock (w : Vec Ideal S1x128 .f32) (o z : Vec Ideal S1x256x128 .bf16) : FVec Ideal S256x128 .bf16 :=
  let x : FVec Ideal S256x128 .f32 := extf .f32 (shapeCast S256x128 o shapeCasts_S1x256x128_S256x128 : FVec Ideal S256x128 .bf16) bitsLt_bf16_f32
  let g : FVec Ideal S256x128 .f32 := extf .f32 (shapeCast S256x128 z shapeCasts_S1x256x128_S256x128 : FVec Ideal S256x128 .bf16) bitsLt_bf16_f32
  let ss : FVec Ideal S256 .f32 := multiReduction .add [1] S256 (mulf x x) 0x00000000#32 reduces_S256x128_S256 (.inl rfl) rfl
  let r : FVec Ideal S256x1 .f32 :=
    rsqrt (addf (divf (shapeCast S256x1 ss shapeCasts_S256_S256x1) (broadcast S256x1 (Scalar.ofBits .f32 0x43000000#32)))
      (broadcast S256x1 (Scalar.ofBits .f32 0x358637BD#32)))
  truncf .bf16 (mulf (mulf (mulf x (broadcastTo S256x128 r broadcasts_S256x1_S256x128))
    (broadcastTo S256x128 (shapeCast S1x128 w shapeCasts_S1x128_S1x128 : FVec Ideal S1x128 .f32) broadcasts_S1x128_S256x128)) (mulf g (logistic g))) bitsLt_bf16_f32

/-- Two heads times 256 rows of the matrix, added to the rows. -/
def addPair (acc : FVec Ideal S256x1024 .f32) (a b : FVec Ideal S256x128 .bf16) (W : FVec Ideal S256x1024 .bf16) : FVec Ideal S256x1024 .f32 :=
  addf acc (matmul dot_S256x256_S256x1024_S256x1024_1_0_0_1_n_n none
    (concatenate S256x256 1 [⟨S256x128, a⟩, ⟨S256x128, b⟩] concatenates_S256x128_S256x128_S256x256_d1)
    (shapeCast S256x1024 W shapeCasts_S256x1024_S256x1024 : FVec Ideal S256x1024 .bf16) (constant S256x1024 .f32 0x00000000#32))

theorem headBlock_at (w : Vec Ideal S1x128 .f32) (o z : Vec Ideal S1x256x128 .bf16) (r : Fin 256) (e : Fin 128) :
    headBlock w o z (ix2 r e) = gate (fun k => o (ix3 0 r k)) (fun k => z (ix3 0 r k)) (w (ix2 0 e)) e := by
  pointwise [headBlock]
  rfl

theorem addPair_at (acc : FVec Ideal S256x1024 .f32) (a b : FVec Ideal S256x128 .bf16) (W : FVec Ideal S256x1024 .bf16)
    (f : Fin 256 → EReal) (r : Fin 256) (n : Fin 1024) (ha : ∀ j : Fin 128, a (ix2 r j) = f ⟨j.val, by omega⟩)
    (hb : ∀ j : Fin 128, b (ix2 r j) = f ⟨128 + j.val, by omega⟩) :
    addPair acc a b W (ix2 r n) = @HAdd.hAdd EReal EReal EReal _ (acc (ix2 r n)) (∑ j : Fin 256, @HMul.hMul EReal EReal EReal _ (f j) (W (ix2 j n))) := by
  have h : ∀ j : Fin 256, concatenate S256x256 1 [⟨S256x128, a⟩, ⟨S256x128, b⟩] concatenates_S256x128_S256x128_S256x256_d1 (ix2 r j) = f j := by
    intro j
    pointwise
    by_cases hj : j.val < 128
    · rw [dif_pos hj, ha]
    · rw [dif_neg hj, hb]
      exact congrArg f (Fin.ext (by show 128 + (j.val - 128) = j.val; omega))
  unfold addPair
  generalize concatenate S256x256 1 _ _ = P at h ⊢
  pointwise
  simp only [h]

/-- The rectangle of one head's columns, and that of a pair's rows of the matrix. -/
abbrev headRect (h : Nat) (hh : h < 16) : Rect S1x256x2048 :=
  Rect.unit (s := S1x256x2048) ![0, 0, 128 * h] S1x256x128.size fun a => by
    match a with
    | ⟨0, _⟩ => show 0 + 1 ≤ 1; omega
    | ⟨1, _⟩ => show 0 + 256 ≤ 256; omega
    | ⟨2, _⟩ => show 128 * h + 128 ≤ 2048; omega

abbrev pairRect (k : Nat) (hk : k < 8) : Rect S2048x1280 :=
  Rect.unit (s := S2048x1280) ![256 * k, 0] S256x1024.size fun a => by
    match a with
    | ⟨0, _⟩ => show 256 * k + 256 ≤ 2048; omega
    | ⟨1, _⟩ => show 0 + 1024 ≤ 1280; omega

section

variable (x0 : Vec Ideal S1x256x1024 .f32) (x1 x2 : Vec Ideal S1x256x2048 .bf16) (x3 : Vec Ideal S1x128 .f32) (x4 : Vec Ideal S2048x1280 .bf16)

/-- One of the eight products, added to the rows. -/
def step (k : Nat) (hk : k < 8) (acc : FVec Ideal S256x1024 .f32) : FVec Ideal S256x1024 .f32 :=
  addPair acc (headBlock (View.ld x3 r0_0) (View.ld x1 (headRect (2 * k) (by omega))) (View.ld x2 (headRect (2 * k) (by omega))))
    (headBlock (View.ld x3 r0_0) (View.ld x1 (headRect (2 * k + 1) (by omega))) (View.ld x2 (headRect (2 * k + 1) (by omega))))
    (View.ld x4 (pairRect k hk))

/-- What the body stores. -/
def stored : FVec Ideal S1x256x1024 .f32 :=
  shapeCast S1x256x1024 (step x1 x2 x3 x4 7 (by omega) (step x1 x2 x3 x4 6 (by omega) (step x1 x2 x3 x4 5 (by omega)
    (step x1 x2 x3 x4 4 (by omega) (step x1 x2 x3 x4 3 (by omega) (step x1 x2 x3 x4 2 (by omega) (step x1 x2 x3 x4 1 (by omega)
      (step x1 x2 x3 x4 0 (by omega)
        (shapeCast S256x1024 (View.ld x0 r0_1) shapeCasts_S1x256x1024_S256x1024 : FVec Ideal S256x1024 .f32)))))))))
    shapeCasts_S256x1024_S1x256x1024

theorem out_eq : out0_5 x0 x1 x2 x3 x4 = View.canon [⟨r0_1, stored x0 x1 x2 x3 x4⟩] := by
  sl_kernel_rfl

theorem step_at (k : Nat) (hk : k < 8) (acc : FVec Ideal S256x1024 .f32) (r : Fin 256) (n : Fin 1024) :
    step x1 x2 x3 x4 k hk acc (ix2 r n) = @HAdd.hAdd EReal EReal EReal _ (acc (ix2 r n))
      (∑ j : Fin 256, @HMul.hMul EReal EReal EReal _
        (gatedRow (fun q => x1 (ix3 0 r q)) (fun q => x2 (ix3 0 r q)) (fun e => x3 (ix2 0 e)) ⟨256 * k + j.val, by omega⟩)
        (x4 (ix2 ⟨256 * k + j.val, by omega⟩ ⟨n.val, by omega⟩))) := by
  have L1 : ∀ (X : Vec Ideal S1x256x2048 .bf16) (h : Nat) (hh : h < 16) (e : Fin 128),
      View.ld X (headRect h hh) (ix3 0 r e) = headOf (fun q => X (ix3 0 r q)) ⟨h, hh⟩ e := by
    intro X h hh e
    refine congrArg X (funext fun a => Fin.ext ?_)
    match a with
    | ⟨0, _⟩ => rfl
    | ⟨1, _⟩ => show 0 + 1 * r.val = r.val; omega
    | ⟨2, _⟩ => show 128 * h + 1 * e.val = 128 * h + e.val; omega
  have L3 : ∀ e : Fin 128, View.ld x3 r0_0 (ix2 0 e) = x3 (ix2 0 e) := by
    intro e
    refine congrArg x3 (funext fun a => Fin.ext ?_)
    match a with
    | ⟨0, _⟩ => rfl
    | ⟨1, _⟩ => show 0 + 1 * e.val = e.val; omega
  have L4 : ∀ j : Fin 256, View.ld x4 (pairRect k hk) (ix2 j n) = x4 (ix2 ⟨256 * k + j.val, by omega⟩ ⟨n.val, by omega⟩) := by
    intro j
    refine congrArg x4 (funext fun a => Fin.ext ?_)
    match a with
    | ⟨0, _⟩ => show 256 * k + 1 * j.val = 256 * k + j.val; omega
    | ⟨1, _⟩ => show 0 + 1 * n.val = n.val; omega
  have G : ∀ (h : Nat) (hh : h < 16) (e : Fin 128) (j : Fin 2048), j.val = 128 * h + e.val →
      headBlock (View.ld x3 r0_0) (View.ld x1 (headRect h hh)) (View.ld x2 (headRect h hh)) (ix2 r e)
        = gatedRow (fun q => x1 (ix3 0 r q)) (fun q => x2 (ix3 0 r q)) (fun e => x3 (ix2 0 e)) j := by
    intro h hh e j hj
    have e1 : (⟨j.val / 128, by omega⟩ : Fin 16) = ⟨h, hh⟩ := Fin.ext (by show j.val / 128 = h; omega)
    have e2 : (⟨j.val % 128, by omega⟩ : Fin 128) = e := Fin.ext (by show j.val % 128 = e.val; omega)
    refine (headBlock_at _ _ _ r e).trans ?_
    unfold gatedRow
    rw [e1, e2]
    have a1 : (fun k : Fin 128 => View.ld x1 (headRect h hh) (ix3 0 r k)) = headOf (fun q => x1 (ix3 0 r q)) ⟨h, hh⟩ := funext (L1 x1 h hh)
    have a2 : (fun k : Fin 128 => View.ld x2 (headRect h hh) (ix3 0 r k)) = headOf (fun q => x2 (ix3 0 r q)) ⟨h, hh⟩ := funext (L1 x2 h hh)
    exact congr (congrArg₂ gate a1 a2 |> fun q => congr q (L3 e)) rfl
  refine (addPair_at acc _ _ _ (fun j => gatedRow (fun q => x1 (ix3 0 r q)) (fun q => x2 (ix3 0 r q)) (fun e => x3 (ix2 0 e)) ⟨256 * k + j.val, by omega⟩)
    r n (fun j => G _ _ j _ ?_) (fun j => G _ _ j _ ?_)).trans ?_
  · show 256 * k + j.val = 128 * (2 * k) + j.val; omega
  · show 256 * k + (128 + j.val) = 128 * (2 * k + 1) + j.val; omega
  · exact congrArg (@HAdd.hAdd EReal EReal EReal _ _) (Finset.sum_congr rfl fun j _ => congrArg (@HMul.hMul EReal EReal EReal _ _) (L4 j))

/-- A sum over 2048 places, 256 at a time. -/
theorem sum_blocks (f : Fin 2048 → EReal) : ∑ j, f j = ∑ k : Fin 8, ∑ j : Fin 256, f ⟨256 * k.val + j.val, by omega⟩ := by
  rw [← Finset.sum_product', Finset.univ_product_univ]
  refine (Fintype.sum_equiv (finProdFinEquiv : Fin 8 × Fin 256 ≃ Fin 2048) _ _ fun p => ?_).symm
  refine congrArg f (Fin.ext ?_)
  show 256 * p.1.val + p.2.val = p.2.val + 256 * p.1.val
  omega

theorem shape_in_at (x : Vec Ideal S1x256x1024 .f32) (r : Fin 256) (n : Fin 1024) :
    (shapeCast S256x1024 x shapeCasts_S1x256x1024_S256x1024 : FVec Ideal S256x1024 .f32) (ix2 r n) = x (ix3 0 r n) := by pointwise []

theorem shape_out_at (x : FVec Ideal S256x1024 .f32) (r : Fin 256) (n : Fin 1024) :
    (shapeCast S1x256x1024 x shapeCasts_S256x1024_S1x256x1024 : FVec Ideal S1x256x1024 .f32) (ix3 0 r n) = x (ix2 r n) := by pointwise []

/-- WHAT THE BODY STORES, READ AT AN INDEX: the row plus one product over all sixteen heads. -/
theorem stored_at (r : Fin 256) (n : Fin 1024) :
    stored x0 x1 x2 x3 x4 (ix3 0 r n) = @HAdd.hAdd EReal EReal EReal _ (x0 (ix3 0 r n))
      (∑ j : Fin 2048, @HMul.hMul EReal EReal EReal _
        (gatedRow (fun q => x1 (ix3 0 r q)) (fun q => x2 (ix3 0 r q)) (fun e => x3 (ix2 0 e)) j) (x4 (ix2 j ⟨n.val, by omega⟩))) := by
  have L0 : View.ld x0 r0_1 (ix3 0 r n) = x0 (ix3 0 r n) := by
    refine congrArg x0 (funext fun a => Fin.ext ?_)
    match a with
    | ⟨0, _⟩ => rfl
    | ⟨1, _⟩ => show 0 + 1 * r.val = r.val; omega
    | ⟨2, _⟩ => show 0 + 1 * n.val = n.val; omega
  unfold stored
  rw [shape_out_at, step_at, step_at, step_at, step_at, step_at, step_at, step_at, step_at, shape_in_at]
  rw [sum_blocks, Fin.sum_univ_eight]
  refine Eq.trans ?_ (congrArg (@HAdd.hAdd EReal EReal EReal _ · _) L0)
  simp only [add_assoc]
  rfl

end

end Cert.Proof.DnOut
-- ==== Proof.OutRun.lean ====
/- THE RESULT ARRAY OF THE RECURRENCE'S OUTPUT PROJECTION as one function of the argument arrays (`result`, `run`): each grid
   point writes a block of 256 rows, and the blocks tile the array. -/
module

public import proofs.«01_k».proof.Proof.OutBlock

@[expose] public section

set_option maxRecDepth 16384

noncomputable section

namespace Cert.Proof.DnOut

open Cert.KernelOutIdeal Cert.KernelOutIdeal.Gen Cert.KernelOutIdeal.Value Idealize.ShloMosaic Idealize.ShloMosaic.TcCoe Idealize.SL.Sem

/-- One element of the result: the row behind the 256 rows of padding and meta tokens, plus the product of its gated heads with
    a column of the matrix. -/
def element (h : Vec Ideal S2x16640x1024 .f32) (o z : Vec Ideal S2x16640x2048 .bf16) (w : Vec Ideal S1x128 .f32)
    (W : Vec Ideal S1x2048x1024 .f32) (s : Fin 2) (r : Fin 16384) (n : Fin 1024) : EReal :=
  @HAdd.hAdd EReal EReal EReal _ (h (ix3 s ⟨256 + r.val, by omega⟩ n))
    (∑ j : Fin 2048, @HMul.hMul EReal EReal EReal _
      (gatedRow (fun q => o (ix3 s ⟨256 + r.val, by omega⟩ q)) (fun q => z (ix3 s ⟨256 + r.val, by omega⟩ q)) (fun e => w (ix2 0 e)) j)
      (W (ix3 0 j n)))

/-- The result. -/
def result (h : Vec Ideal S2x16640x1024 .f32) (o z : Vec Ideal S2x16640x2048 .bf16) (w : Vec Ideal S1x128 .f32)
    (W : Vec Ideal S1x2048x1024 .f32) : Vec Ideal S2x16384x1024 .f32 := fun y => element h o z w W (y 0) (y 1) (y 2)

variable (m : (ℓ : Loc nD τ sig) → Buf (Elt Ideal) ℓ) (ρ : Dev nD → PrngReg)

/-- The block indices of the windows, at each grid point. -/
theorem idx_in : ∀ t : Fin cfg0.N,
    (win0_0.index t (0 : Fin 3) = (grid0.coords t 0).val ∧ win0_0.index t (1 : Fin 3) = (grid0.coords t 1).val + 1 ∧ win0_0.index t (2 : Fin 3) = 0)
    ∧ (win0_1.index t (0 : Fin 3) = (grid0.coords t 0).val ∧ win0_1.index t (1 : Fin 3) = (grid0.coords t 1).val + 1 ∧ win0_1.index t (2 : Fin 3) = 0)
    ∧ (win0_2.index t (0 : Fin 3) = (grid0.coords t 0).val ∧ win0_2.index t (1 : Fin 3) = (grid0.coords t 1).val + 1 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = (grid0.coords t 0).val ∧ win0_5.index t (1 : Fin 3) = (grid0.coords t 1).val ∧ win0_5.index t (2 : Fin 3) = 0) :=
  (by decide +kernel : ∀ t : Fin grid0.N, _)

theorem emb5 (t : Fin cfg0.N) (y : S1x256x1024.Idx) : ((cfg0.win 5).blk t).view.emb y
    = ix3 (grid0.coords t 0) ⟨256 * (grid0.coords t 1).val + (y 1).val, by
        have : (grid0.coords t 1).val < 64 := (grid0.coords t 1).isLt; have : (y 1).val < 256 := (y 1).isLt; omega⟩ (y 2) := by
  obtain ⟨-, -, -, -, -, ⟨e0, e1, e2⟩⟩ := idx_in t
  have b0 : (y 0).val < 1 := (y 0).isLt
  funext a; apply Fin.ext
  match a with
  | ⟨0, _⟩ => show win0_5.index t (0 : Fin 3) * 1 + 1 * (y 0).val = (grid0.coords t 0).val; omega
  | ⟨1, _⟩ => show win0_5.index t (1 : Fin 3) * 256 + 1 * (y 1).val = 256 * (grid0.coords t 1).val + (y 1).val; omega
  | ⟨2, _⟩ => show win0_5.index t (2 : Fin 3) * 1024 + 1 * (y 2).val = (y 2).val; omega

/-- A grid point's row in the arrays of activations. -/
abbrev rowOf (t : Fin cfg0.N) (r : Fin 256) : Fin 16640 := ⟨256 + (256 * (grid0.coords t 1).val + r.val), by
  have : (grid0.coords t 1).val < 64 := (grid0.coords t 1).isLt; omega⟩

theorem iblk0 (c : Dev nD) (t : Fin cfg0.N) (r : Fin 256) (k : Fin 1024) :
    iblk m c 0 t (ix3 0 r k) = V m c main_arg0 (ix3 (grid0.coords t 0) (rowOf t r) k) := by
  obtain ⟨⟨e0, e1, e2⟩, -⟩ := idx_in t
  show V m c main_arg0 (((cfg0.win 0).blk t).view.emb (ix3 0 r k)) = _
  refine congrArg (V m c main_arg0) (funext fun a => Fin.ext ?_)
  match a with
  | ⟨0, _⟩ => show win0_0.index t (0 : Fin 3) * 1 + 1 * 0 = (grid0.coords t 0).val; omega
  | ⟨1, _⟩ => show win0_0.index t (1 : Fin 3) * 256 + 1 * r.val = 256 + (256 * (grid0.coords t 1).val + r.val); omega
  | ⟨2, _⟩ => show win0_0.index t (2 : Fin 3) * 1024 + 1 * k.val = k.val; omega

theorem iblk1 (c : Dev nD) (t : Fin cfg0.N) (r : Fin 256) (k : Fin 2048) :
    iblk m c 1 t (ix3 0 r k) = V m c main_arg1 (ix3 (grid0.coords t 0) (rowOf t r) k) := by
  obtain ⟨-, ⟨e0, e1, e2⟩, -⟩ := idx_in t
  show V m c main_arg1 (((cfg0.win 1).blk t).view.emb (ix3 0 r k)) = _
  refine congrArg (V m c main_arg1) (funext fun a => Fin.ext ?_)
  match a with
  | ⟨0, _⟩ => show win0_1.index t (0 : Fin 3) * 1 + 1 * 0 = (grid0.coords t 0).val; omega
  | ⟨1, _⟩ => show win0_1.index t (1 : Fin 3) * 256 + 1 * r.val = 256 + (256 * (grid0.coords t 1).val + r.val); omega
  | ⟨2, _⟩ => show win0_1.index t (2 : Fin 3) * 2048 + 1 * k.val = k.val; omega

theorem iblk2 (c : Dev nD) (t : Fin cfg0.N) (r : Fin 256) (k : Fin 2048) :
    iblk m c 2 t (ix3 0 r k) = V m c main_arg2 (ix3 (grid0.coords t 0) (rowOf t r) k) := by
  obtain ⟨-, -, ⟨e0, e1, e2⟩, -⟩ := idx_in t
  show V m c main_arg2 (((cfg0.win 2).blk t).view.emb (ix3 0 r k)) = _
  refine congrArg (V m c main_arg2) (funext fun a => Fin.ext ?_)
  match a with
  | ⟨0, _⟩ => show win0_2.index t (0 : Fin 3) * 1 + 1 * 0 = (grid0.coords t 0).val; omega
  | ⟨1, _⟩ => show win0_2.index t (1 : Fin 3) * 256 + 1 * r.val = 256 + (256 * (grid0.coords t 1).val + r.val); omega
  | ⟨2, _⟩ => show win0_2.index t (2 : Fin 3) * 2048 + 1 * k.val = k.val; omega

theorem iblk3 (c : Dev nD) (t : Fin cfg0.N) : iblk m c 3 t = V m c main_v1 := by
  obtain ⟨-, -, -, ⟨e0, e1⟩, -⟩ := idx_in t
  funext j
  show V m c main_v1 (((cfg0.win 3).blk t).view.emb j) = V m c main_v1 j
  refine congrArg (V m c main_v1) (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega

theorem iblk4 (c : Dev nD) (t : Fin cfg0.N) : iblk m c 4 t = V m c main_v4 := by
  obtain ⟨-, -, -, -, ⟨e0, e1⟩, -⟩ := idx_in t
  funext j
  show V m c main_v4 (((cfg0.win 4).blk t).view.emb j) = V m c main_v4 j
  refine congrArg (V m c main_v4) (funext fun a => Fin.ext ?_)
  match a with
  | ⟨0, _⟩ => show win0_4.index t (0 : Fin 2) * 2048 + 1 * (j 0).val = (j 0).val; omega
  | ⟨1, _⟩ => show win0_4.index t (1 : Fin 2) * 1280 + 1 * (j 1).val = (j 1).val; omega

/-- The host's weights, and its matrix with columns of padding. -/
def hostWeights (w : Vec Ideal S1x128 .f32) : Vec Ideal S1x128 .f32 :=
  broadcastInDim S1x128 ![1] bcast_S128_S1x128_1 (shapeCast S128 w shapeCasts_S1x128_S128)

def hostMatrix (W : FVec Ideal S1x2048x1024 .f32) : FVec Ideal S2048x1280 .bf16 :=
  pad S2048x1280 ![0, 0] ![0, 256] ![0, 0]
    (truncf .bf16 (shapeCast S2048x1024 W shapeCasts_S1x2048x1024_S2048x1024 : FVec Ideal S2048x1024 .f32) bitsLt_bf16_f32 : FVec Ideal S2048x1024 .bf16)
    (sitofp .bf16 (constantI S_ 32 0#32) : FVec Ideal S_ .bf16) pads_S2048x1024_S2048x1280_000_02560 h_S_

theorem hostWeights_at (w : Vec Ideal S1x128 .f32) (k : Fin 128) : hostWeights w (ix2 0 k) = w (ix2 0 k) := by
  pointwise [hostWeights]

theorem hostMatrix_at (W : FVec Ideal S1x2048x1024 .f32) (k : Fin 2048) (n : Fin 1024) :
    hostMatrix W (ix2 k ⟨n.val, by omega⟩) = W (ix3 0 k n) := by
  pointwise [hostMatrix]

theorem weights_eq (c : Dev nD) : V m c main_v1 = hostWeights (m ((c : Thread nD τ).loc main_arg3)) := by rfl

theorem matrix_eq (c : Dev nD) : V m c main_v4 = hostMatrix (m ((c : Thread nD τ).loc main_arg4)) := by rfl

variable (c : Dev nD)

/-- The result of the arguments as launched. -/
abbrev final : Vec Ideal S2x16384x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4))

/-- The block of the result array that a grid point's window shows. -/
def block (t : Fin cfg0.N) (X : Vec Ideal S2x16384x1024 .f32) : Vec Ideal S1x256x1024 .f32 := fun y =>
  have h1 : (y 1).val < 256 := (y 1).isLt
  have hc : (grid0.coords t 1).val < 64 := (grid0.coords t 1).isLt
  X (ix3 (grid0.coords t 0) ⟨256 * (grid0.coords t 1).val + (y 1).val, by omega⟩ (y 2))

theorem split_wide (y : S1x256x1024.Idx) : ∃ r n, y = ix3 0 r n := ⟨y 1, y 2, funext fun a => Fin.ext (by
  match a with
  | ⟨0, _⟩ => have : (y 0).val < 1 := (y 0).isLt; show (y 0).val = 0; omega
  | ⟨1, _⟩ => rfl
  | ⟨2, _⟩ => rfl)⟩

/-- What a grid point stores, in the arguments. -/
theorem point_at (t : Fin cfg0.N) (r : Fin 256) (n : Fin 1024) :
    stored (iblk m c 0 t) (iblk m c 1 t) (iblk m c 2 t) (iblk m c 3 t) (iblk m c 4 t) (ix3 0 r n) = block t (final m c) (ix3 0 r n) := by
  rw [stored_at]
  show _ = @HAdd.hAdd EReal EReal EReal _ (m ((c : Thread nD τ).loc main_arg0) (ix3 (grid0.coords t 0) (rowOf t r) n))
    (∑ j : Fin 2048, @HMul.hMul EReal EReal EReal _
      (gatedRow (fun q => m ((c : Thread nD τ).loc main_arg1) (ix3 (grid0.coords t 0) (rowOf t r) q))
        (fun q => m ((c : Thread nD τ).loc main_arg2) (ix3 (grid0.coords t 0) (rowOf t r) q))
        (fun e => m ((c : Thread nD τ).loc main_arg3) (ix2 0 e)) j)
      (m ((c : Thread nD τ).loc main_arg4) (ix3 0 j n)))
  have h0 : iblk m c 0 t (ix3 0 r n) = m ((c : Thread nD τ).loc main_arg0) (ix3 (grid0.coords t 0) (rowOf t r) n) := by
    rw [iblk0, V_main_arg0]
  have h1 : (fun q => iblk m c 1 t (ix3 0 r q)) = fun q => m ((c : Thread nD τ).loc main_arg1) (ix3 (grid0.coords t 0) (rowOf t r) q) := by
    funext q; rw [iblk1, V_main_arg1]
  have h2 : (fun q => iblk m c 2 t (ix3 0 r q)) = fun q => m ((c : Thread nD τ).loc main_arg2) (ix3 (grid0.coords t 0) (rowOf t r) q) := by
    funext q; rw [iblk2, V_main_arg2]
  have h3 : (fun e : Fin 128 => iblk m c 3 t (ix2 0 e)) = fun e => m ((c : Thread nD τ).loc main_arg3) (ix2 0 e) := by
    funext e; rw [iblk3, weights_eq]; exact hostWeights_at _ e
  refine congrArg₂ (@HAdd.hAdd EReal EReal EReal _) h0 (Finset.sum_congr rfl fun j _ => congrArg₂ (@HMul.hMul EReal EReal EReal _) ?_ ?_)
  · exact congrFun (congr (congrArg₂ gatedRow h1 h2) h3) j
  · rw [iblk4, matrix_eq]; exact hostMatrix_at _ j n

/-- What a grid point writes back is its block of the result. -/
theorem flushed_eq (t : Fin cfg0.N) : (dats m 0 c).flushed 5 t = ((cfg0.win 5).blk t).view.read (Elt Ideal) (final m c) := by
  rw [flushed5]
  funext y
  show out0_5 (iblk m c 0 t) (iblk m c 1 t) (iblk m c 2 t) (iblk m c 3 t) (iblk m c 4 t) y = final m c (((cfg0.win 5).blk t).view.emb y)
  rw [emb5, out_eq]
  refine (View.canon_apply_of_pieces (block t (final m c)) _ ?_ y (cover0_5 _ y)).trans rfl
  intro p hp
  obtain rfl := List.mem_singleton.1 hp
  intro x
  obtain ⟨r, n, rfl⟩ := split_wide x
  refine (point_at m c t r n).trans (congrArg _ (funext fun a => Fin.ext ?_))
  match a with
  | ⟨0, _⟩ => rfl
  | ⟨1, _⟩ => show r.val = 0 + 1 * r.val; omega
  | ⟨2, _⟩ => show n.val = 0 + 1 * n.val; omega

/-- Every pair of coordinates is a grid point. -/
theorem point_of : ∀ (s : Fin 2) (n : Fin 64), ∃ t : Fin cfg0.N, (grid0.coords t 0).val = s.val ∧ (grid0.coords t 1).val = n.val :=
  (by decide +kernel : ∀ (s : Fin 2) (n : Fin 64), ∃ t : Fin grid0.N, (grid0.coords t 0).val = s.val ∧ (grid0.coords t 1).val = n.val)

theorem covered (y : S2x16384x1024.Idx) : ∃ t : Fin cfg0.N, (cfg0.win 5).flush t = true ∧ y ∈ ((cfg0.win 5).blk t).view.set := by
  have h1 : (y 1).val < 16384 := (y 1).isLt
  obtain ⟨t, e0, e1⟩ := point_of (y 0) ⟨(y 1).val / 256, by omega⟩
  refine ⟨t, flush0_5 _, ?_⟩
  have h := ((cfg0.win 5).blk t).view.emb_mem_set (ix3 0 ⟨(y 1).val % 256, by omega⟩ (y 2))
  rw [emb5] at h
  refine Eq.mp (congrArg (· ∈ _) (funext fun a => Fin.ext ?_)) h
  match a with
  | ⟨0, _⟩ => exact e0
  | ⟨1, _⟩ =>
    show 256 * (grid0.coords t 1).val + (y 1).val % 256 = (y 1).val
    rw [e1]; show 256 * ((y 1).val / 256) + (y 1).val % 256 = (y 1).val; omega
  | ⟨2, _⟩ => rfl

/-- The result array after the run. -/
theorem final_eq : (dats m 0 c).arrAt 5 cfg0.N = final m c :=
  (dats m 0 c).arrAt_eq_of_cover 5 (final m c) (fun t _ => flushed_eq m c t) covered

/-- The kernel's run with the result array at its function of the arguments. -/
theorem run : θ_run defs (onTc (τ := τ) (main (F := Ideal))) ⟨m, fun _ => 0, ρ⟩ fun r => ∀ c : Dev nD,
      r.2.mem ((c : Thread nD τ).loc main_v5) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_eq m c), (h c).2⟩) (run_blocks m ρ)

end Cert.Proof.DnOut
-- ==== Proof.OutRef.lean ====
/- THE REFERENCE OF THE RECURRENCE'S OUTPUT PROJECTION READ AT AN INDEX, and its equality with the kernel's result array. -/
module

public import proofs.«01_k».proof.Proof.OutRun
public import proofs.«01_k».proof.Proof.Gen.ReferenceOutIdeal.Run

@[expose] public section

set_option maxRecDepth 16384

noncomputable section

namespace Cert.Proof.DnOut

open Cert.ReferenceOutIdeal Cert.ReferenceOutIdeal.Gen Idealize.ShloMosaic Idealize.ShloMosaic.TcCoe Idealize.SL.Sem

/-- The rows behind the padding, as sixteen heads. -/
def refHeads (x : FVec Ideal S2x16640x2048 .bf16) : FVec Ideal S2x16400x16x128 .f32 :=
  shapeCast S2x16400x16x128 (extractStridedSlice S2x16400x2048 ![0, 240, 0] (extf .f32 x bitsLt_bf16_f32 : FVec Ideal S2x16640x2048 .f32)
    slices_S2x16640x2048_S2x16400x2048_0_240_0) shapeCasts_S2x16400x2048_S2x16400x16x128

/-- The heads scaled to unit root mean square, times the weights. -/
def refNorm (x : FVec Ideal S2x16400x16x128 .f32) (w : FVec Ideal S1x128 .f32) : FVec Ideal S2x16400x16x128 .f32 :=
  mulf (mulf x (broadcastInDim S2x16400x16x128 ![0, 1, 2, 3] bcast_S2x16400x16x1_S2x16400x16x128_0_1_2_3
      (Host.rsqrt (addf (Host.divf
        (broadcastInDim S2x16400x16x1 ![0, 1, 2] bcast_S2x16400x16_S2x16400x16x1_0_1_2
          (Host.reduceAdd (mulf x x) (constant S_ .f32 0x00000000#32) reducesTo_S2x16400x16x128_S2x16400x16_d3 h_S_))
        (broadcastInDim S2x16400x16x1 ![] bcast_S_S2x16400x16x1 (constant S_ .f32 0x43000000#32)))
        (broadcastInDim S2x16400x16x1 ![] bcast_S_S2x16400x16x1 (constant S_ .f32 0x358637BD#32))))))
    (broadcastInDim S2x16400x16x128 ![0, 1, 2, 3] bcast_S1x1x1x128_S2x16400x16x128_0_1_2_3
      (broadcastInDim S1x1x1x128 ![3] bcast_S128_S1x1x1x128_3 (shapeCast S128 w shapeCasts_S1x128_S128)))

/-- The silu of the gate. -/
def refSilu (z : FVec Ideal S2x16400x16x128 .f32) : FVec Ideal S2x16400x16x128 .f32 :=
  mulf z (Host.divf (broadcastInDim S2x16400x16x128 ![] bcast_S_S2x16400x16x128 (constant S_ .f32 0x3F800000#32))
    (addf (broadcastInDim S2x16400x16x128 ![] bcast_S_S2x16400x16x128 (constant S_ .f32 0x3F800000#32)) (Host.exp (Host.negf z))))

/-- The heads side by side again. -/
def refRow (x : FVec Ideal S2x16400x16x128 .f32) : FVec Ideal S2x16400x2048 .f32 :=
  shapeCast S2x16400x2048 x shapeCasts_S2x16400x16x128_S2x16400x2048

/-- The product with the matrix, added to the rows, behind the meta tokens. -/
def refOut (h : FVec Ideal S2x16640x1024 .f32) (x : FVec Ideal S2x16400x2048 .f32) (W : FVec Ideal S1x2048x1024 .f32) : FVec Ideal S2x16384x1024 .f32 :=
  extractStridedSlice S2x16384x1024 ![0, 16, 0]
    (addf (extractStridedSlice S2x16400x1024 ![0, 240, 0] h slices_S2x16640x1024_S2x16400x1024_0_240_0 : FVec Ideal S2x16400x1024 .f32)
      (Host.dotGeneral dot_S2x16400x2048_S2048x1024_S2x16400x1024_2_0_01_1_n_n none x
        (shapeCast S2048x1024 W shapeCasts_S1x2048x1024_S2048x1024 : FVec Ideal S2048x1024 .f32)))
    slices_S2x16400x1024_S2x16384x1024_0_16_0

theorem refHeads_at (x : FVec Ideal S2x16640x2048 .bf16) (s : Fin 2) (r : Fin 16400) (h : Fin 16) (e : Fin 128) :
    refHeads x (ix4 s r h e) = headOf (fun q => x (ix3 s ⟨240 + r.val, by omega⟩ q)) h e := by
  unfold headOf
  pointwise [refHeads]
  refine congrArg x (congrArg (ix3 s _) (Fin.ext ?_))
  show h.val * 128 + e.val = 128 * h.val + e.val
  omega

theorem refNorm_at (x : FVec Ideal S2x16400x16x128 .f32) (w : FVec Ideal S1x128 .f32) (s : Fin 2) (r : Fin 16400) (h : Fin 16) (e : Fin 128) :
    refNorm x w (ix4 s r h e) = x (ix4 s r h e) * headScale (fun k => x (ix4 s r h k)) * w (ix2 0 e) := by
  pointwise [refNorm]
  rfl

theorem refSilu_at (z : FVec Ideal S2x16400x16x128 .f32) (s : Fin 2) (r : Fin 16400) (h : Fin 16) (e : Fin 128) :
    refSilu z (ix4 s r h e) = z (ix4 s r h e) * Ideal.logistic (z (ix4 s r h e)) := by
  pointwise [refSilu]
  rfl

theorem refRow_at (x : FVec Ideal S2x16400x16x128 .f32) (s : Fin 2) (r : Fin 16400) (j : Fin 2048) :
    refRow x (ix3 s r j) = x (ix4 s r ⟨j.val / 128, by omega⟩ ⟨j.val % 128, by omega⟩) := by
  pointwise [refRow]

theorem refOut_at (h : FVec Ideal S2x16640x1024 .f32) (x : FVec Ideal S2x16400x2048 .f32) (W : FVec Ideal S1x2048x1024 .f32)
    (s : Fin 2) (r : Fin 16384) (n : Fin 1024) :
    refOut h x W (ix3 s r n) = @HAdd.hAdd EReal EReal EReal _ (h (ix3 s ⟨256 + r.val, by omega⟩ n))
      (∑ j : Fin 2048, @HMul.hMul EReal EReal EReal _ (x (ix3 s ⟨16 + r.val, by omega⟩ j)) (W (ix3 0 j n))) := by
  have e : (⟨240 + (16 + r.val), by omega⟩ : Fin 16640) = ⟨256 + r.val, by omega⟩ := Fin.ext (by show 240 + (16 + r.val) = 256 + r.val; omega)
  rw [← e]
  pointwise [refOut]

theorem split_idx (y : S2x16384x1024.Idx) : ∃ (s : Fin 2) (r : Fin 16384) (k : Fin 1024), y = ix3 s r k :=
  ⟨y 0, y 1, y 2, funext fun a => match a with | ⟨0, _⟩ => rfl | ⟨1, _⟩ => rfl | ⟨2, _⟩ => rfl⟩

/-- The reference's result is the kernel's. -/
theorem result_eq (h : FVec Ideal S2x16640x1024 .f32) (o z : FVec Ideal S2x16640x2048 .bf16) (w : FVec Ideal S1x128 .f32) (W : FVec Ideal S1x2048x1024 .f32) :
    refOut h (refRow (mulf (refNorm (refHeads o) w) (refSilu (refHeads z)))) W = result h o z w W := by
  funext y
  obtain ⟨s, r, n, rfl⟩ := split_idx y
  have e : (⟨240 + (16 + r.val), by omega⟩ : Fin 16640) = ⟨256 + r.val, by omega⟩ := Fin.ext (by show 240 + (16 + r.val) = 256 + r.val; omega)
  rw [refOut_at]
  show _ = element h o z w W s r n
  unfold element
  refine congrArg (@HAdd.hAdd EReal EReal EReal _ _) (Finset.sum_congr rfl fun j _ => congrArg (@HMul.hMul EReal EReal EReal _ · _) ?_)
  rw [refRow_at]
  show @HMul.hMul EReal EReal EReal _ (refNorm (refHeads o) w (ix4 _ _ _ _)) (refSilu (refHeads z) (ix4 _ _ _ _)) = _
  rw [refNorm_at, refSilu_at]
  simp only [refHeads_at, e]
  rfl

/-- The reference's run with its result at the kernel's function of the arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (result_eq _ _ _ _ _), (h c).2⟩) (Cert.ReferenceOutIdeal.Value.run m ρ)

end Cert.Proof.DnOut
-- ==== Proof.MidBlock.lean ====
/- THE RECURRENCE'S INPUT PROJECTION, BLOCK BY BLOCK: the hidden rows and their gate, element by element, as sums and products of
   extended reals. The hidden rows of a block and their norm are computed one grid point ahead and kept between the points. -/
module

public import proofs.«01_k».proof.Proof.InBlock
public import proofs.«01_k».proof.Proof.Gen.KernelMidIdeal.Skeleton
public import Idealize.ShloMosaic.Lib.Tactic
public import Idealize.ShloMosaic.Lib.Pointwise

@[expose] public section

set_option maxRecDepth 16384

noncomputable section

namespace Cert.Proof.DnIn

open Cert.KernelMidIdeal Cert.KernelMidIdeal.Gen Idealize.ShloMosaic Idealize.ShloMosaic.TcCoe

/-- One element of the hidden rows: the layer's input with the padding in front, and the attention's output projection. -/
def midRow (x : Vec Ideal S2x16384x1024 .f32) (mt : Vec Ideal S16x1024 .f32) (og : Vec Ideal S2x16640x1024 .bf16)
    (W : Vec Ideal S1x1024x1024 .f32) (s : Fin 2) (r : Fin 16640) (k : Fin 1024) : EReal :=
  @HAdd.hAdd EReal EReal EReal _ (AttnIn.hidden x mt s r k) (∑ e : Fin 1024, @HMul.hMul EReal EReal EReal _ (og (ix3 s r e)) (W (ix3 0 e k)))

/-- One element of the normalized hidden rows. -/
def midNorm (x : Vec Ideal S2x16384x1024 .f32) (mt : Vec Ideal S16x1024 .f32) (og : Vec Ideal S2x16640x1024 .bf16)
    (W : Vec Ideal S1x1024x1024 .f32) (w : Vec Ideal S1x1024 .f32) (s : Fin 2) (r : Fin 16640) (k : Fin 1024) : EReal :=
  midRow x mt og W s r k * AttnIn.rowScale (midRow x mt og W s r) * w (ix2 0 k)

/-- One element of the gate. -/
def gateAt (x : Vec Ideal S2x16384x1024 .f32) (mt : Vec Ideal S16x1024 .f32) (og : Vec Ideal S2x16640x1024 .bf16)
    (W : Vec Ideal S1x1024x1024 .f32) (w : Vec Ideal S1x1024 .f32) (U : Vec Ideal S1x1024x6176 .f32) (s : Fin 2) (r : Fin 16640)
    (n : Fin 2048) : EReal :=
  ∑ k : Fin 1024, @HMul.hMul EReal EReal EReal _ (midNorm x mt og W w s r k) (U (ix3 0 k ⟨4096 + n.val, by omega⟩))

/-- A block of rows plus a block times a matrix. -/
def addDot (x : Vec Ideal S1x256x1024 .f32) (o : Vec Ideal S1x256x1024 .bf16) (W : Vec Ideal S1024x1024 .bf16) : FVec Ideal S256x1024 .f32 :=
  shapeCast S256x1024 (addf (shapeCast S256x1024 x shapeCasts_S1x256x1024_S256x1024 : FVec Ideal S256x1024 .f32)
    (matmul (φ₁ := .bf16) (φ₂ := .bf16) dot_S256x1024_S1024x1024_S256x1024_1_0_0_1_n_n none
      (shapeCast S256x1024 o shapeCasts_S1x256x1024_S256x1024)
      (shapeCast S1024x1024 W shapeCasts_S1024x1024_S1024x1024) (constant S256x1024 .f32 0x00000000#32)) : FVec Ideal S256x1024 .f32)
    shapeCasts_S256x1024_S256x1024

/-- Rows scaled to unit root mean square, times the weights. -/
def normRows (x : FVec Ideal S256x1024 .f32) (w : Vec Ideal S1x1024 .f32) : FVec Ideal S256x1024 .bf16 :=
  let ss : FVec Ideal S256 .f32 := multiReduction .add [1] S256 (mulf x x) 0x00000000#32 reduces_S256x1024_S256 (.inl rfl) rfl
  let r : FVec Ideal S256x1 .f32 :=
    rsqrt (addf (divf (shapeCast S256x1 ss shapeCasts_S256_S256x1) (broadcast S256x1 (Scalar.ofBits .f32 0x44800000#32)))
      (broadcast S256x1 (Scalar.ofBits .f32 0x358637BD#32)))
  shapeCast S256x1024 (truncf .bf16 (mulf (mulf x (broadcastTo S256x1024 r broadcasts_S256x1_S256x1024))
    (broadcastTo S256x1024 (shapeCast S1x1024 w shapeCasts_S1x1024_S1x1024) broadcasts_S1x1024_S256x1024)) bitsLt_bf16_f32 : FVec Ideal S256x1024 .bf16)
    shapeCasts_S256x1024_S256x1024

/-- Rows times a matrix of 1024 columns. -/
def dotWide (a : FVec Ideal S256x1024 .bf16) (W : Vec Ideal S1024x1024 .bf16) : FVec Ideal S1x256x1024 .bf16 :=
  shapeCast S1x256x1024 (truncf .bf16 (matmul (φ₂ := .bf16) dot_S256x1024_S1024x1024_S256x1024_1_0_0_1_n_n none a
    (shapeCast S1024x1024 W shapeCasts_S1024x1024_S1024x1024) (constant S256x1024 .f32 0x00000000#32)) bitsLt_bf16_f32)
    shapeCasts_S256x1024_S1x256x1024

/-- Rows as a block. -/
def blockOf (x : FVec Ideal S256x1024 .f32) : FVec Ideal S1x256x1024 .f32 := shapeCast S1x256x1024 x shapeCasts_S256x1024_S1x256x1024

theorem addDot_at (x : Vec Ideal S1x256x1024 .f32) (o : Vec Ideal S1x256x1024 .bf16) (W : Vec Ideal S1024x1024 .bf16) (r : Fin 256) (k : Fin 1024) :
    addDot x o W (ix2 r k) = @HAdd.hAdd EReal EReal EReal _ (x (ix3 0 r k))
      (∑ e : Fin 1024, @HMul.hMul EReal EReal EReal _ (o (ix3 0 r e)) (W (ix2 e k))) := by
  pointwise [addDot]

theorem normRows_at (x : FVec Ideal S256x1024 .f32) (w : Vec Ideal S1x1024 .f32) (r : Fin 256) (k : Fin 1024) :
    normRows x w (ix2 r k) = x (ix2 r k) * AttnIn.rowScale (fun e => x (ix2 r e)) * w (ix2 0 k) := by
  pointwise [normRows]
  rfl

theorem dotWide_at (a : FVec Ideal S256x1024 .bf16) (W : Vec Ideal S1024x1024 .bf16) (r : Fin 256) (n : Fin 1024) :
    dotWide a W (ix3 0 r n) = ∑ k : Fin 1024, @HMul.hMul EReal EReal EReal _ (a (ix2 r k)) (W (ix2 k n)) := by
  pointwise [dotWide]

theorem blockOf_at (x : FVec Ideal S256x1024 .f32) (r : Fin 256) (k : Fin 1024) : blockOf x (ix3 0 r k) = x (ix2 r k) := by
  pointwise [blockOf]

theorem pay4_eq (x : Vec Ideal S1x256x1024 .f32) (o : Vec Ideal S1x256x1024 .bf16) (W : Vec Ideal S1024x1024 .bf16) : k0_pay4 x o W = addDot x o W := rfl
theorem pay286_eq (x : Vec Ideal S1x256x1024 .f32) (o : Vec Ideal S1x256x1024 .bf16) (W : Vec Ideal S1024x1024 .bf16) : k0_pay286 x o W = addDot x o W := rfl
theorem pay2_eq (x : Vec Ideal S256x1024 .f32) (w : Vec Ideal S1x1024 .f32) : k0_pay2 x w = normRows x w := rfl
theorem pay5_eq (x : Vec Ideal S256x1024 .f32) (w : Vec Ideal S1x1024 .f32) : k0_pay5 x w = normRows x w := rfl
theorem pay6_eq (x : Vec Ideal S256x1024 .f32) : k0_pay6 x = blockOf x := rfl
theorem pay104_eq (a : Vec Ideal S256x1024 .bf16) (W : Vec Ideal S1024x1024 .bf16) : k0_pay104 a W = dotWide a W := rfl
theorem pay192_eq (a : Vec Ideal S256x1024 .bf16) (W : Vec Ideal S1024x1024 .bf16) : k0_pay192 a W = dotWide a W := rfl

end Cert.Proof.DnIn
-- ==== Proof.MidRun.lean ====
/- THE HIDDEN ROWS AND THEIR GATE, each as one function of the argument arrays (`resultH`, `resultZ`, `run`): each grid point writes a
   block of 256 rows of each, and the blocks tile the arrays. Of a sequence, the first point computes its own hidden rows; every
   point computes those of the next (`rows_A`, `rows_B`). -/
module

public import proofs.«01_k».proof.Proof.MidBlock
public import proofs.«01_k».proof.Proof.Gen.KernelMidIdeal.Frame
public import Idealize.ShloMosaic.Lib.Pipeline.Value
public import Idealize.ShloMosaic.Lib.Pipeline.ValueKit.Acc
public import Idealize.ShloMosaic.Lib.Pipeline.ReadBack

@[expose] public section

set_option maxRecDepth 16384

noncomputable section

namespace Cert.Proof.DnIn

open Cert.KernelMidIdeal Cert.KernelMidIdeal.Gen Idealize.ShloMosaic Idealize.ShloMosaic.TcCoe Idealize.SL.Sem

section

variable (x : Vec Ideal S2x16384x1024 .f32) (mt : Vec Ideal S16x1024 .f32) (og : Vec Ideal S2x16640x1024 .bf16)
  (W : Vec Ideal S1x1024x1024 .f32) (w : Vec Ideal S1x1024 .f32) (U : Vec Ideal S1x1024x6176 .f32)

/-- The hidden rows. -/
def resultH : Vec Ideal S2x16640x1024 .f32 := fun y => midRow x mt og W (y 0) (y 1) (y 2)

/-- The gate. -/
def resultZ : Vec Ideal S2x16640x2048 .bf16 := fun y => gateAt x mt og W w U (y 0) (y 1) (y 2)

end

variable (m : (ℓ : Loc nD τ sig) → Buf (Elt Ideal) ℓ) (ρ : Dev nD → PrngReg)

/-- The block indices of the windows, at each grid point. -/
theorem idx_in : ∀ t : Fin cfg0.N,
    (win0_0.index t (0 : Fin 3) = (grid0.coords t 0).val ∧ win0_0.index t (1 : Fin 3) = 0 ∧ win0_0.index t (2 : Fin 3) = 0)
    ∧ (win0_1.index t (0 : Fin 3) = (grid0.coords t 0).val ∧ win0_1.index t (1 : Fin 3) = 0 ∧ win0_1.index t (2 : Fin 3) = 0)
    ∧ (win0_2.index t (0 : Fin 3) = (grid0.coords t 0).val ∧ win0_2.index t (1 : Fin 3) = min (grid0.coords t 1).val 63 ∧ win0_2.index t (2 : Fin 3) = 0)
    ∧ (win0_3.index t (0 : Fin 3) = (grid0.coords t 0).val ∧ win0_3.index t (1 : Fin 3) = min ((grid0.coords t 1).val + 1) 64 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_13.index t (0 : Fin 3) = (grid0.coords t 0).val ∧ win0_13.index t (1 : Fin 3) = (grid0.coords t 1).val ∧ win0_13.index t (2 : Fin 3) = 0)
    ∧ (win0_19.index t (0 : Fin 3) = (grid0.coords t 0).val ∧ win0_19.index t (1 : Fin 3) = (grid0.coords t 1).val ∧ win0_19.index t (2 : Fin 3) = 0) :=
  (by decide +kernel : ∀ t : Fin grid0.N, _)

/-- A grid point's coordinates: 65 blocks a sequence. -/
theorem coords_eq : ∀ t : Fin cfg0.N, (grid0.coords t 0).val = t.val / 65 ∧ (grid0.coords t 1).val = t.val % 65 :=
  (by decide +kernel : ∀ t : Fin grid0.N, _)

theorem emb13 (t : Fin cfg0.N) (y : S1x256x1024.Idx) : @Eq S2x16640x1024.Idx (((cfg0.win 13).blk t).view.emb y)
    (ix3 (grid0.coords t 0) ⟨256 * (grid0.coords t 1).val + (y 1).val, by
        have : (grid0.coords t 1).val < 65 := (grid0.coords t 1).isLt; have : (y 1).val < 256 := (y 1).isLt; omega⟩ (y 2)) := by
  obtain ⟨-, -, -, -, -, -, -, ⟨e0, e1, e2⟩, -⟩ := idx_in t
  have b0 : (y 0).val < 1 := (y 0).isLt
  funext a; apply Fin.ext
  match a with
  | ⟨0, _⟩ => show win0_13.index t (0 : Fin 3) * 1 + 1 * (y 0).val = (grid0.coords t 0).val; omega
  | ⟨1, _⟩ => show win0_13.index t (1 : Fin 3) * 256 + 1 * (y 1).val = 256 * (grid0.coords t 1).val + (y 1).val; omega
  | ⟨2, _⟩ => show win0_13.index t (2 : Fin 3) * 1024 + 1 * (y 2).val = (y 2).val; omega

theorem emb19 (t : Fin cfg0.N) (y : S1x256x2048.Idx) : @Eq S2x16640x2048.Idx (((cfg0.win 19).blk t).view.emb y)
    (ix3 (grid0.coords t 0) ⟨256 * (grid0.coords t 1).val + (y 1).val, by
        have : (grid0.coords t 1).val < 65 := (grid0.coords t 1).isLt; have : (y 1).val < 256 := (y 1).isLt; omega⟩ (y 2)) := by
  obtain ⟨-, -, -, -, -, -, -, -, ⟨e0, e1, e2⟩⟩ := idx_in t
  have b0 : (y 0).val < 1 := (y 0).isLt
  funext a; apply Fin.ext
  match a with
  | ⟨0, _⟩ => show win0_19.index t (0 : Fin 3) * 1 + 1 * (y 0).val = (grid0.coords t 0).val; omega
  | ⟨1, _⟩ => show win0_19.index t (1 : Fin 3) * 256 + 1 * (y 1).val = 256 * (grid0.coords t 1).val + (y 1).val; omega
  | ⟨2, _⟩ => show win0_19.index t (2 : Fin 3) * 2048 + 1 * (y 2).val = (y 2).val; omega

theorem iblk0 (c : Dev nD) (t : Fin cfg0.N) (r : Fin 256) (k : Fin 1024) : iblk m c 0 t (ix3 0 r k)
    = V m c main_v3 (ix3 (grid0.coords t 0) ⟨0 + r.val, by omega⟩ k) := by
  obtain ⟨⟨e0, e1, e2⟩, -⟩ := idx_in t
  show V m c main_v3 (((cfg0.win 0).blk t).view.emb (ix3 0 r k)) = _
  refine congrArg (V m c main_v3) (funext fun a => Fin.ext ?_)
  match a with
  | ⟨0, _⟩ => show win0_0.index t (0 : Fin 3) * 1 + 1 * 0 = (grid0.coords t 0).val; omega
  | ⟨1, _⟩ => show win0_0.index t (1 : Fin 3) * 256 + 1 * r.val = 0 + r.val; omega
  | ⟨2, _⟩ => show win0_0.index t (2 : Fin 3) * 1024 + 1 * k.val = k.val; omega

theorem iblk1 (c : Dev nD) (t : Fin cfg0.N) (r : Fin 256) (k : Fin 1024) : iblk m c 1 t (ix3 0 r k)
    = V m c main_arg2 (ix3 (grid0.coords t 0) ⟨0 + r.val, by omega⟩ k) := by
  obtain ⟨-, ⟨e0, e1, e2⟩, -⟩ := idx_in t
  show V m c main_arg2 (((cfg0.win 1).blk t).view.emb (ix3 0 r k)) = _
  refine congrArg (V m c main_arg2) (funext fun a => Fin.ext ?_)
  match a with
  | ⟨0, _⟩ => show win0_1.index t (0 : Fin 3) * 1 + 1 * 0 = (grid0.coords t 0).val; omega
  | ⟨1, _⟩ => show win0_1.index t (1 : Fin 3) * 256 + 1 * r.val = 0 + r.val; omega
  | ⟨2, _⟩ => show win0_1.index t (2 : Fin 3) * 1024 + 1 * k.val = k.val; omega

theorem iblk2 (c : Dev nD) (t : Fin cfg0.N) (h : (grid0.coords t 1).val < 64) (r : Fin 256) (k : Fin 1024) : iblk m c 2 t (ix3 0 r k)
    = V m c main_arg0 (ix3 (grid0.coords t 0) ⟨256 * (grid0.coords t 1).val + r.val, by omega⟩ k) := by
  obtain ⟨-, -, ⟨e0, e1, e2⟩, -⟩ := idx_in t
  show V m c main_arg0 (((cfg0.win 2).blk t).view.emb (ix3 0 r k)) = _
  refine congrArg (V m c main_arg0) (funext fun a => Fin.ext ?_)
  match a with
  | ⟨0, _⟩ => show win0_2.index t (0 : Fin 3) * 1 + 1 * 0 = (grid0.coords t 0).val; omega
  | ⟨1, _⟩ => show win0_2.index t (1 : Fin 3) * 256 + 1 * r.val = 256 * (grid0.coords t 1).val + r.val; omega
  | ⟨2, _⟩ => show win0_2.index t (2 : Fin 3) * 1024 + 1 * k.val = k.val; omega

theorem iblk3 (c : Dev nD) (t : Fin cfg0.N) (h : (grid0.coords t 1).val < 64) (r : Fin 256) (k : Fin 1024) : iblk m c 3 t (ix3 0 r k)
    = V m c main_arg2 (ix3 (grid0.coords t 0) ⟨256 * ((grid0.coords t 1).val + 1) + r.val, by omega⟩ k) := by
  obtain ⟨-, -, -, ⟨e0, e1, e2⟩, -⟩ := idx_in t
  show V m c main_arg2 (((cfg0.win 3).blk t).view.emb (ix3 0 r k)) = _
  refine congrArg (V m c main_arg2) (funext fun a => Fin.ext ?_)
  match a with
  | ⟨0, _⟩ => show win0_3.index t (0 : Fin 3) * 1 + 1 * 0 = (grid0.coords t 0).val; omega
  | ⟨1, _⟩ => show win0_3.index t (1 : Fin 3) * 256 + 1 * r.val = 256 * ((grid0.coords t 1).val + 1) + r.val; omega
  | ⟨2, _⟩ => show win0_3.index t (2 : Fin 3) * 1024 + 1 * k.val = k.val; omega

theorem iblk4 (c : Dev nD) (t : Fin cfg0.N) : iblk m c 4 t = V m c main_v16 := by
  obtain ⟨-, -, -, -, ⟨e0, e1⟩, -⟩ := idx_in t
  funext j
  show V m c main_v16 (((cfg0.win 4).blk t).view.emb j) = V m c main_v16 j
  refine congrArg (V m c main_v16) (funext fun a => Fin.ext ?_)
  match a with
  | ⟨0, _⟩ => show win0_4.index t (0 : Fin 2) * 1024 + 1 * (j 0).val = (j 0).val; omega
  | ⟨1, _⟩ => show win0_4.index t (1 : Fin 2) * 1280 + 1 * (j 1).val = (j 1).val; omega

theorem iblk5 (c : Dev nD) (t : Fin cfg0.N) : iblk m c 5 t = V m c main_v18 := by
  obtain ⟨-, -, -, -, -, ⟨e0, e1⟩, -⟩ := idx_in t
  funext j
  show V m c main_v18 (((cfg0.win 5).blk t).view.emb j) = V m c main_v18 j
  refine congrArg (V m c main_v18) (funext fun a => Fin.ext ?_)
  match a with
  | ⟨0, _⟩ => show win0_5.index t (0 : Fin 2) * 1 + 1 * (j 0).val = (j 0).val; omega
  | ⟨1, _⟩ => show win0_5.index t (1 : Fin 2) * 1024 + 1 * (j 1).val = (j 1).val; omega

theorem iblk7 (c : Dev nD) (t : Fin cfg0.N) : iblk m c 7 t = V m c main_v10 := by
  obtain ⟨-, -, -, -, -, -, ⟨e0, e1⟩, -⟩ := idx_in t
  funext j
  show V m c main_v10 (((cfg0.win 7).blk t).view.emb j) = V m c main_v10 j
  refine congrArg (V m c main_v10) (funext fun a => Fin.ext ?_)
  match a with
  | ⟨0, _⟩ => show win0_7.index t (0 : Fin 2) * 1024 + 1 * (j 0).val = (j 0).val; omega
  | ⟨1, _⟩ => show win0_7.index t (1 : Fin 2) * 2304 + 1 * (j 1).val = (j 1).val; omega

/-- The host's block of padding and meta rows. -/
def headRows (mt : Vec Ideal S16x1024 .f32) : Vec Ideal S2x256x1024 .f32 :=
  concatenate S2x256x1024 1
    [⟨S2x240x1024, (broadcastInDim S2x240x1024 ![] bcast_S_S2x240x1024 (constant S_ .f32 0x00000000#32 : FVec Ideal S_ .f32) : FVec Ideal S2x240x1024 .f32)⟩,
     ⟨S2x16x1024, broadcastInDim S2x16x1024 ![0, 1, 2] bcast_S1x16x1024_S2x16x1024_0_1_2
        (broadcastInDim S1x16x1024 ![1, 2] bcast_S16x1024_S1x16x1024_1_2 mt)⟩]
    concatenates_S2x240x1024_S2x16x1024_S2x256x1024_d1

theorem headRows_at (x : Vec Ideal S2x16384x1024 .f32) (mt : Vec Ideal S16x1024 .f32) (s : Fin 2) (r : Fin 256) (k : Fin 1024) :
    headRows mt (ix3 s r k) = AttnIn.hidden x mt s ⟨r.val, by omega⟩ k := by
  unfold AttnIn.hidden
  pointwise [headRows]
  by_cases h : r.val < 240
  · rw [dif_pos h, if_pos h]
  · rw [dif_neg h, if_neg h]

/-- The host's weights and matrices: rounded, and with 256 columns of padding. -/
def hostWeights (w : Vec Ideal S1x1024 .f32) : Vec Ideal S1x1024 .f32 :=
  broadcastInDim S1x1024 ![1] bcast_S1024_S1x1024_1 (shapeCast S1024 w shapeCasts_S1x1024_S1024)

def hostOut (W : FVec Ideal S1x1024x1024 .f32) : FVec Ideal S1024x1280 .bf16 :=
  pad S1024x1280 ![0, 0] ![0, 256] ![0, 0]
    (truncf .bf16 (shapeCast S1024x1024 W shapeCasts_S1x1024x1024_S1024x1024 : FVec Ideal S1024x1024 .f32) bitsLt_bf16_f32 : FVec Ideal S1024x1024 .bf16)
    (sitofp .bf16 (constantI S_ 32 0#32) : FVec Ideal S_ .bf16) pads_S1024x1024_S1024x1280_000_02560 h_S_

def hostGate (U : FVec Ideal S1x1024x6176 .f32) : FVec Ideal S1024x2304 .bf16 :=
  pad S1024x2304 ![0, 0] ![0, 256] ![0, 0]
    (truncf .bf16 (extractStridedSlice S1024x2048 ![0, 4096] (shapeCast S1024x6176 U shapeCasts_S1x1024x6176_S1024x6176 : FVec Ideal S1024x6176 .f32)
      slices_S1024x6176_S1024x2048_0_4096 : FVec Ideal S1024x2048 .f32) bitsLt_bf16_f32 : FVec Ideal S1024x2048 .bf16)
    (sitofp .bf16 (constantI S_ 32 0#32) : FVec Ideal S_ .bf16) pads_S1024x2048_S1024x2304_000_02560 h_S_

theorem hostWeights_at (w : Vec Ideal S1x1024 .f32) (k : Fin 1024) : hostWeights w (ix2 0 k) = w (ix2 0 k) := by
  pointwise [hostWeights]

theorem hostOut_at (W : FVec Ideal S1x1024x1024 .f32) (k : Fin 1024) (n : Fin 1024) :
    hostOut W (ix2 k ⟨n.val, by omega⟩) = W (ix3 0 k n) := by
  pointwise [hostOut]

theorem hostGate_at (U : FVec Ideal S1x1024x6176 .f32) (k : Fin 1024) (n : Fin 2048) :
    hostGate U (ix2 k ⟨n.val, by omega⟩) = U (ix3 0 k ⟨4096 + n.val, by omega⟩) := by
  pointwise [hostGate]

theorem head_eq (c : Dev nD) : V m c main_v3 = headRows (m ((c : Thread nD τ).loc main_arg1)) := by rfl

theorem weights_eq (c : Dev nD) : V m c main_v18 = hostWeights (m ((c : Thread nD τ).loc main_arg4)) := by rfl

theorem out_eq (c : Dev nD) : V m c main_v16 = hostOut (m ((c : Thread nD τ).loc main_arg3)) := by rfl

theorem gate_eq (c : Dev nD) : V m c main_v10 = hostGate (m ((c : Thread nD τ).loc main_arg5)) := by rfl

variable (c : Dev nD)

/-- The loads of the two matrices' columns. -/
abbrev outCols : Rect S1024x1280 := Rect.unit ![0, 0] ![1024, 1024] inb_S1024x1280_S1024x1024_0_0
abbrev gateCols0 : Rect S1024x2304 := Rect.unit ![0, 0] ![1024, 1024] inb_S1024x2304_S1024x1024_0_0
abbrev gateCols1 : Rect S1024x2304 := Rect.unit ![0, 1024] ![1024, 1024] inb_S1024x2304_S1024x1024_0_1024

theorem outCols_at (t : Fin cfg0.N) (e k : Fin 1024) :
    View.ld (iblk m c 4 t) outCols (ix2 e k) = (m ((c : Thread nD τ).loc main_arg3)) (ix3 0 e k) := by
  refine Eq.trans (congrArg (iblk m c 4 t) (funext fun a => Fin.ext ?_)) ((congrFun (iblk4 m c t) _).trans ((congrFun (out_eq m c) _).trans (hostOut_at _ e k)))
  match a with
  | ⟨0, _⟩ => show 0 + 1 * e.val = e.val; omega
  | ⟨1, _⟩ => show 0 + 1 * k.val = k.val; omega

theorem gateCols0_at (t : Fin cfg0.N) (k n : Fin 1024) :
    View.ld (iblk m c 7 t) gateCols0 (ix2 k n) = (m ((c : Thread nD τ).loc main_arg5)) (ix3 0 k ⟨4096 + n.val, by omega⟩) := by
  refine Eq.trans (congrArg (iblk m c 7 t) (funext fun a => Fin.ext ?_)) ((congrFun (iblk7 m c t) _).trans ((congrFun (gate_eq m c) _).trans (hostGate_at _ k ⟨n.val, by omega⟩)))
  match a with
  | ⟨0, _⟩ => show 0 + 1 * k.val = k.val; omega
  | ⟨1, _⟩ => show 0 + 1 * n.val = n.val; omega

theorem gateCols1_at (t : Fin cfg0.N) (k n : Fin 1024) :
    View.ld (iblk m c 7 t) gateCols1 (ix2 k n) = (m ((c : Thread nD τ).loc main_arg5)) (ix3 0 k ⟨4096 + (1024 + n.val), by omega⟩) := by
  refine Eq.trans (congrArg (iblk m c 7 t) (funext fun a => Fin.ext ?_)) ((congrFun (iblk7 m c t) _).trans ((congrFun (gate_eq m c) _).trans (hostGate_at _ k ⟨1024 + n.val, by omega⟩)))
  match a with
  | ⟨0, _⟩ => show 0 + 1 * k.val = k.val; omega
  | ⟨1, _⟩ => show 1024 + 1 * n.val = 1024 + n.val; omega

/-- The two results, of the arrays that the run starts with. -/
abbrev finalH : Vec Ideal S2x16640x1024 .f32 :=
  resultH (m ((c : Thread nD τ).loc main_arg0)) (m ((c : Thread nD τ).loc main_arg1)) (m ((c : Thread nD τ).loc main_arg2)) (m ((c : Thread nD τ).loc main_arg3))
abbrev finalZ : Vec Ideal S2x16640x2048 .bf16 :=
  resultZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a grid point computes for the next one: the hidden rows and their norm. -/
abbrev nextRows (t : Fin cfg0.N) : FVec Ideal S256x1024 .f32 := addDot (iblk m c 2 t) (iblk m c 3 t) (View.ld (iblk m c 4 t) outCols)

/-- What the first point of a sequence computes for itself. -/
abbrev firstRows (t : Fin cfg0.N) : FVec Ideal S256x1024 .f32 := addDot (iblk m c 0 t) (iblk m c 1 t) (View.ld (iblk m c 4 t) outCols)

/-- The two stores of the gate's block, of normalized rows. -/
abbrev gatePieces (t : Fin cfg0.N) (a : FVec Ideal S256x1024 .bf16) : List (View.Piece (Elt Ideal) S1x256x2048 .bf16) :=
  [⟨Rect.unit ![0, 0, 1024] ![1, 256, 1024] inb_S1x256x2048_S1x256x1024_0_0_1024, dotWide a (View.ld (iblk m c 7 t) gateCols1)⟩,
   ⟨Rect.unit ![0, 0, 0] ![1, 256, 1024] inb_S1x256x2048_S1x256x1024_0_0_0, dotWide a (View.ld (iblk m c 7 t) gateCols0)⟩]

theorem carriedH_A (t : Fin cfg0.N) (h0 : t.val % 65 = 0) : (outsAt0 m c t.val t.isLt).2.2.2.2.2.2.2.2.2.1 = nextRows m c t := by
  rw [outsAt0_A m c t h0]
  dsimp only
  frame_out [pay286_eq]
  all_goals rfl

theorem carriedX_A (t : Fin cfg0.N) (h0 : t.val % 65 = 0) : (outsAt0 m c t.val t.isLt).2.2.2.2.2.2.2.2.2.2 = normRows (nextRows m c t) (iblk m c 5 t) := by
  rw [outsAt0_A m c t h0]
  dsimp only
  frame_out [pay286_eq, pay2_eq]
  all_goals rfl

theorem carriedH_B (t : Fin cfg0.N) (h0 : ¬t.val % 65 = 0) : (outsAt0 m c t.val t.isLt).2.2.2.2.2.2.2.2.2.1 = nextRows m c t := by
  rw [outsAt0_B m c t h0]
  dsimp only
  frame_out [pay286_eq]
  all_goals rfl

theorem carriedX_B (t : Fin cfg0.N) (h0 : ¬t.val % 65 = 0) : (outsAt0 m c t.val t.isLt).2.2.2.2.2.2.2.2.2.2 = normRows (nextRows m c t) (iblk m c 5 t) := by
  rw [outsAt0_B m c t h0]
  dsimp only
  frame_out [pay286_eq, pay2_eq]
  all_goals rfl

theorem rows_A (t : Fin cfg0.N) (h0 : t.val % 65 = 0) : (outsAt0 m c t.val t.isLt).1 = blockOf (firstRows m c t) := by
  rw [outsAt0_A m c t h0]
  dsimp only
  frame_out [pay4_eq, pay6_eq]
  all_goals rfl

theorem rows_B (t : Fin cfg0.N) (h0 : ¬t.val % 65 = 0) : (outsAt0 m c t.val t.isLt).1 = blockOf (outsAt0 m c (t.val - 1) (Nat.lt_of_le_of_lt (Nat.sub_le _ _) t.isLt)).2.2.2.2.2.2.2.2.2.1 := by
  rw [outsAt0_B m c t h0]
  dsimp only
  frame_out [pay6_eq, read_unread_whole]

theorem gate_A (t : Fin cfg0.N) (h0 : t.val % 65 = 0) :
    (outsAt0 m c t.val t.isLt).2.2.2.2.2.2.1 = View.canon (gatePieces m c t (normRows (firstRows m c t) (iblk m c 5 t))) := by
  rw [outsAt0_A m c t h0]
  dsimp only
  frame_out [pay4_eq, pay5_eq, pay104_eq, pay192_eq]
  all_goals rfl

theorem gate_B (t : Fin cfg0.N) (h0 : ¬t.val % 65 = 0) :
    (outsAt0 m c t.val t.isLt).2.2.2.2.2.2.1 = View.canon (gatePieces m c t (outsAt0 m c (t.val - 1) (Nat.lt_of_le_of_lt (Nat.sub_le _ _) t.isLt)).2.2.2.2.2.2.2.2.2.2) := by
  rw [outsAt0_B m c t h0]
  dsimp only
  frame_out [pay104_eq, pay192_eq, read_unread_whole]
  generalize outsAt0 m c (t.val - 1) _ = p
  rfl

theorem carriedH (n : Nat) (h : n < cfg0.N) : (outsAt0 m c n h).2.2.2.2.2.2.2.2.2.1 = nextRows m c ⟨n, h⟩ := by
  by_cases h0 : n % 65 = 0
  · exact carriedH_A m c ⟨n, h⟩ h0
  · exact carriedH_B m c ⟨n, h⟩ h0

theorem carriedX (n : Nat) (h : n < cfg0.N) : (outsAt0 m c n h).2.2.2.2.2.2.2.2.2.2 = normRows (nextRows m c ⟨n, h⟩) (iblk m c 5 ⟨n, h⟩) := by
  by_cases h0 : n % 65 = 0
  · exact carriedX_A m c ⟨n, h⟩ h0
  · exact carriedX_B m c ⟨n, h⟩ h0

theorem first_at (t : Fin cfg0.N) (r : Fin 256) (k : Fin 1024) :
    firstRows m c t (ix2 r k) = midRow (m ((c : Thread nD τ).loc main_arg0)) (m ((c : Thread nD τ).loc main_arg1)) (m ((c : Thread nD τ).loc main_arg2)) (m ((c : Thread nD τ).loc main_arg3)) (grid0.coords t 0) ⟨0 + r.val, by omega⟩ k := by
  refine (addDot_at _ _ _ r k).trans ?_
  refine congrArg₂ (@HAdd.hAdd EReal EReal EReal _) ?_ (Finset.sum_congr rfl fun e _ => congrArg₂ (@HMul.hMul EReal EReal EReal _) ?_ (outCols_at m c t e k))
  · rw [iblk0, head_eq]
    exact headRows_at (m ((c : Thread nD τ).loc main_arg0)) (m ((c : Thread nD τ).loc main_arg1)) _ _ k
  · rw [iblk1]; rfl

theorem next_at (t : Fin cfg0.N) (h : (grid0.coords t 1).val < 64) (r : Fin 256) (k : Fin 1024) :
    nextRows m c t (ix2 r k) = midRow (m ((c : Thread nD τ).loc main_arg0)) (m ((c : Thread nD τ).loc main_arg1)) (m ((c : Thread nD τ).loc main_arg2)) (m ((c : Thread nD τ).loc main_arg3)) (grid0.coords t 0) ⟨256 * ((grid0.coords t 1).val + 1) + r.val, by omega⟩ k := by
  refine (addDot_at _ _ _ r k).trans ?_
  refine congrArg₂ (@HAdd.hAdd EReal EReal EReal _) ?_ (Finset.sum_congr rfl fun e _ => congrArg₂ (@HMul.hMul EReal EReal EReal _) ?_ (outCols_at m c t e k))
  · rw [iblk2 m c t h]
    unfold AttnIn.hidden
    rw [if_neg (by show ¬ 256 * ((grid0.coords t 1).val + 1) + r.val < 240; omega),
      dif_neg (by show ¬ 256 * ((grid0.coords t 1).val + 1) + r.val < 256; omega)]
    refine congrArg (m ((c : Thread nD τ).loc main_arg0)) (congrArg (fun q => ix3 (grid0.coords t 0) q k) (Fin.ext ?_))
    show 256 * (grid0.coords t 1).val + r.val = 256 * ((grid0.coords t 1).val + 1) + r.val - 256
    omega
  · rw [iblk3 m c t h]; rfl

/-- The rows that the point before left for this one. -/
theorem before_at (t : Fin cfg0.N) (h0 : ¬t.val % 65 = 0) (h : t.val - 1 < cfg0.N) (r : Fin 256) (k : Fin 1024) :
    nextRows m c ⟨t.val - 1, h⟩ (ix2 r k) = midRow (m ((c : Thread nD τ).loc main_arg0)) (m ((c : Thread nD τ).loc main_arg1)) (m ((c : Thread nD τ).loc main_arg2)) (m ((c : Thread nD τ).loc main_arg3)) (grid0.coords t 0) ⟨256 * (grid0.coords t 1).val + r.val, by have : (grid0.coords t 1).val < 65 := (grid0.coords t 1).isLt; omega⟩ k := by
  obtain ⟨a0, a1⟩ := coords_eq t
  obtain ⟨b0, b1⟩ := coords_eq ⟨t.val - 1, h⟩
  have ht : t.val < 130 := t.isLt
  have b0' : (grid0.coords ⟨t.val - 1, h⟩ 0).val = (t.val - 1) / 65 := b0
  have b1' : (grid0.coords ⟨t.val - 1, h⟩ 1).val = (t.val - 1) % 65 := b1
  have e1 : (grid0.coords ⟨t.val - 1, h⟩ 1).val + 1 = (grid0.coords t 1).val := by omega
  have hl : (grid0.coords t 1).val < 65 := (grid0.coords t 1).isLt
  refine (next_at m c ⟨t.val - 1, h⟩ (by omega) r k).trans ?_
  refine congrArg₂ (fun s q => midRow (m ((c : Thread nD τ).loc main_arg0)) (m ((c : Thread nD τ).loc main_arg1)) (m ((c : Thread nD τ).loc main_arg2)) (m ((c : Thread nD τ).loc main_arg3)) s q k) (Fin.ext ?_) (Fin.ext ?_)
  · omega
  · show 256 * ((grid0.coords ⟨t.val - 1, h⟩ 1).val + 1) + r.val = 256 * (grid0.coords t 1).val + r.val
    rw [e1]

theorem start_at (t : Fin cfg0.N) (h0 : t.val % 65 = 0) (r : Fin 256) (k : Fin 1024) :
    firstRows m c t (ix2 r k) = midRow (m ((c : Thread nD τ).loc main_arg0)) (m ((c : Thread nD τ).loc main_arg1)) (m ((c : Thread nD τ).loc main_arg2)) (m ((c : Thread nD τ).loc main_arg3)) (grid0.coords t 0) ⟨256 * (grid0.coords t 1).val + r.val, by have : (grid0.coords t 1).val < 65 := (grid0.coords t 1).isLt; omega⟩ k := by
  obtain ⟨a0, a1⟩ := coords_eq t
  refine (first_at m c t r k).trans (congrArg (fun q => midRow (m ((c : Thread nD τ).loc main_arg0)) (m ((c : Thread nD τ).loc main_arg1)) (m ((c : Thread nD τ).loc main_arg2)) (m ((c : Thread nD τ).loc main_arg3)) (grid0.coords t 0) q k) (Fin.ext ?_))
  show 0 + r.val = 256 * (grid0.coords t 1).val + r.val
  omega

/-- A grid point's block of hidden rows. -/
theorem rows_at (t : Fin cfg0.N) (r : Fin 256) (k : Fin 1024) :
    (outsAt0 m c t.val t.isLt).1 (ix3 0 r k) = midRow (m ((c : Thread nD τ).loc main_arg0)) (m ((c : Thread nD τ).loc main_arg1)) (m ((c : Thread nD τ).loc main_arg2)) (m ((c : Thread nD τ).loc main_arg3)) (grid0.coords t 0) ⟨256 * (grid0.coords t 1).val + r.val, by have : (grid0.coords t 1).val < 65 := (grid0.coords t 1).isLt; omega⟩ k := by
  by_cases h0 : t.val % 65 = 0
  · rw [rows_A m c t h0, blockOf_at]; exact start_at m c t h0 r k
  · rw [rows_B m c t h0, blockOf_at, carriedH m c]; exact before_at m c t h0 _ r k

theorem norm_at (t : Fin cfg0.N) (b : FVec Ideal S256x1024 .f32) (s : Fin 2) (q : Fin 16640) (r : Fin 256)
    (hb : ∀ e, b (ix2 r e) = midRow (m ((c : Thread nD τ).loc main_arg0)) (m ((c : Thread nD τ).loc main_arg1)) (m ((c : Thread nD τ).loc main_arg2)) (m ((c : Thread nD τ).loc main_arg3)) s q e) (k : Fin 1024) :
    normRows b (iblk m c 5 t) (ix2 r k) = midNorm (m ((c : Thread nD τ).loc main_arg0)) (m ((c : Thread nD τ).loc main_arg1)) (m ((c : Thread nD τ).loc main_arg2)) (m ((c : Thread nD τ).loc main_arg3)) (m ((c : Thread nD τ).loc main_arg4)) s q k := by
  have h : (fun e => b (ix2 r e)) = midRow (m ((c : Thread nD τ).loc main_arg0)) (m ((c : Thread nD τ).loc main_arg1)) (m ((c : Thread nD τ).loc main_arg2)) (m ((c : Thread nD τ).loc main_arg3)) s q := funext hb
  rw [normRows_at, h, hb, iblk5, weights_eq, hostWeights_at]
  rfl

/-- A gate's block as a function of its index. -/
abbrev gateBlock (t : Fin cfg0.N) : Vec Ideal S1x256x2048 .bf16 := fun y =>
  finalZ m c (ix3 (grid0.coords t 0) ⟨256 * (grid0.coords t 1).val + (y 1).val, by
        have : (grid0.coords t 1).val < 65 := (grid0.coords t 1).isLt; have : (y 1).val < 256 := (y 1).isLt; omega⟩ (y 2))

theorem split_wide (y : S1x256x1024.Idx) : ∃ r n, y = ix3 0 r n := ⟨y 1, y 2, funext fun a => Fin.ext (by
  match a with
  | ⟨0, _⟩ => have : (y 0).val < 1 := (y 0).isLt; show (y 0).val = 0; omega
  | ⟨1, _⟩ => rfl
  | ⟨2, _⟩ => rfl)⟩

theorem gate_eq_block (t : Fin cfg0.N) (a : FVec Ideal S256x1024 .bf16)
    (ha : ∀ (r : Fin 256) (k : Fin 1024), a (ix2 r k) = midNorm (m ((c : Thread nD τ).loc main_arg0)) (m ((c : Thread nD τ).loc main_arg1)) (m ((c : Thread nD τ).loc main_arg2)) (m ((c : Thread nD τ).loc main_arg3)) (m ((c : Thread nD τ).loc main_arg4)) (grid0.coords t 0) ⟨256 * (grid0.coords t 1).val + r.val, by have : (grid0.coords t 1).val < 65 := (grid0.coords t 1).isLt; omega⟩ k) :
    View.canon (gatePieces m c t a) = gateBlock m c t := by
  funext y
  refine View.canon_apply_of_pieces (gateBlock m c t) _ ?_ y ?_
  · intro p hp
    rcases List.mem_cons.1 hp with rfl | hp
    · intro i
      obtain ⟨r, n, rfl⟩ := split_wide i
      refine (dotWide_at _ _ r n).trans (Eq.trans (Finset.sum_congr rfl fun k _ =>
        congrArg₂ (@HMul.hMul EReal EReal EReal _) (ha r k) (gateCols1_at m c t k n)) ?_)
      refine Eq.trans (b := finalZ m c (ix3 (grid0.coords t 0) ⟨256 * (grid0.coords t 1).val + r.val, by have : (grid0.coords t 1).val < 65 := (grid0.coords t 1).isLt; omega⟩ ⟨1024 + n.val, by omega⟩)) rfl (congrArg _ (funext fun a => Fin.ext ?_))
      match a with
      | ⟨0, _⟩ => rfl
      | ⟨1, _⟩ => show 256 * (grid0.coords t 1).val + r.val = 256 * (grid0.coords t 1).val + (0 + 1 * r.val); omega
      | ⟨2, _⟩ => show 1024 + n.val = 1024 + 1 * n.val; omega
    · obtain rfl := List.mem_singleton.1 hp
      intro i
      obtain ⟨r, n, rfl⟩ := split_wide i
      refine (dotWide_at _ _ r n).trans (Eq.trans (Finset.sum_congr rfl fun k _ =>
        congrArg₂ (@HMul.hMul EReal EReal EReal _) (ha r k) (gateCols0_at m c t k n)) ?_)
      refine Eq.trans (b := finalZ m c (ix3 (grid0.coords t 0) ⟨256 * (grid0.coords t 1).val + r.val, by have : (grid0.coords t 1).val < 65 := (grid0.coords t 1).isLt; omega⟩ ⟨n.val, by omega⟩)) rfl (congrArg _ (funext fun a => Fin.ext ?_))
      match a with
      | ⟨0, _⟩ => rfl
      | ⟨1, _⟩ => show 256 * (grid0.coords t 1).val + r.val = 256 * (grid0.coords t 1).val + (0 + 1 * r.val); omega
      | ⟨2, _⟩ => show n.val = 0 + 1 * n.val; omega
  · have b0 : (y 0).val < 1 := (y 0).isLt
    have b1 : (y 1).val < 256 := (y 1).isLt
    have b2 : (y 2).val < 2048 := (y 2).isLt
    by_cases h : 1024 ≤ (y 2).val
    · refine ⟨_, List.mem_cons_self, (Rect.mem_set_unit (inb := inb_S1x256x2048_S1x256x1024_0_0_1024)).2 fun a => ?_⟩
      match a with
      | ⟨0, _⟩ => show 0 ≤ (y 0).val ∧ (y 0).val < 0 + 1; omega
      | ⟨1, _⟩ => show 0 ≤ (y 1).val ∧ (y 1).val < 0 + 256; omega
      | ⟨2, _⟩ => show 1024 ≤ (y 2).val ∧ (y 2).val < 1024 + 1024; omega
    · refine ⟨_, List.mem_cons_of_mem _ List.mem_cons_self, (Rect.mem_set_unit (inb := inb_S1x256x2048_S1x256x1024_0_0_0)).2 fun a => ?_⟩
      match a with
      | ⟨0, _⟩ => show 0 ≤ (y 0).val ∧ (y 0).val < 0 + 1; omega
      | ⟨1, _⟩ => show 0 ≤ (y 1).val ∧ (y 1).val < 0 + 256; omega
      | ⟨2, _⟩ => show 0 ≤ (y 2).val ∧ (y 2).val < 0 + 1024; omega

/-- A grid point's block of the gate. -/
theorem gate_at (t : Fin cfg0.N) : (outsAt0 m c t.val t.isLt).2.2.2.2.2.2.1 = gateBlock m c t := by
  by_cases h0 : t.val % 65 = 0
  · rw [gate_A m c t h0]
    exact gate_eq_block m c t _ fun r k => norm_at m c t _ _ _ r (fun e => start_at m c t h0 r e) k
  · rw [gate_B m c t h0, carriedX m c]
    exact gate_eq_block m c t _ fun r k => norm_at m c _ _ _ _ r (fun e => before_at m c t h0 _ r e) k

/-- What a grid point writes back is its block of the results. -/
theorem flushed13_eq (t : Fin cfg0.N) : (dats m 0 c).flushed 13 t = ((cfg0.win 13).blk t).view.read (Elt Ideal) (finalH m c) := by
  show (cfg0.win 13).cut (grid0.coords t) ((dats m 0 c).after 13 t) = _
  rw [after0_13]
  funext y
  show (outsAt0 m c t.val t.isLt).1 y = finalH m c (((cfg0.win 13).blk t).view.emb y)
  rw [emb13]
  obtain ⟨r, n, rfl⟩ := split_wide y
  exact rows_at m c t r n

theorem flushed19_eq (t : Fin cfg0.N) : (dats m 0 c).flushed 19 t = ((cfg0.win 19).blk t).view.read (Elt Ideal) (finalZ m c) := by
  show (cfg0.win 19).cut (grid0.coords t) ((dats m 0 c).after 19 t) = _
  rw [after0_19, gate_at]
  funext y
  show gateBlock m c t y = finalZ m c (((cfg0.win 19).blk t).view.emb y)
  rw [emb19]

/-- Every pair of coordinates is a grid point. -/
theorem point_of : ∀ (s : Fin 2) (n : Fin 65), ∃ t : Fin cfg0.N, (grid0.coords t 0).val = s.val ∧ (grid0.coords t 1).val = n.val :=
  (by decide +kernel : ∀ (s : Fin 2) (n : Fin 65), ∃ t : Fin grid0.N, (grid0.coords t 0).val = s.val ∧ (grid0.coords t 1).val = n.val)

theorem covered13 (y : S2x16640x1024.Idx) : ∃ t : Fin cfg0.N, (cfg0.win 13).flush t = true ∧ y ∈ ((cfg0.win 13).blk t).view.set := by
  have h1 : (y 1).val < 16640 := (y 1).isLt
  obtain ⟨t, e0, e1⟩ := point_of (y 0) ⟨(y 1).val / 256, by omega⟩
  refine ⟨t, flush0_13 _, ?_⟩
  have h := ((cfg0.win 13).blk t).view.emb_mem_set (ix3 0 ⟨(y 1).val % 256, by omega⟩ (y 2))
  rw [emb13] at h
  refine Eq.mp (congrArg (· ∈ _) (funext fun a => Fin.ext ?_)) h
  match a with
  | ⟨0, _⟩ => exact e0
  | ⟨1, _⟩ =>
    show 256 * (grid0.coords t 1).val + (y 1).val % 256 = (y 1).val
    rw [e1]; show 256 * ((y 1).val / 256) + (y 1).val % 256 = (y 1).val; omega
  | ⟨2, _⟩ => rfl

theorem covered19 (y : S2x16640x2048.Idx) : ∃ t : Fin cfg0.N, (cfg0.win 19).flush t = true ∧ y ∈ ((cfg0.win 19).blk t).view.set := by
  have h1 : (y 1).val < 16640 := (y 1).isLt
  obtain ⟨t, e0, e1⟩ := point_of (y 0) ⟨(y 1).val / 256, by omega⟩
  refine ⟨t, flush0_19 _, ?_⟩
  have h := ((cfg0.win 19).blk t).view.emb_mem_set (ix3 0 ⟨(y 1).val % 256, by omega⟩ (y 2))
  rw [emb19] at h
  refine Eq.mp (congrArg (· ∈ _) (funext fun a => Fin.ext ?_)) h
  match a with
  | ⟨0, _⟩ => exact e0
  | ⟨1, _⟩ =>
    show 256 * (grid0.coords t 1).val + (y 1).val % 256 = (y 1).val
    rw [e1]; show 256 * ((y 1).val / 256) + (y 1).val % 256 = (y 1).val; omega
  | ⟨2, _⟩ => rfl

/-- The result arrays after the run. -/
theorem final13 : (dats m 0 c).arrAt 13 cfg0.N = finalH m c :=
  (dats m 0 c).arrAt_eq_of_cover 13 (finalH m c) (fun t _ => flushed13_eq m c t) covered13
theorem final19 : (dats m 0 c).arrAt 19 cfg0.N = finalZ m c :=
  (dats m 0 c).arrAt_eq_of_cover 19 (finalZ m c) (fun t _ => flushed19_eq m c t) covered19

/-- The kernel's run with the two result arrays at their functions of the arguments. -/
theorem run : θ_run defs (onTc (τ := τ) (main (F := Ideal))) ⟨m, fun _ => 0, ρ⟩ fun r => ∀ c : Dev nD,
      r.2.mem ((c.tc : Thread nD τ).loc main_v26_0) = finalH m c
      ∧ r.2.mem ((c.tc : Thread nD τ).loc main_v26_6) = finalZ m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h.2 c).1 13).trans (final13 m c), ((h.2 c).1 19).trans (final19 m c), h.1 c⟩)
    (θ_run_and (unchanged m ρ) (run_main m ρ))

end Cert.Proof.DnIn
-- ==== Proof.MidRef.lean ====
/- THE REFERENCE OF THE RECURRENCE'S INPUT PROJECTION READ AT AN INDEX, and its equality with the kernel's two result arrays. -/
module

public import proofs.«01_k».proof.Proof.MidRun
public import proofs.«01_k».proof.Proof.Gen.ReferenceMidIdeal.Run

@[expose] public section

set_option maxRecDepth 16384

noncomputable section

namespace Cert.Proof.DnIn

open Cert.ReferenceMidIdeal Cert.ReferenceMidIdeal.Gen Idealize.ShloMosaic Idealize.ShloMosaic.TcCoe Idealize.SL.Sem

/-- The meta rows and the input, one after the other. -/
def refTokens (x : FVec Ideal S2x16384x1024 .f32) (mt : FVec Ideal S16x1024 .f32) : FVec Ideal S2x16400x1024 .f32 :=
  concatenate S2x16400x1024 1
    [⟨S2x16x1024, broadcastInDim S2x16x1024 ![0, 1, 2] bcast_S1x16x1024_S2x16x1024_0_1_2
        (broadcastInDim S1x16x1024 ![1, 2] bcast_S16x1024_S1x16x1024_1_2 mt)⟩, ⟨S2x16384x1024, x⟩]
    concatenates_S2x16x1024_S2x16384x1024_S2x16400x1024_d1

/-- The padding in front. -/
def refPadded (u : FVec Ideal S2x16400x1024 .f32) : FVec Ideal S2x16640x1024 .f32 :=
  pad S2x16640x1024 ![0, 240, 0] ![0, 0, 0] ![0, 0, 0] u (sitofp .f32 (constantI S_ 32 0#32))
    pads_S2x16400x1024_S2x16640x1024_000_24000_000 h_S_

/-- The attention's output projection, added to the rows. -/
def refRows (u : FVec Ideal S2x16640x1024 .f32) (og : FVec Ideal S2x16640x1024 .bf16) (W : FVec Ideal S1x1024x1024 .f32) : FVec Ideal S2x16640x1024 .f32 :=
  addf u (Host.dotGeneral dot_S2x16640x1024_S1024x1024_S2x16640x1024_2_0_01_1_n_n none
    (extf .f32 og bitsLt_bf16_f32 : FVec Ideal S2x16640x1024 .f32)
    (shapeCast S1024x1024 W shapeCasts_S1x1024x1024_S1024x1024 : FVec Ideal S1024x1024 .f32) : FVec Ideal S2x16640x1024 .f32)

/-- The rows scaled to unit root mean square, times the weights. -/
def refNorm (h : FVec Ideal S2x16640x1024 .f32) (w : FVec Ideal S1x1024 .f32) : FVec Ideal S2x16640x1024 .f32 :=
  mulf (mulf h (broadcastInDim S2x16640x1024 ![0, 1, 2] bcast_S2x16640x1_S2x16640x1024_0_1_2
      (Host.rsqrt (addf (Host.divf
        (broadcastInDim S2x16640x1 ![0, 1] bcast_S2x16640_S2x16640x1_0_1
          (Host.reduceAdd (mulf h h) (constant S_ .f32 0x00000000#32) reducesTo_S2x16640x1024_S2x16640_d2 h_S_))
        (broadcastInDim S2x16640x1 ![] bcast_S_S2x16640x1 (constant S_ .f32 0x44800000#32)))
        (broadcastInDim S2x16640x1 ![] bcast_S_S2x16640x1 (constant S_ .f32 0x358637BD#32))))))
    (broadcastInDim S2x16640x1024 ![0, 1, 2] bcast_S1x1x1024_S2x16640x1024_0_1_2
      (broadcastInDim S1x1x1024 ![2] bcast_S1024_S1x1x1024_2 (shapeCast S1024 w shapeCasts_S1x1024_S1024)))

/-- The product with the gate's columns of the matrix, rounded. -/
def refGate (h : FVec Ideal S2x16640x1024 .f32) (U : FVec Ideal S1x1024x6176 .f32) : FVec Ideal S2x16640x2048 .bf16 :=
  truncf .bf16 (Host.dotGeneral dot_S2x16640x1024_S1024x2048_S2x16640x2048_2_0_01_1_n_n none h
    (extractStridedSlice S1024x2048 ![0, 4096] (shapeCast S1024x6176 U shapeCasts_S1x1024x6176_S1024x6176 : FVec Ideal S1024x6176 .f32)
      slices_S1024x6176_S1024x2048_0_4096 : FVec Ideal S1024x2048 .f32) : FVec Ideal S2x16640x2048 .f32) bitsLt_bf16_f32

theorem refTokens_at (x : FVec Ideal S2x16384x1024 .f32) (mt : FVec Ideal S16x1024 .f32) (s : Fin 2) (r : Fin 16400) (k : Fin 1024) :
    refTokens x mt (ix3 s r k) = AttnIn.hidden x mt s ⟨240 + r.val, by omega⟩ k := by
  unfold AttnIn.hidden
  rw [if_neg (by show ¬ 240 + r.val < 240; omega)]
  pointwise [refTokens]
  by_cases h : r.val < 16
  · rw [dif_pos h, dif_pos (by show 240 + r.val < 256; omega)]
  · rw [dif_neg h, dif_neg (by show ¬ 240 + r.val < 256; omega)]
    refine congrArg x (congrArg (fun q => ix3 s q k) (Fin.ext (by show r.val - 16 = 240 + r.val - 256; omega)))

theorem refPadded_at (u : FVec Ideal S2x16400x1024 .f32) (s : Fin 2) (r : Fin 16640) (k : Fin 1024) :
    refPadded u (ix3 s r k) = if h : 240 ≤ r.val then u (ix3 s ⟨r.val - 240, by omega⟩ k) else 0 := by
  have z : @Eq EReal (FloatOps.sitofp (F := Ideal) FTy.f32 0#32) 0 := by
    show (((0#32 : BitVec 32).toInt : ℝ) : EReal) = 0
    simp
  pointwise [refPadded]
  by_cases h : 240 ≤ r.val
  · rw [dif_pos h, dif_pos ⟨h, by omega⟩]
  · rw [dif_neg h, dif_neg (fun q => h q.1)]; exact z

theorem refHidden_at (x : FVec Ideal S2x16384x1024 .f32) (mt : FVec Ideal S16x1024 .f32) (s : Fin 2) (r : Fin 16640) (k : Fin 1024) :
    refPadded (refTokens x mt) (ix3 s r k) = AttnIn.hidden x mt s r k := by
  rw [refPadded_at]
  by_cases h : 240 ≤ r.val
  · have e : (⟨240 + (r.val - 240), by omega⟩ : Fin 16640) = r := Fin.ext (by show 240 + (r.val - 240) = r.val; omega)
    rw [dif_pos h, refTokens_at]
    exact congrArg (fun q => AttnIn.hidden x mt s q k) e
  · rw [dif_neg h]
    exact (if_pos (by omega)).symm

theorem refRows_at (u : FVec Ideal S2x16640x1024 .f32) (og : FVec Ideal S2x16640x1024 .bf16) (W : FVec Ideal S1x1024x1024 .f32)
    (s : Fin 2) (r : Fin 16640) (k : Fin 1024) :
    refRows u og W (ix3 s r k) = @HAdd.hAdd EReal EReal EReal _ (u (ix3 s r k))
      (∑ e : Fin 1024, @HMul.hMul EReal EReal EReal _ (og (ix3 s r e)) (W (ix3 0 e k))) := by
  pointwise [refRows]

theorem refNorm_at (h : FVec Ideal S2x16640x1024 .f32) (w : FVec Ideal S1x1024 .f32) (s : Fin 2) (r : Fin 16640) (k : Fin 1024) :
    refNorm h w (ix3 s r k) = h (ix3 s r k) * AttnIn.rowScale (fun e => h (ix3 s r e)) * w (ix2 0 k) := by
  pointwise [refNorm]
  rfl

theorem refGate_at (h : FVec Ideal S2x16640x1024 .f32) (U : FVec Ideal S1x1024x6176 .f32) (s : Fin 2) (r : Fin 16640) (n : Fin 2048) :
    refGate h U (ix3 s r n) = ∑ k : Fin 1024, @HMul.hMul EReal EReal EReal _ (h (ix3 s r k)) (U (ix3 0 k ⟨4096 + n.val, by omega⟩)) := by
  pointwise [refGate]

theorem split_idx {n : Nat} (y : (⟨3, ![2, 16640, n]⟩ : Shape).Idx) : ∃ (s : Fin 2) (r : Fin 16640) (k : Fin n), y = ix3 s r k :=
  ⟨y 0, y 1, y 2, funext fun a => match a with | ⟨0, _⟩ => rfl | ⟨1, _⟩ => rfl | ⟨2, _⟩ => rfl⟩

section

variable (x : FVec Ideal S2x16384x1024 .f32) (mt : FVec Ideal S16x1024 .f32) (og : FVec Ideal S2x16640x1024 .bf16)
  (W : FVec Ideal S1x1024x1024 .f32) (w : FVec Ideal S1x1024 .f32) (U : FVec Ideal S1x1024x6176 .f32)

theorem refMid_at (s : Fin 2) (r : Fin 16640) (k : Fin 1024) :
    refRows (refPadded (refTokens x mt)) og W (ix3 s r k) = midRow x mt og W s r k := by
  rw [refRows_at, refHidden_at]; rfl

theorem resultH_eq : refRows (refPadded (refTokens x mt)) og W = resultH x mt og W := by
  funext y
  obtain ⟨s, r, k, rfl⟩ := split_idx y
  exact refMid_at x mt og W s r k

theorem resultZ_eq : refGate (refNorm (refRows (refPadded (refTokens x mt)) og W) w) U = resultZ x mt og W w U := by
  funext y
  obtain ⟨s, r, n, rfl⟩ := split_idx y
  rw [refGate_at]
  have h : (fun e => refRows (refPadded (refTokens x mt)) og W (ix3 s r e)) = midRow x mt og W s r := funext (refMid_at x mt og W s r)
  refine Finset.sum_congr rfl fun k _ => congrArg (fun q => @HMul.hMul EReal EReal EReal _ q (U (ix3 0 k ⟨4096 + n.val, by omega⟩))) ?_
  rw [refNorm_at, h, refMid_at]
  rfl

end

/-- The reference's run with its results at the kernel's functions of the arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = resultH (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v25) = resultZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (resultH_eq _ _ _ _), (h c).2.1.trans (resultZ_eq _ _ _ _ _ _), (h c).2.2⟩)
    (Cert.ReferenceMidIdeal.Value.run m ρ)

end Cert.Proof.DnIn
-- ==== Proof.lean ====
/- THE CLAIM: the frames of the kernel, of its idealization and of the reference; that the named constants are near the
   numbers they are named for; and that the idealized kernel and the reference end with equal results. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.KernelIn.Frame
public import proofs.«01_k».proof.Proof.Gen.KernelInIdeal.Value
public import proofs.«01_k».proof.Proof.Gen.ReferenceInIdeal.Run
public import proofs.«01_k».proof.Proof.Gen.KernelOut.Frame
public import proofs.«01_k».proof.Proof.Gen.KernelOutIdeal.Value
public import proofs.«01_k».proof.Proof.Gen.ReferenceOutIdeal.Run
public import proofs.«01_k».proof.Proof.Gen.KernelMid.Frame
public import proofs.«01_k».proof.Proof.Gen.KernelMidIdeal.Frame
public import proofs.«01_k».proof.Proof.Gen.ReferenceMidIdeal.Run
public import proofs.«01_k».proof.Proof.Equal
public import proofs.«01_k».proof.Proof.Finite
public import proofs.«01_k».proof.Proof.InRef
public import proofs.«01_k».proof.Proof.OutRef
public import proofs.«01_k».proof.Proof.MidRef

@[expose] public section

set_option maxRecDepth 16384

namespace Cert.Proof

open Idealize.ShloMosaic Idealize.ShloMosaic.StableHlo Cert.Proof.Attn

/-- The reference runs to its end, leaves its arguments and every counter at zero. -/
theorem reference_frame : Cert.quiescent_ReferenceIdeal := fun m ρ _ =>
  (θ_run Cert.ReferenceIdeal.defs _ _).mono
    (fun r h => ⟨fun c => (h c).2, sem_eq_zero_of_no_sems (by rfl) r.2⟩) (Cert.ReferenceIdeal.Value.run m ρ)

/-- The named constants are near their numbers. -/
theorem constants : Cert.preserves_Kernel_KernelIdeal := by
  refine ⟨?_, ?_, ?_, ?_, ?_, ?_, ?_, ?_, ?_, ?_, ?_, ?_, ?_, ?_, ?_, ?_, ?_, ?_⟩ <;> exact IdealRules.named_const.statement _ _ _ _ _ rfl

/-- Equal arguments give equal values of a function of six. -/
theorem congrArg6 {α₀ α₁ α₂ α₃ α₄ α₅ β : Type} (f : α₀ → α₁ → α₂ → α₃ → α₄ → α₅ → β) {x₀ y₀ : α₀} {x₁ y₁ : α₁} {x₂ y₂ : α₂}
    {x₃ y₃ : α₃} {x₄ y₄ : α₄} {x₅ y₅ : α₅} (h₀ : x₀ = y₀) (h₁ : x₁ = y₁) (h₂ : x₂ = y₂) (h₃ : x₃ = y₃) (h₄ : x₄ = y₄) (h₅ : x₅ = y₅) :
    f x₀ x₁ x₂ x₃ x₄ x₅ = f y₀ y₁ y₂ y₃ y₄ y₅ := by
  subst h₀ h₁ h₂ h₃ h₄ h₅; rfl

/-- The idealized kernel and the reference end with equal results. -/
theorem equal_results : Cert.algebraic_KernelIdeal_ReferenceIdeal_pre_weights_finite := fun m ρ m' ρ' hp ha => by
  refine ⟨fun c => finalG m c, run m ρ, ?_⟩
  refine (θ_run Cert.ReferenceIdeal.defs _ _).mono (fun r h c => ⟨(h c).1.trans ?_, (h c).2⟩) (Cert.ReferenceIdeal.Value.run m' ρ')
  obtain ⟨hq, hk, hs⟩ := finite_of_pre _ _ _ _ _ _ (hp c)
  obtain ⟨a0, a1, a2, a3, a4, a5⟩ := ha c
  refine (Cert.ReferenceIdeal.Value.val3_main_v140 (launchContents m' c)).symm.trans ?_
  rw [← a4] at hq
  rw [← a5] at hk
  rw [← a3] at hs
  refine (result_eq (launchContents m' c) hq hk hs).trans ?_
  exact congrArg6 kernelG a0 a1 a2 a3 a4 a5

/-! ## The input projection of the attention -/

/-- Its reference runs to its end, leaves its arguments and every counter at zero. -/
theorem reference_frame_in : Cert.quiescent_ReferenceInIdeal := fun m ρ _ =>
  (θ_run Cert.ReferenceInIdeal.defs _ _).mono
    (fun r h => ⟨fun c => (h c).2.2.2, sem_eq_zero_of_no_sems (by rfl) r.2⟩) (Cert.ReferenceInIdeal.Value.run m ρ)

/-- Equal arguments give equal values of a function of four. -/
theorem congrArg4 {α₀ α₁ α₂ α₃ β : Type} (f : α₀ → α₁ → α₂ → α₃ → β) {x₀ y₀ : α₀} {x₁ y₁ : α₁} {x₂ y₂ : α₂} {x₃ y₃ : α₃}
    (h₀ : x₀ = y₀) (h₁ : x₁ = y₁) (h₂ : x₂ = y₂) (h₃ : x₃ = y₃) : f x₀ x₁ x₂ x₃ = f y₀ y₁ y₂ y₃ := by
  subst h₀ h₁ h₂ h₃; rfl

/-- The kernel and the reference end with equal results. -/
theorem equal_results_in : Cert.algebraic_KernelInIdeal_ReferenceInIdeal := fun m ρ m' ρ' _ ha => by
  refine ⟨fun c => AttnIn.finalQ m c, fun c => AttnIn.finalKV m c, fun c => AttnIn.finalG m c, AttnIn.run m ρ, ?_⟩
  refine (θ_run Cert.ReferenceInIdeal.defs _ _).mono (fun r h c => ?_) (AttnIn.reference_run m' ρ')
  obtain ⟨a0, a1, a2, a3⟩ := ha c
  exact ⟨(h c).1.trans (congrArg4 AttnIn.resultQ a0 a1 a2 a3), (h c).2.1.trans (congrArg4 AttnIn.resultKV a0 a1 a2 a3),
    (h c).2.2.1.trans (congrArg4 AttnIn.resultG a0 a1 a2 a3), (h c).2.2.2⟩

/-! ## The output projection of the recurrence -/

/-- Its reference runs to its end, leaves its arguments and every counter at zero. -/
theorem reference_frame_out : Cert.quiescent_ReferenceOutIdeal := fun m ρ _ =>
  (θ_run Cert.ReferenceOutIdeal.defs _ _).mono
    (fun r h => ⟨fun c => (h c).2, sem_eq_zero_of_no_sems (by rfl) r.2⟩) (Cert.ReferenceOutIdeal.Value.run m ρ)

/-- Equal arguments give equal values of a function of five. -/
theorem congrArg5 {α₀ α₁ α₂ α₃ α₄ β : Type} (f : α₀ → α₁ → α₂ → α₃ → α₄ → β) {x₀ y₀ : α₀} {x₁ y₁ : α₁} {x₂ y₂ : α₂} {x₃ y₃ : α₃}
    {x₄ y₄ : α₄} (h₀ : x₀ = y₀) (h₁ : x₁ = y₁) (h₂ : x₂ = y₂) (h₃ : x₃ = y₃) (h₄ : x₄ = y₄) : f x₀ x₁ x₂ x₃ x₄ = f y₀ y₁ y₂ y₃ y₄ := by
  subst h₀ h₁ h₂ h₃ h₄; rfl

/-- The kernel and the reference end with equal results. -/
theorem equal_results_out : Cert.algebraic_KernelOutIdeal_ReferenceOutIdeal := fun m ρ m' ρ' _ ha => by
  refine ⟨fun c => DnOut.final m c, DnOut.run m ρ, ?_⟩
  refine (θ_run Cert.ReferenceOutIdeal.defs _ _).mono (fun r h c => ?_) (DnOut.reference_run m' ρ')
  obtain ⟨a0, a1, a2, a3, a4⟩ := ha c
  exact ⟨(h c).1.trans (congrArg5 DnOut.result a0 a1 a2 a3 a4), (h c).2⟩

/-! ## The input projection of the recurrence -/

/-- Its reference runs to its end, leaves its arguments and every counter at zero. -/
theorem reference_frame_mid : Cert.quiescent_ReferenceMidIdeal := fun m ρ _ =>
  (θ_run Cert.ReferenceMidIdeal.defs _ _).mono
    (fun r h => ⟨fun c => (h c).2.2, sem_eq_zero_of_no_sems (by rfl) r.2⟩) (Cert.ReferenceMidIdeal.Value.run m ρ)

/-- The kernel and the reference end with equal results. -/
theorem equal_results_mid : Cert.algebraic_KernelMidIdeal_ReferenceMidIdeal := fun m ρ m' ρ' _ ha => by
  refine ⟨fun c => DnIn.finalH m c, fun c => DnIn.finalZ m c, DnIn.run m ρ, ?_⟩
  refine (θ_run Cert.ReferenceMidIdeal.defs _ _).mono (fun r h c => ?_) (DnIn.reference_run m' ρ')
  obtain ⟨a0, a1, a2, a3, a4, a5, -, -, -⟩ := ha c
  exact ⟨(h c).1.trans (congrArg4 DnIn.resultH a0 a1 a2 a3), (h c).2.1.trans (congrArg6 DnIn.resultZ a0 a1 a2 a3 a4 a5), (h c).2.2⟩

theorem claim : Cert.Claim :=
  ⟨Cert.Kernel.Gen.facts, Cert.KernelIdeal.Gen.facts, Cert.ReferenceIdeal.Gen.facts, Cert.KernelIn.Gen.facts, Cert.KernelInIdeal.Gen.facts,
    Cert.ReferenceInIdeal.Gen.facts, Cert.KernelOut.Gen.facts, Cert.KernelOutIdeal.Gen.facts, Cert.ReferenceOutIdeal.Gen.facts, Cert.KernelMid.Gen.facts,
    Cert.KernelMidIdeal.Gen.facts, Cert.ReferenceMidIdeal.Gen.facts, preFacts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.KernelIn.Gen.frame m ρ, fun m ρ _ => Cert.KernelInIdeal.Gen.frame m ρ, reference_frame_in,
    fun m ρ _ => Cert.KernelOut.Gen.frame m ρ, fun m ρ _ => Cert.KernelOutIdeal.Gen.frame m ρ, reference_frame_out,
    fun m ρ _ => Cert.KernelMid.Gen.frame m ρ, fun m ρ _ => Cert.KernelMidIdeal.Gen.frame m ρ, reference_frame_mid,
    constants, equal_results, trivial, equal_results_in, trivial, equal_results_out, trivial, equal_results_mid⟩

end Cert.Proof
